-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_heads [hPre_finite_heads : Cert.Pre_finite_heads.Facts] (m : (ℓ : Loc Cert.KernelIdeal.nD Cert.KernelIdeal.τ Cert.KernelIdeal.sig) → Buf (Elt Ideal) ℓ) : Prop :=
  ∀ c : Dev Cert.KernelIdeal.nD,
    (Cert.Pre_finite_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_heads [hPre_finite_heads : Cert.Pre_finite_heads.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_heads.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Experts [hPre_blocks_of_experts : Cert.Pre_blocks_of_experts.Facts] (m : (ℓ : Loc Cert.Experts.nD Cert.Experts.τ Cert.Experts.sig) → Buf (Elt Bits) ℓ) : Prop :=
  ∀ c : Dev Cert.Experts.nD,
    (Cert.Pre_blocks_of_experts.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_blocks_of_experts : Cert.Pre_blocks_of_experts.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_blocks_of_experts.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_blocks_of_experts [hPre_blocks_of_experts : Cert.Pre_blocks_of_experts.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_blocks_of_experts.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_GateProjection (m : (ℓ : Loc Cert.GateProjection.nD Cert.GateProjection.τ Cert.GateProjection.sig) → Buf (Elt Bits) ℓ) : Prop :=
  True

def Pre_GateProjectionIdeal (m : (ℓ : Loc Cert.GateProjectionIdeal.nD Cert.GateProjectionIdeal.τ Cert.GateProjectionIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_StateProjection (m : (ℓ : Loc Cert.StateProjection.nD Cert.StateProjection.τ Cert.StateProjection.sig) → Buf (Elt Bits) ℓ) : Prop :=
  True

def Pre_StateProjectionIdeal (m : (ℓ : Loc Cert.StateProjectionIdeal.nD Cert.StateProjectionIdeal.τ Cert.StateProjectionIdeal.sig) → Buf (Elt Ideal) ℓ) : Prop :=
  True

def Pre_StateReferenceIdeal (m : (ℓ : Loc Cert.StateReferenceIdeal.nD Cert.StateReferenceIdeal.τ Cert.StateReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_heads [hKernelIdeal : Cert.KernelIdeal.Facts] [hPre_finite_heads : Cert.Pre_finite_heads.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_heads m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_heads [hReferenceIdeal : Cert.ReferenceIdeal.Facts] [hPre_finite_heads : Cert.Pre_finite_heads.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_heads m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Experts [hExperts : Cert.Experts.Facts] [hPre_blocks_of_experts : Cert.Pre_blocks_of_experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_blocks_of_experts : Cert.Pre_blocks_of_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_blocks_of_experts [hExpertsReferenceIdeal : Cert.ExpertsReferenceIdeal.Facts] [hPre_blocks_of_experts : Cert.Pre_blocks_of_experts.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_blocks_of_experts m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_GateProjection [hGateProjection : Cert.GateProjection.Facts] : Prop :=
  ∀ (m : (ℓ : Loc Cert.GateProjection.nD Cert.GateProjection.τ Cert.GateProjection.sig) → Buf (Elt Bits) ℓ) (g : Dev Cert.GateProjection.nD → PrngReg), Pre_GateProjection m →
    θ_run (Cert.GateProjection.defs (F := Bits)) (onTc (τ := Cert.GateProjection.τ) (Cert.GateProjection.main (F := Bits))) ⟨m, fun _ => 0, g⟩ (fun r => (∀ c : Dev Cert.GateProjection.nD,
      r.2.mem ((c.tc : Thread Cert.GateProjection.nD Cert.GateProjection.τ).loc Cert.GateProjection.main_arg0) = m ((c.tc : Thread Cert.GateProjection.nD Cert.GateProjection.τ).loc Cert.GateProjection.main_arg0)
      ∧ r.2.mem ((c.tc : Thread Cert.GateProjection.nD Cert.GateProjection.τ).loc Cert.GateProjection.main_arg1) = m ((c.tc : Thread Cert.GateProjection.nD Cert.GateProjection.τ).loc Cert.GateProjection.main_arg1)
      ∧ r.2.mem ((c.tc : Thread Cert.GateProjection.nD Cert.GateProjection.τ).loc Cert.GateProjection.main_arg2) = m ((c.tc : Thread Cert.GateProjection.nD Cert.GateProjection.τ).loc Cert.GateProjection.main_arg2)
      ∧ r.2.mem ((c.tc : Thread Cert.GateProjection.nD Cert.GateProjection.τ).loc Cert.GateProjection.main_arg3) = m ((c.tc : Thread Cert.GateProjection.nD Cert.GateProjection.τ).loc Cert.GateProjection.main_arg3))
      ∧ r.2.sem = fun _ => 0)

def quiescent_GateProjectionIdeal [hGateProjectionIdeal : Cert.GateProjectionIdeal.Facts] : Prop :=
  ∀ (m : (ℓ : Loc Cert.GateProjectionIdeal.nD Cert.GateProjectionIdeal.τ Cert.GateProjectionIdeal.sig) → Buf (Elt Ideal) ℓ) (g : Dev Cert.GateProjectionIdeal.nD → PrngReg), Pre_GateProjectionIdeal m →
    θ_run (Cert.GateProjectionIdeal.defs (F := Ideal)) (onTc (τ := Cert.GateProjectionIdeal.τ) (Cert.GateProjectionIdeal.main (F := Ideal))) ⟨m, fun _ => 0, g⟩ (fun r => (∀ c : Dev Cert.GateProjectionIdeal.nD,
      r.2.mem ((c.tc : Thread Cert.GateProjectionIdeal.nD Cert.GateProjectionIdeal.τ).loc Cert.GateProjectionIdeal.main_arg0) = m ((c.tc : Thread Cert.GateProjectionIdeal.nD Cert.GateProjectionIdeal.τ).loc Cert.GateProjectionIdeal.main_arg0)
      ∧ r.2.mem ((c.tc : Thread Cert.GateProjectionIdeal.nD Cert.GateProjectionIdeal.τ).loc Cert.GateProjectionIdeal.main_arg1) = m ((c.tc : Thread Cert.GateProjectionIdeal.nD Cert.GateProjectionIdeal.τ).loc Cert.GateProjectionIdeal.main_arg1)
      ∧ r.2.mem ((c.tc : Thread Cert.GateProjectionIdeal.nD Cert.GateProjectionIdeal.τ).loc Cert.GateProjectionIdeal.main_arg2) = m ((c.tc : Thread Cert.GateProjectionIdeal.nD Cert.GateProjectionIdeal.τ).loc Cert.GateProjectionIdeal.main_arg2)
      ∧ r.2.mem ((c.tc : Thread Cert.GateProjectionIdeal.nD Cert.GateProjectionIdeal.τ).loc Cert.GateProjectionIdeal.main_arg3) = m ((c.tc : Thread Cert.GateProjectionIdeal.nD Cert.GateProjectionIdeal.τ).loc Cert.GateProjectionIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_StateProjection [hStateProjection : Cert.StateProjection.Facts] : Prop :=
  ∀ (m : (ℓ : Loc Cert.StateProjection.nD Cert.StateProjection.τ Cert.StateProjection.sig) → Buf (Elt Bits) ℓ) (g : Dev Cert.StateProjection.nD → PrngReg), Pre_StateProjection m →
    θ_run (Cert.StateProjection.defs (F := Bits)) (onTc (τ := Cert.StateProjection.τ) (Cert.StateProjection.main (F := Bits))) ⟨m, fun _ => 0, g⟩ (fun r => (∀ c : Dev Cert.StateProjection.nD,
      r.2.mem ((c.tc : Thread Cert.StateProjection.nD Cert.StateProjection.τ).loc Cert.StateProjection.main_arg0) = m ((c.tc : Thread Cert.StateProjection.nD Cert.StateProjection.τ).loc Cert.StateProjection.main_arg0)
      ∧ r.2.mem ((c.tc : Thread Cert.StateProjection.nD Cert.StateProjection.τ).loc Cert.StateProjection.main_arg1) = m ((c.tc : Thread Cert.StateProjection.nD Cert.StateProjection.τ).loc Cert.StateProjection.main_arg1)
      ∧ r.2.mem ((c.tc : Thread Cert.StateProjection.nD Cert.StateProjection.τ).loc Cert.StateProjection.main_arg2) = m ((c.tc : Thread Cert.StateProjection.nD Cert.StateProjection.τ).loc Cert.StateProjection.main_arg2)
      ∧ r.2.mem ((c.tc : Thread Cert.StateProjection.nD Cert.StateProjection.τ).loc Cert.StateProjection.main_arg3) = m ((c.tc : Thread Cert.StateProjection.nD Cert.StateProjection.τ).loc Cert.StateProjection.main_arg3))
      ∧ r.2.sem = fun _ => 0)

def quiescent_StateProjectionIdeal [hStateProjectionIdeal : Cert.StateProjectionIdeal.Facts] : Prop :=
  ∀ (m : (ℓ : Loc Cert.StateProjectionIdeal.nD Cert.StateProjectionIdeal.τ Cert.StateProjectionIdeal.sig) → Buf (Elt Ideal) ℓ) (g : Dev Cert.StateProjectionIdeal.nD → PrngReg), Pre_StateProjectionIdeal m →
    θ_run (Cert.StateProjectionIdeal.defs (F := Ideal)) (onTc (τ := Cert.StateProjectionIdeal.τ) (Cert.StateProjectionIdeal.main (F := Ideal))) ⟨m, fun _ => 0, g⟩ (fun r => (∀ c : Dev Cert.StateProjectionIdeal.nD,
      r.2.mem ((c.tc : Thread Cert.StateProjectionIdeal.nD Cert.StateProjectionIdeal.τ).loc Cert.StateProjectionIdeal.main_arg0) = m ((c.tc : Thread Cert.StateProjectionIdeal.nD Cert.StateProjectionIdeal.τ).loc Cert.StateProjectionIdeal.main_arg0)
      ∧ r.2.mem ((c.tc : Thread Cert.StateProjectionIdeal.nD Cert.StateProjectionIdeal.τ).loc Cert.StateProjectionIdeal.main_arg1) = m ((c.tc : Thread Cert.StateProjectionIdeal.nD Cert.StateProjectionIdeal.τ).loc Cert.StateProjectionIdeal.main_arg1)
      ∧ r.2.mem ((c.tc : Thread Cert.StateProjectionIdeal.nD Cert.StateProjectionIdeal.τ).loc Cert.StateProjectionIdeal.main_arg2) = m ((c.tc : Thread Cert.StateProjectionIdeal.nD Cert.StateProjectionIdeal.τ).loc Cert.StateProjectionIdeal.main_arg2)
      ∧ r.2.mem ((c.tc : Thread Cert.StateProjectionIdeal.nD Cert.StateProjectionIdeal.τ).loc Cert.StateProjectionIdeal.main_arg3) = m ((c.tc : Thread Cert.StateProjectionIdeal.nD Cert.StateProjectionIdeal.τ).loc Cert.StateProjectionIdeal.main_arg3))
      ∧ r.2.sem = fun _ => 0)

def quiescent_StateReferenceIdeal [hStateReferenceIdeal : Cert.StateReferenceIdeal.Facts] : Prop :=
  ∀ (m : (ℓ : Loc Cert.StateReferenceIdeal.nD Cert.StateReferenceIdeal.τ Cert.StateReferenceIdeal.sig) → Buf (Elt Ideal) ℓ) (g : Dev Cert.StateReferenceIdeal.nD → PrngReg), Pre_StateReferenceIdeal m →
    θ_run (Cert.StateReferenceIdeal.defs (F := Ideal)) (onTc (τ := Cert.StateReferenceIdeal.τ) (Cert.StateReferenceIdeal.main (F := Ideal))) ⟨m, fun _ => 0, g⟩ (fun r => (∀ c : Dev Cert.StateReferenceIdeal.nD,
      r.2.mem ((c.tc : Thread Cert.StateReferenceIdeal.nD Cert.StateReferenceIdeal.τ).loc Cert.StateReferenceIdeal.main_arg0) = m ((c.tc : Thread Cert.StateReferenceIdeal.nD Cert.StateReferenceIdeal.τ).loc Cert.StateReferenceIdeal.main_arg0)
      ∧ r.2.mem ((c.tc : Thread Cert.StateReferenceIdeal.nD Cert.StateReferenceIdeal.τ).loc Cert.StateReferenceIdeal.main_arg1) = m ((c.tc : Thread Cert.StateReferenceIdeal.nD Cert.StateReferenceIdeal.τ).loc Cert.StateReferenceIdeal.main_arg1)
      ∧ r.2.mem ((c.tc : Thread Cert.StateReferenceIdeal.nD Cert.StateReferenceIdeal.τ).loc Cert.StateReferenceIdeal.main_arg2) = m ((c.tc : Thread Cert.StateReferenceIdeal.nD Cert.StateReferenceIdeal.τ).loc Cert.StateReferenceIdeal.main_arg2)
      ∧ r.2.mem ((c.tc : Thread Cert.StateReferenceIdeal.nD Cert.StateReferenceIdeal.τ).loc Cert.StateReferenceIdeal.main_arg3) = m ((c.tc : Thread Cert.StateReferenceIdeal.nD Cert.StateReferenceIdeal.τ).loc Cert.StateReferenceIdeal.main_arg3))
      ∧ r.2.sem = fun _ => 0)

def preserves_Kernel_KernelIdeal : Prop :=
  True

def algebraic_KernelIdeal_ReferenceIdeal_pre_finite_heads [hKernelIdeal : Cert.KernelIdeal.Facts] [hReferenceIdeal : Cert.ReferenceIdeal.Facts] [hPre_finite_heads : Cert.Pre_finite_heads.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_heads m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Experts_ExpertsIdeal : Prop :=
  IdealRules.bf16_pair.Statement Cert.ExpertsIdeal.S512x512 Cert.ExpertsIdeal.S256x512
  ∧ IdealRules.bf16_pack.Statement Cert.ExpertsIdeal.S256x512

def algebraic_ExpertsIdeal_ExpertsReferenceIdeal [hExpertsIdeal : Cert.ExpertsIdeal.Facts] [hExpertsReferenceIdeal : Cert.ExpertsReferenceIdeal.Facts] [hPre_blocks_of_experts : Cert.Pre_blocks_of_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v2) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v71) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_GateProjection_GateProjectionIdeal : Prop :=
  True

def algebraic_GateProjectionIdeal_GateReferenceIdeal [hGateProjectionIdeal : Cert.GateProjectionIdeal.Facts] [hGateReferenceIdeal : Cert.GateReferenceIdeal.Facts] : Prop :=
  ∀ (m : (ℓ : Loc Cert.GateProjectionIdeal.nD Cert.GateProjectionIdeal.τ Cert.GateProjectionIdeal.sig) → Buf (Elt Ideal) ℓ) (g : Dev Cert.GateProjectionIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateProjectionIdeal m →
    (∀ c : Dev Cert.GateProjectionIdeal.nD,
      m' ((c.tc : Thread Cert.GateReferenceIdeal.nD Cert.GateReferenceIdeal.τ).loc Cert.GateReferenceIdeal.main_arg0) = m ((c.tc : Thread Cert.GateProjectionIdeal.nD Cert.GateProjectionIdeal.τ).loc Cert.GateProjectionIdeal.main_arg0)
      ∧ m' ((c.tc : Thread Cert.GateReferenceIdeal.nD Cert.GateReferenceIdeal.τ).loc Cert.GateReferenceIdeal.main_arg1) = m ((c.tc : Thread Cert.GateProjectionIdeal.nD Cert.GateProjectionIdeal.τ).loc Cert.GateProjectionIdeal.main_arg1)
      ∧ m' ((c.tc : Thread Cert.GateReferenceIdeal.nD Cert.GateReferenceIdeal.τ).loc Cert.GateReferenceIdeal.main_arg2) = m ((c.tc : Thread Cert.GateProjectionIdeal.nD Cert.GateProjectionIdeal.τ).loc Cert.GateProjectionIdeal.main_arg2)
      ∧ m' ((c.tc : Thread Cert.GateReferenceIdeal.nD Cert.GateReferenceIdeal.τ).loc Cert.GateReferenceIdeal.main_arg3) = m ((c.tc : Thread Cert.GateProjectionIdeal.nD Cert.GateProjectionIdeal.τ).loc Cert.GateProjectionIdeal.main_arg3)) →
    ∃ (v0 : (c : Dev Cert.GateProjectionIdeal.nD) → Buf (Elt Ideal) ((c.tc : Thread Cert.GateProjectionIdeal.nD Cert.GateProjectionIdeal.τ).loc Cert.GateProjectionIdeal.main_v0)),
      θ_run (Cert.GateProjectionIdeal.defs (F := Ideal)) (onTc (τ := Cert.GateProjectionIdeal.τ) (Cert.GateProjectionIdeal.main (F := Ideal))) ⟨m, fun _ => 0, g⟩ (fun r => ∀ c : Dev Cert.GateProjectionIdeal.nD,
          r.2.mem ((c.tc : Thread Cert.GateProjectionIdeal.nD Cert.GateProjectionIdeal.τ).loc Cert.GateProjectionIdeal.main_v0) = v0 c
          ∧ r.2.mem ((c.tc : Thread Cert.GateProjectionIdeal.nD Cert.GateProjectionIdeal.τ).loc Cert.GateProjectionIdeal.main_arg0) = m ((c.tc : Thread Cert.GateProjectionIdeal.nD Cert.GateProjectionIdeal.τ).loc Cert.GateProjectionIdeal.main_arg0)
          ∧ r.2.mem ((c.tc : Thread Cert.GateProjectionIdeal.nD Cert.GateProjectionIdeal.τ).loc Cert.GateProjectionIdeal.main_arg1) = m ((c.tc : Thread Cert.GateProjectionIdeal.nD Cert.GateProjectionIdeal.τ).loc Cert.GateProjectionIdeal.main_arg1)
          ∧ r.2.mem ((c.tc : Thread Cert.GateProjectionIdeal.nD Cert.GateProjectionIdeal.τ).loc Cert.GateProjectionIdeal.main_arg2) = m ((c.tc : Thread Cert.GateProjectionIdeal.nD Cert.GateProjectionIdeal.τ).loc Cert.GateProjectionIdeal.main_arg2)
          ∧ r.2.mem ((c.tc : Thread Cert.GateProjectionIdeal.nD Cert.GateProjectionIdeal.τ).loc Cert.GateProjectionIdeal.main_arg3) = m ((c.tc : Thread Cert.GateProjectionIdeal.nD Cert.GateProjectionIdeal.τ).loc Cert.GateProjectionIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v18) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_StateProjection_StateProjectionIdeal : Prop :=
  True

def algebraic_StateProjectionIdeal_StateReferenceIdeal [hStateProjectionIdeal : Cert.StateProjectionIdeal.Facts] [hStateReferenceIdeal : Cert.StateReferenceIdeal.Facts] : Prop :=
  ∀ (m : (ℓ : Loc Cert.StateProjectionIdeal.nD Cert.StateProjectionIdeal.τ Cert.StateProjectionIdeal.sig) → Buf (Elt Ideal) ℓ) (g : Dev Cert.StateProjectionIdeal.nD → PrngReg)
    (m' : (ℓ : Loc Cert.StateReferenceIdeal.nD Cert.StateReferenceIdeal.τ Cert.StateReferenceIdeal.sig) → Buf (Elt Ideal) ℓ) (g' : Dev Cert.StateReferenceIdeal.nD → PrngReg), Pre_StateProjectionIdeal m →
    (∀ c : Dev Cert.StateProjectionIdeal.nD,
      m' ((c.tc : Thread Cert.StateReferenceIdeal.nD Cert.StateReferenceIdeal.τ).loc Cert.StateReferenceIdeal.main_arg0) = m ((c.tc : Thread Cert.StateProjectionIdeal.nD Cert.StateProjectionIdeal.τ).loc Cert.StateProjectionIdeal.main_arg0)
      ∧ m' ((c.tc : Thread Cert.StateReferenceIdeal.nD Cert.StateReferenceIdeal.τ).loc Cert.StateReferenceIdeal.main_arg1) = m ((c.tc : Thread Cert.StateProjectionIdeal.nD Cert.StateProjectionIdeal.τ).loc Cert.StateProjectionIdeal.main_arg1)
      ∧ m' ((c.tc : Thread Cert.StateReferenceIdeal.nD Cert.StateReferenceIdeal.τ).loc Cert.StateReferenceIdeal.main_arg2) = m ((c.tc : Thread Cert.StateProjectionIdeal.nD Cert.StateProjectionIdeal.τ).loc Cert.StateProjectionIdeal.main_arg2)
      ∧ m' ((c.tc : Thread Cert.StateReferenceIdeal.nD Cert.StateReferenceIdeal.τ).loc Cert.StateReferenceIdeal.main_arg3) = m ((c.tc : Thread Cert.StateProjectionIdeal.nD Cert.StateProjectionIdeal.τ).loc Cert.StateProjectionIdeal.main_arg3)) →
    ∃ (v0 : (c : Dev Cert.StateProjectionIdeal.nD) → Buf (Elt Ideal) ((c.tc : Thread Cert.StateProjectionIdeal.nD Cert.StateProjectionIdeal.τ).loc Cert.StateProjectionIdeal.main_v0)),
      θ_run (Cert.StateProjectionIdeal.defs (F := Ideal)) (onTc (τ := Cert.StateProjectionIdeal.τ) (Cert.StateProjectionIdeal.main (F := Ideal))) ⟨m, fun _ => 0, g⟩ (fun r => ∀ c : Dev Cert.StateProjectionIdeal.nD,
          r.2.mem ((c.tc : Thread Cert.StateProjectionIdeal.nD Cert.StateProjectionIdeal.τ).loc Cert.StateProjectionIdeal.main_v0) = v0 c
          ∧ r.2.mem ((c.tc : Thread Cert.StateProjectionIdeal.nD Cert.StateProjectionIdeal.τ).loc Cert.StateProjectionIdeal.main_arg0) = m ((c.tc : Thread Cert.StateProjectionIdeal.nD Cert.StateProjectionIdeal.τ).loc Cert.StateProjectionIdeal.main_arg0)
          ∧ r.2.mem ((c.tc : Thread Cert.StateProjectionIdeal.nD Cert.StateProjectionIdeal.τ).loc Cert.StateProjectionIdeal.main_arg1) = m ((c.tc : Thread Cert.StateProjectionIdeal.nD Cert.StateProjectionIdeal.τ).loc Cert.StateProjectionIdeal.main_arg1)
          ∧ r.2.mem ((c.tc : Thread Cert.StateProjectionIdeal.nD Cert.StateProjectionIdeal.τ).loc Cert.StateProjectionIdeal.main_arg2) = m ((c.tc : Thread Cert.StateProjectionIdeal.nD Cert.StateProjectionIdeal.τ).loc Cert.StateProjectionIdeal.main_arg2)
          ∧ r.2.mem ((c.tc : Thread Cert.StateProjectionIdeal.nD Cert.StateProjectionIdeal.τ).loc Cert.StateProjectionIdeal.main_arg3) = m ((c.tc : Thread Cert.StateProjectionIdeal.nD Cert.StateProjectionIdeal.τ).loc Cert.StateProjectionIdeal.main_arg3))
      ∧ θ_run (Cert.StateReferenceIdeal.defs (F := Ideal)) (onTc (τ := Cert.StateReferenceIdeal.τ) (Cert.StateReferenceIdeal.main (F := Ideal))) ⟨m', fun _ => 0, g'⟩ (fun r => ∀ c : Dev Cert.StateReferenceIdeal.nD,
          r.2.mem ((c.tc : Thread Cert.StateReferenceIdeal.nD Cert.StateReferenceIdeal.τ).loc Cert.StateReferenceIdeal.main_v18) = v0 c
          ∧ r.2.mem ((c.tc : Thread Cert.StateReferenceIdeal.nD Cert.StateReferenceIdeal.τ).loc Cert.StateReferenceIdeal.main_arg0) = m' ((c.tc : Thread Cert.StateReferenceIdeal.nD Cert.StateReferenceIdeal.τ).loc Cert.StateReferenceIdeal.main_arg0)
          ∧ r.2.mem ((c.tc : Thread Cert.StateReferenceIdeal.nD Cert.StateReferenceIdeal.τ).loc Cert.StateReferenceIdeal.main_arg1) = m' ((c.tc : Thread Cert.StateReferenceIdeal.nD Cert.StateReferenceIdeal.τ).loc Cert.StateReferenceIdeal.main_arg1)
          ∧ r.2.mem ((c.tc : Thread Cert.StateReferenceIdeal.nD Cert.StateReferenceIdeal.τ).loc Cert.StateReferenceIdeal.main_arg2) = m' ((c.tc : Thread Cert.StateReferenceIdeal.nD Cert.StateReferenceIdeal.τ).loc Cert.StateReferenceIdeal.main_arg2)
          ∧ r.2.mem ((c.tc : Thread Cert.StateReferenceIdeal.nD Cert.StateReferenceIdeal.τ).loc Cert.StateReferenceIdeal.main_arg3) = m' ((c.tc : Thread Cert.StateReferenceIdeal.nD Cert.StateReferenceIdeal.τ).loc Cert.StateReferenceIdeal.main_arg3))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hGateProjection : Cert.GateProjection.Facts) (hGateProjectionIdeal : Cert.GateProjectionIdeal.Facts) (hGateReferenceIdeal : Cert.GateReferenceIdeal.Facts) (hStateProjection : Cert.StateProjection.Facts) (hStateProjectionIdeal : Cert.StateProjectionIdeal.Facts) (hStateReferenceIdeal : Cert.StateReferenceIdeal.Facts) (hPre_finite_heads : Cert.Pre_finite_heads.Facts) (hPre_blocks_of_experts : Cert.Pre_blocks_of_experts.Facts),
    quiescent_Kernel (hKernel := hKernel)
    ∧ quiescent_KernelIdeal (hKernelIdeal := hKernelIdeal)
    ∧ quiescent_KernelIdeal_pre_finite_heads (hKernelIdeal := hKernelIdeal) (hPre_finite_heads := hPre_finite_heads)
    ∧ quiescent_ReferenceIdeal (hReferenceIdeal := hReferenceIdeal)
    ∧ quiescent_ReferenceIdeal_pre_finite_heads (hReferenceIdeal := hReferenceIdeal) (hPre_finite_heads := hPre_finite_heads)
    ∧ quiescent_Experts (hExperts := hExperts) (hPre_blocks_of_experts := hPre_blocks_of_experts)
    ∧ quiescent_ExpertsIdeal (hExpertsIdeal := hExpertsIdeal) (hPre_blocks_of_experts := hPre_blocks_of_experts)
    ∧ quiescent_ExpertsReferenceIdeal (hExpertsReferenceIdeal := hExpertsReferenceIdeal)
    ∧ quiescent_ExpertsReferenceIdeal_pre_blocks_of_experts (hExpertsReferenceIdeal := hExpertsReferenceIdeal) (hPre_blocks_of_experts := hPre_blocks_of_experts)
    ∧ quiescent_GateProjection (hGateProjection := hGateProjection)
    ∧ quiescent_GateProjectionIdeal (hGateProjectionIdeal := hGateProjectionIdeal)
    ∧ quiescent_GateReferenceIdeal (hGateReferenceIdeal := hGateReferenceIdeal)
    ∧ quiescent_StateProjection (hStateProjection := hStateProjection)
    ∧ quiescent_StateProjectionIdeal (hStateProjectionIdeal := hStateProjectionIdeal)
    ∧ quiescent_StateReferenceIdeal (hStateReferenceIdeal := hStateReferenceIdeal)
    ∧ preserves_Kernel_KernelIdeal
    ∧ algebraic_KernelIdeal_ReferenceIdeal_pre_finite_heads (hKernelIdeal := hKernelIdeal) (hReferenceIdeal := hReferenceIdeal) (hPre_finite_heads := hPre_finite_heads)
    ∧ preserves_Experts_ExpertsIdeal
    ∧ algebraic_ExpertsIdeal_ExpertsReferenceIdeal (hExpertsIdeal := hExpertsIdeal) (hExpertsReferenceIdeal := hExpertsReferenceIdeal) (hPre_blocks_of_experts := hPre_blocks_of_experts)
    ∧ preserves_GateProjection_GateProjectionIdeal
    ∧ algebraic_GateProjectionIdeal_GateReferenceIdeal (hGateProjectionIdeal := hGateProjectionIdeal) (hGateReferenceIdeal := hGateReferenceIdeal)
    ∧ preserves_StateProjection_StateProjectionIdeal
    ∧ algebraic_StateProjectionIdeal_StateReferenceIdeal (hStateProjectionIdeal := hStateProjectionIdeal) (hStateReferenceIdeal := hStateReferenceIdeal)
-- ==== Pre_blocks_of_experts.lean ====
abbrev S288 : Shape := ⟨1, ![288]⟩
abbrev S1 : Shape := ⟨1, ![1]⟩
abbrev S147456x512 : Shape := ⟨2, ![147456, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel

variable [Facts]

def fn {F : FTy → Type} [FloatOps F] (main_arg0 : IVec S288 32) (main_arg1 : IVec S1 32) (main_arg2 : FVec F S147456x512 .bf16) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  main_v5
-- ==== Pre_finite_heads.lean ====
abbrev S2x16384x1024 : Shape := ⟨3, ![2, 16384, 1024]⟩
abbrev S16384x1024 : Shape := ⟨2, ![16384, 1024]⟩
abbrev S2x2x4x256x256 : Shape := ⟨5, ![2, 2, 4, 256, 256]⟩
abbrev S2x2x4x4x64x4x64 : Shape := ⟨7, ![2, 2, 4, 4, 64, 4, 64]⟩
abbrev S_ : Shape := ⟨0, ![]⟩

class Facts : Prop where
  shapeCasts_S2x2x4x256x256_S2x2x4x4x64x4x64 : S2x2x4x256x256.ShapeCasts S2x2x4x4x64x4x64
  bcast_S_S2x2x4x4x64x4x64 : S_.BroadcastsInDim S2x2x4x4x64x4x64 (![] : Fin 0 → Fin S2x2x4x4x64x4x64.rank)
  reducesTo_S2x2x4x4x64x4x64_S_d0_1_2_3_4_5_6 : S2x2x4x4x64x4x64.ReducesTo [0, 1, 2, 3, 4, 5, 6] S_
  h_S_ : 0 < S_.numel
  bcast_S_S2x16384x1024 : S_.BroadcastsInDim S2x16384x1024 (![] : Fin 0 → Fin S2x16384x1024.rank)
  reducesTo_S2x16384x1024_S_d0_1_2 : S2x16384x1024.ReducesTo [0, 1, 2] S_
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  bcast_S_S2x2x4x256x256 : S_.BroadcastsInDim S2x2x4x256x256 (![] : Fin 0 → Fin S2x2x4x256x256.rank)
  reducesTo_S2x2x4x256x256_S_d0_1_2_3_4 : S2x2x4x256x256.ReducesTo [0, 1, 2, 3, 4] S_

variable [Facts]

def fn_part3 {F : FTy → Type} [FloatOps F] (main_arg6 : FVec F S2x2x4x256x256 .f32) (main_v7 : IVec S_ 1) (main_v45 : IVec S_ 1) (main_v51 : IVec S16384x1024 1) (main_c_17 : IVec S_ 1) : IVec S_ 1 :=
  let main_v52 : IVec S_ 1 := (fun x v => Host.reduce IntOp.andi x v reducesTo_S16384x1024_S_d0_1 h_S_) main_v51 main_c_17
  let main_v53 : IVec S_ 1 := andi main_v45 main_v52
  let main_cst_18 : FVec F S_ .f32 := constant S_ .f32 0xFF800000#32
  let main_v54 : FVec F S2x2x4x256x256 .f32 := broadcastInDim S2x2x4x256x256 ![] bcast_S_S2x2x4x256x256 main_cst_18
  let main_v55 : IVec S2x2x4x256x256 1 := cmpf .ogt main_arg6 main_v54
  let main_cst_19 : FVec F S_ .f32 := constant S_ .f32 0x7F800000#32
  let main_v56 : FVec F S2x2x4x256x256 .f32 := broadcastInDim S2x2x4x256x256 ![] bcast_S_S2x2x4x256x256 main_cst_19
  let main_v57 : IVec S2x2x4x256x256 1 := cmpf .olt main_arg6 main_v56
  let main_v58 : IVec S2x2x4x256x256 1 := andi main_v55 main_v57
  let main_c_20 : IVec S_ 1 := constantI S_ 1 1#1
  let main_v59 : IVec S_ 1 := (fun x v => Host.reduce IntOp.andi x v reducesTo_S2x2x4x256x256_S_d0_1_2_3_4 h_S_) main_v58 main_c_20
  let main_v60 : IVec S_ 1 := andi main_v53 main_v59
  let main_v61 : IVec S_ 1 := andi main_v60 main_v7
  main_v61

def fn_part2 {F : FTy → Type} [FloatOps F] (main_arg4 : FVec F S16384x1024 .bf16) (main_arg5 : FVec F S16384x1024 .bf16) (main_arg6 : FVec F S2x2x4x256x256 .f32) (main_v7 : IVec S_ 1) (main_v29 : IVec S_ 1) (main_v32 : IVec S16384x1024 1) (main_v34 : IVec S16384x1024 1) : IVec S_ 1 :=
  let main_v35 : IVec S16384x1024 1 := andi main_v32 main_v34
  let main_c_11 : IVec S_ 1 := constantI S_ 1 1#1
  let main_v36 : IVec S_ 1 := (fun x v => Host.reduce IntOp.andi x v reducesTo_S16384x1024_S_d0_1 h_S_) main_v35 main_c_11
  let main_v37 : IVec S_ 1 := andi main_v29 main_v36
  let main_v38 : FVec F S16384x1024 .f32 := (extf .f32 · bitsLt_bf16_f32) main_arg4
  let main_cst_12 : FVec F S_ .f32 := constant S_ .f32 0xFF800000#32
  let main_v39 : FVec F S16384x1024 .f32 := broadcastInDim S16384x1024 ![] bcast_S_S16384x1024 main_cst_12
  let main_v40 : IVec S16384x1024 1 := cmpf .ogt main_v38 main_v39
  let main_cst_13 : FVec F S_ .f32 := constant S_ .f32 0x7F800000#32
  let main_v41 : FVec F S16384x1024 .f32 := broadcastInDim S16384x1024 ![] bcast_S_S16384x1024 main_cst_13
  let main_v42 : IVec S16384x1024 1 := cmpf .olt main_v38 main_v41
  let main_v43 : IVec S16384x1024 1 := andi main_v40 main_v42
  let main_c_14 : IVec S_ 1 := constantI S_ 1 1#1
  let main_v44 : IVec S_ 1 := (fun x v => Host.reduce IntOp.andi x v reducesTo_S16384x1024_S_d0_1 h_S_) main_v43 main_c_14
  let main_v45 : IVec S_ 1 := andi main_v37 main_v44
  let main_v46 : FVec F S16384x1024 .f32 := (extf .f32 · bitsLt_bf16_f32) main_arg5
  let main_cst_15 : FVec F S_ .f32 := constant S_ .f32 0xFF800000#32
  let main_v47 : FVec F S16384x1024 .f32 := broadcastInDim S16384x1024 ![] bcast_S_S16384x1024 main_cst_15
  let main_v48 : IVec S16384x1024 1 := cmpf .ogt main_v46 main_v47
  let main_cst_16 : FVec F S_ .f32 := constant S_ .f32 0x7F800000#32
  let main_v49 : FVec F S16384x1024 .f32 := broadcastInDim S16384x1024 ![] bcast_S_S16384x1024 main_cst_16
  let main_v50 : IVec S16384x1024 1 := cmpf .olt main_v46 main_v49
  let main_v51 : IVec S16384x1024 1 := andi main_v48 main_v50
  let main_c_17 : IVec S_ 1 := constantI S_ 1 1#1
  fn_part3 (F := F) main_arg6 main_v7 main_v45 main_v51 main_c_17

def fn_part1 {F : FTy → Type} [FloatOps F] (main_arg2 : FVec F S2x16384x1024 .bf16) (main_arg3 : FVec F S16384x1024 .bf16) (main_arg4 : FVec F S16384x1024 .bf16) (main_arg5 : FVec F S16384x1024 .bf16) (main_arg6 : FVec F S2x2x4x256x256 .f32) (main_v7 : IVec S_ 1) (main_v13 : IVec S_ 1) (main_v14 : FVec F S2x16384x1024 .f32) (main_v16 : IVec S2x16384x1024 1) (main_cst_4 : FVec F S_ .f32) : IVec S_ 1 :=
  let main_v17 : FVec F S2x16384x1024 .f32 := broadcastInDim S2x16384x1024 ![] bcast_S_S2x16384x1024 main_cst_4
  let main_v18 : IVec S2x16384x1024 1 := cmpf .olt main_v14 main_v17
  let main_v19 : IVec S2x16384x1024 1 := andi main_v16 main_v18
  let main_c_5 : IVec S_ 1 := constantI S_ 1 1#1
  let main_v20 : IVec S_ 1 := (fun x v => Host.reduce IntOp.andi x v reducesTo_S2x16384x1024_S_d0_1_2 h_S_) main_v19 main_c_5
  let main_v21 : IVec S_ 1 := andi main_v13 main_v20
  let main_v22 : FVec F S2x16384x1024 .f32 := (extf .f32 · bitsLt_bf16_f32) main_arg2
  let main_cst_6 : FVec F S_ .f32 := constant S_ .f32 0xFF800000#32
  let main_v23 : FVec F S2x16384x1024 .f32 := broadcastInDim S2x16384x1024 ![] bcast_S_S2x16384x1024 main_cst_6
  let main_v24 : IVec S2x16384x1024 1 := cmpf .ogt main_v22 main_v23
  let main_cst_7 : FVec F S_ .f32 := constant S_ .f32 0x7F800000#32
  let main_v25 : FVec F S2x16384x1024 .f32 := broadcastInDim S2x16384x1024 ![] bcast_S_S2x16384x1024 main_cst_7
  let main_v26 : IVec S2x16384x1024 1 := cmpf .olt main_v22 main_v25
  let main_v27 : IVec S2x16384x1024 1 := andi main_v24 main_v26
  let main_c_8 : IVec S_ 1 := constantI S_ 1 1#1
  let main_v28 : IVec S_ 1 := (fun x v => Host.reduce IntOp.andi x v reducesTo_S2x16384x1024_S_d0_1_2 h_S_) main_v27 main_c_8
  let main_v29 : IVec S_ 1 := andi main_v21 main_v28
  let main_v30 : FVec F S16384x1024 .f32 := (extf .f32 · bitsLt_bf16_f32) main_arg3
  let main_cst_9 : FVec F S_ .f32 := constant S_ .f32 0xFF800000#32
  let main_v31 : FVec F S16384x1024 .f32 := broadcastInDim S16384x1024 ![] bcast_S_S16384x1024 main_cst_9
  let main_v32 : IVec S16384x1024 1 := cmpf .ogt main_v30 main_v31
  let main_cst_10 : FVec F S_ .f32 := constant S_ .f32 0x7F800000#32
  let main_v33 : FVec F S16384x1024 .f32 := broadcastInDim S16384x1024 ![] bcast_S_S16384x1024 main_cst_10
  let main_v34 : IVec S16384x1024 1 := cmpf .olt main_v30 main_v33
  fn_part2 (F := F) main_arg4 main_arg5 main_arg6 main_v7 main_v29 main_v32 main_v34

def fn {F : FTy → Type} [FloatOps F] (main_arg0 : FVec F S2x16384x1024 .f32) (main_arg1 : FVec F S2x16384x1024 .bf16) (main_arg2 : FVec F S2x16384x1024 .bf16) (main_arg3 : FVec F S16384x1024 .bf16) (main_arg4 : FVec F S16384x1024 .bf16) (main_arg5 : FVec F S16384x1024 .bf16) (main_arg6 : FVec F S2x2x4x256x256 .f32) : IVec S_ 1 :=
  let main_v0 : FVec F S2x2x4x4x64x4x64 .f32 := shapeCast S2x2x4x4x64x4x64 main_arg6 shapeCasts_S2x2x4x256x256_S2x2x4x4x64x4x64
  let main_v1 : IVec S2x2x4x4x64x4x64 32 := iotaInDim S2x2x4x4x64x4x64 32 3
  let main_v2 : IVec S2x2x4x4x64x4x64 32 := iotaInDim S2x2x4x4x64x4x64 32 5
  let main_v3 : IVec S2x2x4x4x64x4x64 1 := cmpi .eq main_v1 main_v2
  let main_cst : FVec F S_ .f32 := constant S_ .f32 0x00000000#32
  let main_v4 : FVec F S2x2x4x4x64x4x64 .f32 := broadcastInDim S2x2x4x4x64x4x64 ![] bcast_S_S2x2x4x4x64x4x64 main_cst
  let main_v5 : IVec S2x2x4x4x64x4x64 1 := cmpf .oeq main_v0 main_v4
  let main_v6 : IVec S2x2x4x4x64x4x64 1 := ori main_v3 main_v5
  let main_c : IVec S_ 1 := constantI S_ 1 1#1
  let main_v7 : IVec S_ 1 := (fun x v => Host.reduce IntOp.andi x v reducesTo_S2x2x4x4x64x4x64_S_d0_1_2_3_4_5_6 h_S_) main_v6 main_c
  let main_cst_0 : FVec F S_ .f32 := constant S_ .f32 0xFF800000#32
  let main_v8 : FVec F S2x16384x1024 .f32 := broadcastInDim S2x16384x1024 ![] bcast_S_S2x16384x1024 main_cst_0
  let main_v9 : IVec S2x16384x1024 1 := cmpf .ogt main_arg0 main_v8
  let main_cst_1 : FVec F S_ .f32 := constant S_ .f32 0x7F800000#32
  let main_v10 : FVec F S2x16384x1024 .f32 := broadcastInDim S2x16384x1024 ![] bcast_S_S2x16384x1024 main_cst_1
  let main_v11 : IVec S2x16384x1024 1 := cmpf .olt main_arg0 main_v10
  let main_v12 : IVec S2x16384x1024 1 := andi main_v9 main_v11
  let main_c_2 : IVec S_ 1 := constantI S_ 1 1#1
  let main_v13 : IVec S_ 1 := (fun x v => Host.reduce IntOp.andi x v reducesTo_S2x16384x1024_S_d0_1_2 h_S_) main_v12 main_c_2
  let main_v14 : FVec F S2x16384x1024 .f32 := (extf .f32 · bitsLt_bf16_f32) main_arg1
  let main_cst_3 : FVec F S_ .f32 := constant S_ .f32 0xFF800000#32
  let main_v15 : FVec F S2x16384x1024 .f32 := broadcastInDim S2x16384x1024 ![] bcast_S_S2x16384x1024 main_cst_3
  let main_v16 : IVec S2x16384x1024 1 := cmpf .ogt main_v14 main_v15
  let main_cst_4 : FVec F S_ .f32 := constant S_ .f32 0x7F800000#32
  fn_part1 (F := F) main_arg2 main_arg3 main_arg4 main_arg5 main_arg6 main_v7 main_v13 main_v14 main_v16 main_cst_4
-- ==== Kernel.lean ====
abbrev S2x16384x1024 : Shape := ⟨3, ![2, 16384, 1024]⟩
abbrev S16384x1024 : Shape := ⟨2, ![16384, 1024]⟩
abbrev S2x2x4x256x256 : Shape := ⟨5, ![2, 2, 4, 256, 256]⟩
abbrev S1x64x1024 : Shape := ⟨3, ![1, 64, 1024]⟩
abbrev S64x1024 : Shape := ⟨2, ![64, 1024]⟩
abbrev S1x1x4x256x256 : Shape := ⟨5, ![1, 1, 4, 256, 256]⟩
abbrev S4x256x256 : Shape := ⟨3, ![4, 256, 256]⟩
abbrev S64x256 : Shape := ⟨2, ![64, 256]⟩
abbrev S1x64x256 : Shape := ⟨3, ![1, 64, 256]⟩
abbrev S1x256x256 : Shape := ⟨3, ![1, 256, 256]⟩
abbrev S256x256 : Shape := ⟨2, ![256, 256]⟩
abbrev S64x64 : Shape := ⟨2, ![64, 64]⟩
abbrev S256 : Shape := ⟨1, ![256]⟩
abbrev S1x256 : Shape := ⟨2, ![1, 256]⟩
abbrev S128x256 : Shape := ⟨2, ![128, 256]⟩

abbrev nBuf : Space → Nat
  | .hbm => 9
  | .vmem => 19
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S2x16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S2x2x4x256x256, .f32⟩
  | .hbm, ⟨7, _⟩ => ⟨S2x16384x1024, .bf16⟩
  | .hbm, ⟨8, _⟩ => ⟨S2x2x4x256x256, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .bf16⟩
  | .local _ .vmem, ⟨3, _⟩ => ⟨S1x64x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S64x1024, .bf16⟩
  | .local _ .vmem, ⟨7, _⟩ => ⟨S64x1024, .bf16⟩
  | .local _ .vmem, ⟨8, _⟩ => ⟨S64x1024, .bf16⟩
  | .local _ .vmem, ⟨9, _⟩ => ⟨S64x1024, .bf16⟩
  | .local _ .vmem, ⟨10, _⟩ => ⟨S64x1024, .bf16⟩
  | .local _ .vmem, ⟨11, _⟩ => ⟨S64x1024, .bf16⟩
  | .local _ .vmem, ⟨12, _⟩ => ⟨S1x1x4x256x256, .f32⟩
  | .local _ .vmem, ⟨13, _⟩ => ⟨S1x1x4x256x256, .f32⟩
  | .local _ .vmem, ⟨14, _⟩ => ⟨S1x64x1024, .bf16⟩
  | .local _ .vmem, ⟨15, _⟩ => ⟨S1x64x1024, .bf16⟩
  | .local _ .vmem, ⟨16, _⟩ => ⟨S1x1x4x256x256, .f32⟩
  | .local _ .vmem, ⟨17, _⟩ => ⟨S1x1x4x256x256, .f32⟩
  | .local _ .vmem, ⟨18, _⟩ => ⟨S4x256x256, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 128], ![false, false, false]⟩

def k0_cond2 (i : grid0.Coords) : BitVec 1 :=
  let arg2 : BitVec 32 := BitVec.ofNat 32 (i 2).val
  let c127_i32 : BitVec 32 := 127#32
  let v1241 : BitVec 1 := Scalar.cmpi .eq arg2 c127_i32
  let v1242 : BitVec 32 := Scalar.extui v1241
  let c0_i32_392 : BitVec 32 := 0#32
  let v1243 : BitVec 1 := Scalar.cmpi .ne v1242 c0_i32_392
  v1243

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let c0_i32 : BitVec 32 := 0#32
  let v1 : BitVec 1 := Scalar.cmpi .eq arg0 c0_i32
  let c127_i32 : BitVec 32 := 127#32
  let v2 : BitVec 32 := Scalar.subi c127_i32 arg2
  let v3 : BitVec 32 := Scalar.select v1 arg2 v2
  let v4 : BitVec 32 := Scalar.addi v0 v3
  let c0_i32_0 : BitVec 32 := 0#32
  let c0_i32_1 : BitVec 32 := 0#32
  ![arg0.toNat, v4.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let c0_i32 : BitVec 32 := 0#32
  let v1 : BitVec 1 := Scalar.cmpi .eq arg0 c0_i32
  let c127_i32 : BitVec 32 := 127#32
  let v2 : BitVec 32 := Scalar.subi c127_i32 arg2
  let v3 : BitVec 32 := Scalar.select v1 arg2 v2
  let v4 : BitVec 32 := Scalar.addi v0 v3
  let c0_i32_0 : BitVec 32 := 0#32
  let c0_i32_1 : BitVec 32 := 0#32
  ![arg0.toNat, v4.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let c0_i32 : BitVec 32 := 0#32
  let v1 : BitVec 1 := Scalar.cmpi .eq arg0 c0_i32
  let c127_i32 : BitVec 32 := 127#32
  let v2 : BitVec 32 := Scalar.subi c127_i32 arg2
  let v3 : BitVec 32 := Scalar.select v1 arg2 v2
  let v4 : BitVec 32 := Scalar.addi v0 v3
  let c0_i32_0 : BitVec 32 := 0#32
  let c0_i32_1 : BitVec 32 := 0#32
  ![arg0.toNat, v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let c0_i32 : BitVec 32 := 0#32
  let v1 : BitVec 1 := Scalar.cmpi .eq arg0 c0_i32
  let c127_i32 : BitVec 32 := 127#32
  let v2 : BitVec 32 := Scalar.subi c127_i32 arg2
  let v3 : BitVec 32 := Scalar.select v1 arg2 v2
  let v4 : BitVec 32 := Scalar.addi v0 v3
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let c0_i32 : BitVec 32 := 0#32
  let v1 : BitVec 1 := Scalar.cmpi .eq arg0 c0_i32
  let c127_i32 : BitVec 32 := 127#32
  let v2 : BitVec 32 := Scalar.subi c127_i32 arg2
  let v3 : BitVec 32 := Scalar.select v1 arg2 v2
  let v4 : BitVec 32 := Scalar.addi v0 v3
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let c0_i32 : BitVec 32 := 0#32
  let v1 : BitVec 1 := Scalar.cmpi .eq arg0 c0_i32
  let c127_i32 : BitVec 32 := 127#32
  let v2 : BitVec 32 := Scalar.subi c127_i32 arg2
  let v3 : BitVec 32 := Scalar.select v1 arg2 v2
  let v4 : BitVec 32 := Scalar.addi v0 v3
  let c0_i32_0 : BitVec 32 := 0#32
  let c0_i32_1 : BitVec 32 := 0#32
  ![v4.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let c0_i32 : BitVec 32 := 0#32
  let v1 : BitVec 1 := Scalar.cmpi .eq arg0 c0_i32
  let c127_i32 : BitVec 32 := 127#32
  let v2 : BitVec 32 := Scalar.subi c127_i32 arg2
  let v3 : BitVec 32 := Scalar.select v1 arg2 v2
  let v4 : BitVec 32 := Scalar.addi v0 v3
  let c0_i32_0 : BitVec 32 := 0#32
  let c0_i32_1 : BitVec 32 := 0#32
  ![arg0.toNat, v4.toNat, c0_i32_0.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x4x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x4x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S2x16384x1024 : Shape := ⟨3, ![2, 16384, 1024]⟩
abbrev S16384x1024 : Shape := ⟨2, ![16384, 1024]⟩
abbrev S2x2x4x256x256 : Shape := ⟨5, ![2, 2, 4, 256, 256]⟩
abbrev S2x2x4x4x64x4x64 : Shape := ⟨7, ![2, 2, 4, 4, 64, 4, 64]⟩
abbrev S_ : Shape := ⟨0, ![]⟩
abbrev S2x2x4x4x64x64 : Shape := ⟨6, ![2, 2, 4, 4, 64, 64]⟩
abbrev S2x2x16x64x64 : Shape := ⟨5, ![2, 2, 16, 64, 64]⟩
abbrev S2x2x8192x16x64 : Shape := ⟨5, ![2, 2, 8192, 16, 64]⟩
abbrev S1x2x8192x16x64 : Shape := ⟨5, ![1, 2, 8192, 16, 64]⟩
abbrev S2x8192x16x64 : Shape := ⟨4, ![2, 8192, 16, 64]⟩
abbrev S8192x2x2x16x64 : Shape := ⟨5, ![8192, 2, 2, 16, 64]⟩
abbrev S1x16384x1024 : Shape := ⟨3, ![1, 16384, 1024]⟩
abbrev S1x2x2x16x64 : Shape := ⟨5, ![1, 2, 2, 16, 64]⟩
abbrev S2x2x16x64 : Shape := ⟨4, ![2, 2, 16, 64]⟩
abbrev S2x2x16x1x64 : Shape := ⟨5, ![2, 2, 16, 1, 64]⟩
abbrev S2x2x16x64x1 : Shape := ⟨5, ![2, 2, 16, 64, 1]⟩

abbrev nBuf : Space → Nat
  | .hbm => 187
  | .vmem => 0
  | .smem => 0
  | _ => 0

abbrev hbmTy0_0 (i : Nat) : BufTy := match i % 128 with
  | 0 => ⟨S2x16384x1024, .f32⟩
  | 1 => ⟨S2x16384x1024, .bf16⟩
  | 2 => ⟨S2x16384x1024, .bf16⟩
  | 3 => ⟨S16384x1024, .bf16⟩
  | 4 => ⟨S16384x1024, .bf16⟩
  | 5 => ⟨S16384x1024, .bf16⟩
  | 6 => ⟨S2x2x4x256x256, .f32⟩
  | 7 => ⟨S2x2x4x4x64x4x64, .f32⟩
  | 8 => ⟨S2x2x4x4x64x4x64, .i32⟩
  | 9 => ⟨S2x2x4x4x64x4x64, .i32⟩
  | 10 => ⟨S2x2x4x4x64x4x64, .i1⟩
  | 11 => ⟨S_, .f32⟩
  | 12 => ⟨S_, .f32⟩
  | 13 => ⟨S2x2x4x4x64x4x64, .f32⟩
  | 14 => ⟨S2x2x4x4x64x4x64, .f32⟩
  | 15 => ⟨S_, .f32⟩
  | 16 => ⟨S2x2x4x4x64x64, .f32⟩
  | 17 => ⟨S2x2x16x64x64, .f32⟩
  | 18 => ⟨S2x2x8192x16x64, .f32⟩
  | 19 => ⟨S1x2x8192x16x64, .f32⟩
  | 20 => ⟨S2x8192x16x64, .f32⟩
  | 21 => ⟨S1x2x8192x16x64, .f32⟩
  | 22 => ⟨S2x8192x16x64, .f32⟩
  | 23 => ⟨S2x8192x16x64, .f32⟩
  | 24 => ⟨S1x2x8192x16x64, .f32⟩
  | 25 => ⟨S1x2x8192x16x64, .f32⟩
  | 26 => ⟨S2x2x8192x16x64, .f32⟩
  | 27 => ⟨S8192x2x2x16x64, .f32⟩
  | 28 => ⟨S8192x2x2x16x64, .f32⟩
  | 29 => ⟨S2x16384x1024, .f32⟩
  | 30 => ⟨S2x2x8192x16x64, .f32⟩
  | 31 => ⟨S1x2x8192x16x64, .f32⟩
  | 32 => ⟨S2x8192x16x64, .f32⟩
  | 33 => ⟨S1x2x8192x16x64, .f32⟩
  | 34 => ⟨S2x8192x16x64, .f32⟩
  | 35 => ⟨S2x8192x16x64, .f32⟩
  | 36 => ⟨S1x2x8192x16x64, .f32⟩
  | 37 => ⟨S1x2x8192x16x64, .f32⟩
  | 38 => ⟨S2x2x8192x16x64, .f32⟩
  | 39 => ⟨S8192x2x2x16x64, .f32⟩
  | 40 => ⟨S1x16384x1024, .bf16⟩
  | 41 => ⟨S1x16384x1024, .bf16⟩
  | 42 => ⟨S2x16384x1024, .bf16⟩
  | 43 => ⟨S2x16384x1024, .f32⟩
  | 44 => ⟨S2x2x8192x16x64, .f32⟩
  | 45 => ⟨S1x2x8192x16x64, .f32⟩
  | 46 => ⟨S2x8192x16x64, .f32⟩
  | 47 => ⟨S1x2x8192x16x64, .f32⟩
  | 48 => ⟨S2x8192x16x64, .f32⟩
  | 49 => ⟨S2x8192x16x64, .f32⟩
  | 50 => ⟨S1x2x8192x16x64, .f32⟩
  | 51 => ⟨S1x2x8192x16x64, .f32⟩
  | 52 => ⟨S2x2x8192x16x64, .f32⟩
  | 53 => ⟨S8192x2x2x16x64, .f32⟩
  | 54 => ⟨S1x16384x1024, .bf16⟩
  | 55 => ⟨S1x16384x1024, .bf16⟩
  | 56 => ⟨S2x16384x1024, .bf16⟩
  | 57 => ⟨S2x16384x1024, .f32⟩
  | 58 => ⟨S2x2x8192x16x64, .f32⟩
  | 59 => ⟨S1x2x8192x16x64, .f32⟩
  | 60 => ⟨S2x8192x16x64, .f32⟩
  | 61 => ⟨S1x2x8192x16x64, .f32⟩
  | 62 => ⟨S2x8192x16x64, .f32⟩
  | 63 => ⟨S2x8192x16x64, .f32⟩
  | 64 => ⟨S1x2x8192x16x64, .f32⟩
  | 65 => ⟨S1x2x8192x16x64, .f32⟩
  | 66 => ⟨S2x2x8192x16x64, .f32⟩
  | 67 => ⟨S8192x2x2x16x64, .f32⟩
  | 68 => ⟨S2x16384x1024, .f32⟩
  | 69 => ⟨S2x2x8192x16x64, .f32⟩
  | 70 => ⟨S1x2x8192x16x64, .f32⟩
  | 71 => ⟨S2x8192x16x64, .f32⟩
  | 72 => ⟨S1x2x8192x16x64, .f32⟩
  | 73 => ⟨S2x8192x16x64, .f32⟩
  | 74 => ⟨S2x8192x16x64, .f32⟩
  | 75 => ⟨S1x2x8192x16x64, .f32⟩
  | 76 => ⟨S1x2x8192x16x64, .f32⟩
  | 77 => ⟨S2x2x8192x16x64, .f32⟩
  | 78 => ⟨S8192x2x2x16x64, .f32⟩
  | 79 => ⟨S1x16384x1024, .bf16⟩
  | 80 => ⟨S1x16384x1024, .bf16⟩
  | 81 => ⟨S2x16384x1024, .bf16⟩
  | 82 => ⟨S2x16384x1024, .f32⟩
  | 83 => ⟨S2x2x8192x16x64, .f32⟩
  | 84 => ⟨S1x2x8192x16x64, .f32⟩
  | 85 => ⟨S2x8192x16x64, .f32⟩
  | 86 => ⟨S1x2x8192x16x64, .f32⟩
  | 87 => ⟨S2x8192x16x64, .f32⟩
  | 88 => ⟨S2x8192x16x64, .f32⟩
  | 89 => ⟨S1x2x8192x16x64, .f32⟩
  | 90 => ⟨S1x2x8192x16x64, .f32⟩
  | 91 => ⟨S2x2x8192x16x64, .f32⟩
  | 92 => ⟨S8192x2x2x16x64, .f32⟩
  | 93 => ⟨S_, .f32⟩
  | 94 => ⟨S8192x2x2x16x64, .f32⟩
  | 95 => ⟨S_, .i32⟩
  | 96 => ⟨S8192x2x2x16x64, .f32⟩
  | 97 => ⟨S8192x2x2x16x64, .f32⟩
  | 98 => ⟨S8192x2x2x16x64, .f32⟩
  | 99 => ⟨S8192x2x2x16x64, .f32⟩
  | 100 => ⟨S8192x2x2x16x64, .f32⟩
  | 101 => ⟨S8192x2x2x16x64, .f32⟩
  | 102 => ⟨S_, .i32⟩
  | 103 => ⟨S2x2x16x64x64, .f32⟩
  | 104 => ⟨S8192x2x2x16x64, .f32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S1x2x2x16x64, .f32⟩
  | 112 => ⟨S2x2x16x64, .f32⟩
  | 113 => ⟨S_, .i32⟩
  | 114 => ⟨S_, .i32⟩
  | 115 => ⟨S_, .i32⟩
  | 116 => ⟨S_, .i32⟩
  | 117 => ⟨S1x2x2x16x64, .f32⟩
  | 118 => ⟨S2x2x16x64, .f32⟩
  | 119 => ⟨S_, .i32⟩
  | 120 => ⟨S_, .i32⟩
  | 121 => ⟨S_, .i32⟩
  | 122 => ⟨S_, .i32⟩
  | 123 => ⟨S1x2x2x16x64, .f32⟩
  | 124 => ⟨S2x2x16x64, .f32⟩
  | 125 => ⟨S_, .i32⟩
  | 126 => ⟨S_, .i32⟩
  | 127 => ⟨S_, .i32⟩
  | _ => ⟨S2x16384x1024, .f32⟩

abbrev hbmTy0_1 (i : Nat) : BufTy := match i % 128 with
  | 0 => ⟨S_, .i32⟩
  | 1 => ⟨S1x2x2x16x64, .f32⟩
  | 2 => ⟨S2x2x16x64, .f32⟩
  | 3 => ⟨S_, .i32⟩
  | 4 => ⟨S_, .i32⟩
  | 5 => ⟨S_, .i32⟩
  | 6 => ⟨S_, .i32⟩
  | 7 => ⟨S1x2x2x16x64, .f32⟩
  | 8 => ⟨S2x2x16x64, .f32⟩
  | 9 => ⟨S_, .i32⟩
  | 10 => ⟨S_, .i32⟩
  | 11 => ⟨S_, .i32⟩
  | 12 => ⟨S_, .i32⟩
  | 13 => ⟨S1x2x2x16x64, .f32⟩
  | 14 => ⟨S2x2x16x64, .f32⟩
  | 15 => ⟨S2x2x16x1x64, .f32⟩
  | 16 => ⟨S2x2x16x64x64, .f32⟩
  | 17 => ⟨S2x2x16x64x64, .f32⟩
  | 18 => ⟨S_, .f32⟩
  | 19 => ⟨S2x2x16x64, .f32⟩
  | 20 => ⟨S2x2x16x1x64, .f32⟩
  | 21 => ⟨S2x2x16x64x64, .f32⟩
  | 22 => ⟨S2x2x16x64x64, .f32⟩
  | 23 => ⟨S2x2x16x64x1, .f32⟩
  | 24 => ⟨S2x2x16x1x64, .f32⟩
  | 25 => ⟨S2x2x16x64x64, .f32⟩
  | 26 => ⟨S2x2x16x64x64, .f32⟩
  | 27 => ⟨S2x2x16x64x64, .f32⟩
  | 28 => ⟨S2x2x16x64x64, .f32⟩
  | 29 => ⟨S2x2x16x64x1, .f32⟩
  | 30 => ⟨S2x2x16x1x64, .f32⟩
  | 31 => ⟨S2x2x16x64x64, .f32⟩
  | 32 => ⟨S2x2x16x64x64, .f32⟩
  | 33 => ⟨S2x2x16x64x64, .f32⟩
  | 34 => ⟨S2x2x16x64x64, .f32⟩
  | 35 => ⟨S2x2x16x1x64, .f32⟩
  | 36 => ⟨S2x2x16x64x64, .f32⟩
  | 37 => ⟨S2x2x16x64x64, .f32⟩
  | 38 => ⟨S_, .f32⟩
  | 39 => ⟨S2x2x16x64, .f32⟩
  | 40 => ⟨S1x2x2x16x64, .f32⟩
  | 41 => ⟨S_, .i32⟩
  | 42 => ⟨S_, .i32⟩
  | 43 => ⟨S_, .i32⟩
  | 44 => ⟨S_, .i32⟩
  | 45 => ⟨S8192x2x2x16x64, .f32⟩
  | 46 => ⟨S_, .i32⟩
  | 47 => ⟨S_, .i32⟩
  | 48 => ⟨S2x2x8192x16x64, .f32⟩
  | 49 => ⟨S1x2x8192x16x64, .f32⟩
  | 50 => ⟨S2x8192x16x64, .f32⟩
  | 51 => ⟨S1x2x8192x16x64, .f32⟩
  | 52 => ⟨S2x8192x16x64, .f32⟩
  | 53 => ⟨S2x8192x16x64, .f32⟩
  | 54 => ⟨S1x2x8192x16x64, .f32⟩
  | 55 => ⟨S1x2x8192x16x64, .f32⟩
  | 56 => ⟨S2x2x8192x16x64, .f32⟩
  | 57 => ⟨S2x16384x1024, .f32⟩
  | 58 => ⟨S2x16384x1024, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_cst_1 : Ref sig .tc := ⟨.hbm, 93, rfl⟩
abbrev main_v82 : Ref sig .tc := ⟨.hbm, 94, rfl⟩
abbrev main_c : Ref sig .tc := ⟨.hbm, 95, rfl⟩
abbrev main_v83_0 : Ref sig .tc := ⟨.hbm, 96, rfl⟩
abbrev main_v83_1 : Ref sig .tc := ⟨.hbm, 97, rfl⟩
abbrev main_v83_2 : Ref sig .tc := ⟨.hbm, 98, rfl⟩
abbrev main_v83_3 : Ref sig .tc := ⟨.hbm, 99, rfl⟩
abbrev main_v83_4 : Ref sig .tc := ⟨.hbm, 100, rfl⟩
abbrev main_v83_5 : Ref sig .tc := ⟨.hbm, 101, rfl⟩
abbrev main_v83_6 : Ref sig .tc := ⟨.hbm, 102, rfl⟩
abbrev main_v83_7 : Ref sig .tc := ⟨.hbm, 103, rfl⟩
abbrev main_v83_8 : Ref sig .tc := ⟨.hbm, 104, rfl⟩
abbrev main_while0c_c_10 : Ref sig .tc := ⟨.hbm, 105, rfl⟩
abbrev main_while0c_v95 : Ref sig .tc := ⟨.hbm, 106, rfl⟩
abbrev main_while0b_call7_c : Ref sig .tc := ⟨.hbm, 107, rfl⟩
abbrev main_while0b_call7_c_0 : Ref sig .tc := ⟨.hbm, 108, rfl⟩
abbrev main_while0b_call7_c_1 : Ref sig .tc := ⟨.hbm, 109, rfl⟩
abbrev main_while0b_call7_c_2 : Ref sig .tc := ⟨.hbm, 110, rfl⟩
abbrev main_while0b_call7_v0 : Ref sig .tc := ⟨.hbm, 111, rfl⟩
abbrev main_while0b_v95 : Ref sig .tc := ⟨.hbm, 112, rfl⟩
abbrev main_while0b_call8_c : Ref sig .tc := ⟨.hbm, 113, rfl⟩
abbrev main_while0b_call8_c_0 : Ref sig .tc := ⟨.hbm, 114, rfl⟩
abbrev main_while0b_call8_c_1 : Ref sig .tc := ⟨.hbm, 115, rfl⟩
abbrev main_while0b_call8_c_2 : Ref sig .tc := ⟨.hbm, 116, rfl⟩
abbrev main_while0b_call8_v0 : Ref sig .tc := ⟨.hbm, 117, rfl⟩
abbrev main_while0b_v96 : Ref sig .tc := ⟨.hbm, 118, rfl⟩
abbrev main_while0b_call9_c : Ref sig .tc := ⟨.hbm, 119, rfl⟩
abbrev main_while0b_call9_c_0 : Ref sig .tc := ⟨.hbm, 120, rfl⟩
abbrev main_while0b_call9_c_1 : Ref sig .tc := ⟨.hbm, 121, rfl⟩
abbrev main_while0b_call9_c_2 : Ref sig .tc := ⟨.hbm, 122, rfl⟩
abbrev main_while0b_call9_v0 : Ref sig .tc := ⟨.hbm, 123, rfl⟩
abbrev main_while0b_v97 : Ref sig .tc := ⟨.hbm, 124, rfl⟩
abbrev main_while0b_call10_c : Ref sig .tc := ⟨.hbm, 125, rfl⟩
abbrev main_while0b_call10_c_0 : Ref sig .tc := ⟨.hbm, 126, rfl⟩
abbrev main_while0b_call10_c_1 : Ref sig .tc := ⟨.hbm, 127, rfl⟩
abbrev main_while0b_call10_c_2 : Ref sig .tc := ⟨.hbm, 128, rfl⟩
abbrev main_while0b_call10_v0 : Ref sig .tc := ⟨.hbm, 129, rfl⟩
abbrev main_while0b_v98 : Ref sig .tc := ⟨.hbm, 130, rfl⟩
abbrev main_while0b_call11_c : Ref sig .tc := ⟨.hbm, 131, rfl⟩
abbrev main_while0b_call11_c_0 : Ref sig .tc := ⟨.hbm, 132, rfl⟩
abbrev main_while0b_call11_c_1 : Ref sig .tc := ⟨.hbm, 133, rfl⟩
abbrev main_while0b_call11_c_2 : Ref sig .tc := ⟨.hbm, 134, rfl⟩
abbrev main_while0b_call11_v0 : Ref sig .tc := ⟨.hbm, 135, rfl⟩
abbrev main_while0b_v99 : Ref sig .tc := ⟨.hbm, 136, rfl⟩
abbrev main_while0b_call12_c : Ref sig .tc := ⟨.hbm, 137, rfl⟩
abbrev main_while0b_call12_c_0 : Ref sig .tc := ⟨.hbm, 138, rfl⟩
abbrev main_while0b_call12_c_1 : Ref sig .tc := ⟨.hbm, 139, rfl⟩
abbrev main_while0b_call12_c_2 : Ref sig .tc := ⟨.hbm, 140, rfl⟩
abbrev main_while0b_call12_v0 : Ref sig .tc := ⟨.hbm, 141, rfl⟩
abbrev main_while0b_v100 : Ref sig .tc := ⟨.hbm, 142, rfl⟩
abbrev main_while0b_v101 : Ref sig .tc := ⟨.hbm, 143, rfl⟩
abbrev main_while0b_v102 : Ref sig .tc := ⟨.hbm, 144, rfl⟩
abbrev main_while0b_v103 : Ref sig .tc := ⟨.hbm, 145, rfl⟩
abbrev main_while0b_cst_10 : Ref sig .tc := ⟨.hbm, 146, rfl⟩
abbrev main_while0b_v104 : Ref sig .tc := ⟨.hbm, 147, rfl⟩
abbrev main_while0b_v105 : Ref sig .tc := ⟨.hbm, 148, rfl⟩
abbrev main_while0b_v106 : Ref sig .tc := ⟨.hbm, 149, rfl⟩
abbrev main_while0b_v107 : Ref sig .tc := ⟨.hbm, 150, rfl⟩
abbrev main_while0b_v108 : Ref sig .tc := ⟨.hbm, 151, rfl⟩
abbrev main_while0b_v109 : Ref sig .tc := ⟨.hbm, 152, rfl⟩
abbrev main_while0b_v110 : Ref sig .tc := ⟨.hbm, 153, rfl⟩
abbrev main_while0b_v111 : Ref sig .tc := ⟨.hbm, 154, rfl⟩
abbrev main_while0b_v112 : Ref sig .tc := ⟨.hbm, 155, rfl⟩
abbrev main_while0b_v113 : Ref sig .tc := ⟨.hbm, 156, rfl⟩
abbrev main_while0b_v114 : Ref sig .tc := ⟨.hbm, 157, rfl⟩
abbrev main_while0b_v115 : Ref sig .tc := ⟨.hbm, 158, rfl⟩
abbrev main_while0b_v116 : Ref sig .tc := ⟨.hbm, 159, rfl⟩
abbrev main_while0b_v117 : Ref sig .tc := ⟨.hbm, 160, rfl⟩
abbrev main_while0b_v118 : Ref sig .tc := ⟨.hbm, 161, rfl⟩
abbrev main_while0b_v119 : Ref sig .tc := ⟨.hbm, 162, rfl⟩
abbrev main_while0b_v120 : Ref sig .tc := ⟨.hbm, 163, rfl⟩
abbrev main_while0b_v121 : Ref sig .tc := ⟨.hbm, 164, rfl⟩
abbrev main_while0b_v122 : Ref sig .tc := ⟨.hbm, 165, rfl⟩
abbrev main_while0b_cst_11 : Ref sig .tc := ⟨.hbm, 166, rfl⟩
abbrev main_while0b_v123 : Ref sig .tc := ⟨.hbm, 167, rfl⟩
abbrev main_while0b_call13_v0 : Ref sig .tc := ⟨.hbm, 168, rfl⟩
abbrev main_while0b_call13_c : Ref sig .tc := ⟨.hbm, 169, rfl⟩
abbrev main_while0b_call13_c_0 : Ref sig .tc := ⟨.hbm, 170, rfl⟩
abbrev main_while0b_call13_c_1 : Ref sig .tc := ⟨.hbm, 171, rfl⟩
abbrev main_while0b_call13_c_2 : Ref sig .tc := ⟨.hbm, 172, rfl⟩
abbrev main_while0b_v124 : Ref sig .tc := ⟨.hbm, 173, rfl⟩
abbrev main_while0b_c_12 : Ref sig .tc := ⟨.hbm, 174, rfl⟩
abbrev main_while0b_v125 : Ref sig .tc := ⟨.hbm, 175, rfl⟩
abbrev main_v84 : Ref sig .tc := ⟨.hbm, 176, rfl⟩
abbrev main_v85 : Ref sig .tc := ⟨.hbm, 177, rfl⟩
abbrev main_v86 : Ref sig .tc := ⟨.hbm, 178, rfl⟩
abbrev main_v87 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩

abbrev nD : Nat := 1
abbrev τ : Topo := Topo.v7x

variable {F : FTy → Type} [FloatOps F]

abbrev main_while0_count : Scf.Loop 32 := ⟨0#32, 8192#32, 1#32⟩
-- ==== Experts.lean ====
abbrev S288 : Shape := ⟨1, ![288]⟩
abbrev S1 : Shape := ⟨1, ![1]⟩
abbrev S147456x512 : Shape := ⟨2, ![147456, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S512x512 : Shape := ⟨2, ![512, 512]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x512 : Shape := ⟨2, ![256, 512]⟩
abbrev S256x1024 : Shape := ⟨2, ![256, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S147456x512, .bf16⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S147456x512, .bf16⟩
  | .local _ .vmem, ⟨0, _⟩ => ⟨S512x512, .bf16⟩
  | .local _ .vmem, ⟨1, _⟩ => ⟨S512x512, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x512, .bf16⟩
  | .local _ .vmem, ⟨11, _⟩ => ⟨S512x512, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S147456x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsIdeal.lean ====
variable {F : FTy → Type} [FloatOps F]
-- ==== ExpertsReferenceIdeal.lean ====
abbrev S288 : Shape := ⟨1, ![288]⟩
abbrev S1 : Shape := ⟨1, ![1]⟩
abbrev S147456x512 : Shape := ⟨2, ![147456, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S288x256x2x512 : Shape := ⟨4, ![288, 256, 2, 512]⟩
abbrev S288x256x1x512 : Shape := ⟨4, ![288, 256, 1, 512]⟩
abbrev S288x256x512 : Shape := ⟨3, ![288, 256, 512]⟩
abbrev S288x256x1024 : Shape := ⟨3, ![288, 256, 1024]⟩
abbrev S_ : Shape := ⟨0, ![]⟩
abbrev S288x1 : Shape := ⟨2, ![288, 1]⟩
abbrev S288x1024x2048 : Shape := ⟨3, ![288, 1024, 2048]⟩
abbrev S288x256x2048 : Shape := ⟨3, ![288, 256, 2048]⟩
abbrev S288x2048 : Shape := ⟨2, ![288, 2048]⟩
abbrev S288x1x2048 : Shape := ⟨3, ![288, 1, 2048]⟩
abbrev S288x1024x1024 : Shape := ⟨3, ![288, 1024, 1024]⟩
abbrev S288x1024 : Shape := ⟨2, ![288, 1024]⟩
abbrev S288x1x1024 : Shape := ⟨3, ![288, 1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S147456x512, .bf16⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S147456x512, .f32⟩
  | .hbm, ⟨8, _⟩ => ⟨S288x256x2x512, .f32⟩
  | .hbm, ⟨9, _⟩ => ⟨S288x256x1x512, .f32⟩
  | .hbm, ⟨10, _⟩ => ⟨S288x256x512, .f32⟩
  | .hbm, ⟨11, _⟩ => ⟨S288x256x1x512, .f32⟩
  | .hbm, ⟨12, _⟩ => ⟨S288x256x512, .f32⟩
  | .hbm, ⟨13, _⟩ => ⟨S288x256x1024, .f32⟩
  | .hbm, ⟨14, _⟩ => ⟨S_, .i32⟩
  | .hbm, ⟨15, _⟩ => ⟨S288, .i32⟩
  | .hbm, ⟨16, _⟩ => ⟨S288, .i1⟩
  | .hbm, ⟨17, _⟩ => ⟨S_, .i32⟩
  | .hbm, ⟨18, _⟩ => ⟨S288, .i32⟩
  | .hbm, ⟨19, _⟩ => ⟨S288, .i32⟩
  | .hbm, ⟨20, _⟩ => ⟨S288, .i32⟩
  | .hbm, ⟨21, _⟩ => ⟨S288x1, .i32⟩
  | .hbm, ⟨22, _⟩ => ⟨S288x1024x2048, .f32⟩
  | .hbm, ⟨23, _⟩ => ⟨S288x256x2048, .f32⟩
  | .hbm, ⟨24, _⟩ => ⟨S_, .i32⟩
  | .hbm, ⟨25, _⟩ => ⟨S288, .i32⟩
  | .hbm, ⟨26, _⟩ => ⟨S288, .i1⟩
  | .hbm, ⟨27, _⟩ => ⟨S_, .i32⟩
  | .hbm, ⟨28, _⟩ => ⟨S288, .i32⟩
  | .hbm, ⟨29, _⟩ => ⟨S288, .i32⟩
  | .hbm, ⟨30, _⟩ => ⟨S288, .i32⟩
  | .hbm, ⟨31, _⟩ => ⟨S288x1, .i32⟩
  | .hbm, ⟨32, _⟩ => ⟨S288x2048, .f32⟩
  | .hbm, ⟨33, _⟩ => ⟨S288x1x2048, .f32⟩
  | .hbm, ⟨34, _⟩ => ⟨S288x256x2048, .f32⟩
  | .hbm, ⟨35, _⟩ => ⟨S288x256x2048, .f32⟩
  | .hbm, ⟨36, _⟩ => ⟨S288x256x1024, .f32⟩
  | .hbm, ⟨37, _⟩ => ⟨S_, .f32⟩
  | .hbm, ⟨38, _⟩ => ⟨S288x256x1024, .f32⟩
  | .hbm, ⟨39, _⟩ => ⟨S288x256x1024, .f32⟩
  | .hbm, ⟨40, _⟩ => ⟨S288x256x1024, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S288x256x1024, .f32⟩
  | .hbm, ⟨45, _⟩ => ⟨S288x256x1024, .f32⟩
  | .hbm, ⟨46, _⟩ => ⟨S_, .f32⟩
  | .hbm, ⟨47, _⟩ => ⟨S288x256x1024, .f32⟩
  | .hbm, ⟨48, _⟩ => ⟨S288x256x1024, .f32⟩
  | .hbm, ⟨49, _⟩ => ⟨S_, .f32⟩
  | .hbm, ⟨50, _⟩ => ⟨S288x256x1024, .f32⟩
  | .hbm, ⟨51, _⟩ => ⟨S288x256x1024, .f32⟩
  | .hbm, ⟨52, _⟩ => ⟨S288x256x1024, .f32⟩
  | .hbm, ⟨53, _⟩ => ⟨S_, .f32⟩
  | .hbm, ⟨54, _⟩ => ⟨S288x256x1024, .f32⟩
  | .hbm, ⟨55, _⟩ => ⟨S288x256x1024, .f32⟩
  | .hbm, ⟨56, _⟩ => ⟨S288x256x1024, .f32⟩
  | .hbm, ⟨57, _⟩ => ⟨S288x256x1024, .f32⟩
  | .hbm, ⟨58, _⟩ => ⟨S_, .f32⟩
  | .hbm, ⟨59, _⟩ => ⟨S288x256x1024, .f32⟩
  | .hbm, ⟨60, _⟩ => ⟨S288x256x1024, .f32⟩
  | .hbm, ⟨61, _⟩ => ⟨S_, .f32⟩
  | .hbm, ⟨62, _⟩ => ⟨S288x256x1024, .f32⟩
  | .hbm, ⟨63, _⟩ => ⟨S288x256x1024, .f32⟩
  | .hbm, ⟨64, _⟩ => ⟨S288x256x1024, .f32⟩
  | .hbm, ⟨65, _⟩ => ⟨S_, .i32⟩
  | .hbm, ⟨66, _⟩ => ⟨S288, .i32⟩
  | .hbm, ⟨67, _⟩ => ⟨S288, .i1⟩
  | .hbm, ⟨68, _⟩ => ⟨S_, .i32⟩
  | .hbm, ⟨69, _⟩ => ⟨S288, .i32⟩
  | .hbm, ⟨70, _⟩ => ⟨S288, .i32⟩
  | .hbm, ⟨71, _⟩ => ⟨S288, .i32⟩
  | .hbm, ⟨72, _⟩ => ⟨S288x1, .i32⟩
  | .hbm, ⟨73, _⟩ => ⟨S288x1024x1024, .f32⟩
  | .hbm, ⟨74, _⟩ => ⟨S288x256x1024, .f32⟩
  | .hbm, ⟨75, _⟩ => ⟨S_, .i32⟩
  | .hbm, ⟨76, _⟩ => ⟨S288, .i32⟩
  | .hbm, ⟨77, _⟩ => ⟨S288, .i1⟩
  | .hbm, ⟨78, _⟩ => ⟨S_, .i32⟩
  | .hbm, ⟨79, _⟩ => ⟨S288, .i32⟩
  | .hbm, ⟨80, _⟩ => ⟨S288, .i32⟩
  | .hbm, ⟨81, _⟩ => ⟨S288, .i32⟩
  | .hbm, ⟨82, _⟩ => ⟨S288x1, .i32⟩
  | .hbm, ⟨83, _⟩ => ⟨S288x1024, .f32⟩
  | .hbm, ⟨84, _⟩ => ⟨S288x1x1024, .f32⟩
  | .hbm, ⟨85, _⟩ => ⟨S288x256x1024, .f32⟩
  | .hbm, ⟨86, _⟩ => ⟨S288x256x1024, .f32⟩
  | .hbm, ⟨87, _⟩ => ⟨S288x256x1024, .i32⟩
  | .hbm, ⟨88, _⟩ => ⟨S_, .i32⟩
  | .hbm, ⟨89, _⟩ => ⟨S288x256x1024, .i32⟩
  | .hbm, ⟨90, _⟩ => ⟨S288x256x1024, .i1⟩
  | .hbm, ⟨91, _⟩ => ⟨S_, .f32⟩
  | .hbm, ⟨92, _⟩ => ⟨S_, .f32⟩
  | .hbm, ⟨93, _⟩ => ⟨S288x256x1024, .f32⟩
  | .hbm, ⟨94, _⟩ => ⟨S288x256x1024, .f32⟩
  | .hbm, ⟨95, _⟩ => ⟨S288x256x512, .f32⟩
  | .hbm, ⟨96, _⟩ => ⟨S288x256x512, .f32⟩
  | .hbm, ⟨97, _⟩ => ⟨S288x256x1x512, .f32⟩
  | .hbm, ⟨98, _⟩ => ⟨S288x256x1x512, .f32⟩
  | .hbm, ⟨99, _⟩ => ⟨S288x256x2x512, .f32⟩
  | .hbm, ⟨100, _⟩ => ⟨S147456x512, .f32⟩
  | .hbm, ⟨101, _⟩ => ⟨S147456x512, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_cst_4 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_c_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_c_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_call1_v0 : Ref sig .tc := ⟨.hbm, 92, rfl⟩
abbrev main_call1_v1 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩

abbrev nD : Nat := 1
abbrev τ : Topo := Topo.v7x

variable {F : FTy → Type} [FloatOps F]
-- ==== GateProjection.lean ====
abbrev S16384x1024 : Shape := ⟨2, ![16384, 1024]⟩
abbrev S2x1x1024 : Shape := ⟨3, ![2, 1, 1024]⟩
abbrev S1024x5120 : Shape := ⟨2, ![1024, 5120]⟩
abbrev S16384x5120 : Shape := ⟨2, ![16384, 5120]⟩
abbrev S512x1024 : Shape := ⟨2, ![512, 1024]⟩
abbrev S1x1x1024 : Shape := ⟨3, ![1, 1, 1024]⟩
abbrev S1024x1024 : Shape := ⟨2, ![1024, 1024]⟩
abbrev S512 : Shape := ⟨1, ![512]⟩
abbrev S512x1 : Shape := ⟨2, ![512, 1]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S1024x5120, .bf16⟩
  | .hbm, ⟨4, _⟩ => ⟨S16384x5120, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateReferenceIdeal.lean ====
abbrev S16384x1024 : Shape := ⟨2, ![16384, 1024]⟩
abbrev S2x1x1024 : Shape := ⟨3, ![2, 1, 1024]⟩
abbrev S1024x5120 : Shape := ⟨2, ![1024, 5120]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S2x8192x5120 : Shape := ⟨3, ![2, 8192, 5120]⟩
abbrev S16384x5120 : Shape := ⟨2, ![16384, 5120]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S1024x5120, .bf16⟩
  | .hbm, ⟨4, _⟩ => ⟨S2x8192x1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S1024x5120, .f32⟩
  | .hbm, ⟨23, _⟩ => ⟨S2x8192x5120, .f32⟩
  | .hbm, ⟨24, _⟩ => ⟨S16384x5120, .f32⟩
  | .hbm, ⟨25, _⟩ => ⟨S16384x5120, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== StateProjection.lean ====
abbrev S16384x1024 : Shape := ⟨2, ![16384, 1024]⟩
abbrev S2x1x1024 : Shape := ⟨3, ![2, 1, 1024]⟩
abbrev S1024x3584 : Shape := ⟨2, ![1024, 3584]⟩
abbrev S16384x3584 : Shape := ⟨2, ![16384, 3584]⟩
abbrev S512x1024 : Shape := ⟨2, ![512, 1024]⟩
abbrev S1x1x1024 : Shape := ⟨3, ![1, 1, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S1024x3584, .bf16⟩
  | .hbm, ⟨4, _⟩ => ⟨S16384x3584, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x512, .bf16⟩
  | .local _ .vmem, ⟨7, _⟩ => ⟨S1024x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== StateReferenceIdeal.lean ====
abbrev S16384x1024 : Shape := ⟨2, ![16384, 1024]⟩
abbrev S2x1x1024 : Shape := ⟨3, ![2, 1, 1024]⟩
abbrev S1024x3584 : Shape := ⟨2, ![1024, 3584]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S2x8192x3584 : Shape := ⟨3, ![2, 8192, 3584]⟩
abbrev S16384x3584 : Shape := ⟨2, ![16384, 3584]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S1024x3584, .bf16⟩
  | .hbm, ⟨4, _⟩ => ⟨S2x8192x1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S1024x3584, .f32⟩
  | .hbm, ⟨23, _⟩ => ⟨S2x8192x3584, .f32⟩
  | .hbm, ⟨24, _⟩ => ⟨S16384x3584, .f32⟩
  | .hbm, ⟨25, _⟩ => ⟨S16384x3584, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Wkv.Stages.lean ====
/-
  The stages of one chunk of the kernel, for one group of four heads: the same operations in the same order as the
  kernel's body, one short definition for each named intermediate. A row is a token of the chunk, a column a lane:
  lane `64 h + j` is channel `j` of head `h` of the group.
-/
module

public import proofs.«01_k».proof.Proof.Gen.KernelIdeal.Skeleton

@[expose] public section

noncomputable section

namespace Wkv.Stage

open Cert.KernelIdeal Cert.KernelIdeal.Gen Idealize.ShloMosaic Idealize.ShloMosaic.TcCoe

variable {F : FTy → Type} [FloatOps F]

/-! ## Words: which lanes belong together, and the order of the tokens -/

/-- The sign word: `1` for direction 0, `-1` for direction 1. -/
def sgn (d : BitVec 32) : BitVec 32 := Scalar.subi 1#32 (Scalar.muli 2#32 d)

/-- Floor division by 64 of the entries of `x`, as the program spells it: truncating division, one less when the signs
    differ and the remainder is not zero. -/
def floor64 (x : IVec S256x256 32) : IVec S256x256 32 :=
  select
    (andi
      (cmpi .ne
        (subi (extui 32 (cmpi .sgt x (broadcast S256x256 0#32)) natLt_1_32)
          (extui 32 (cmpi .slt x (broadcast S256x256 0#32)) natLt_1_32))
        (broadcast S256x256 (Scalar.subi (Scalar.extui (Scalar.cmpi .sgt 64#32 0#32)) (Scalar.extui (Scalar.cmpi .slt 64#32 0#32)))))
      (cmpi .ne (remsi x (broadcast S256x256 64#32)) (broadcast S256x256 0#32)))
    (subi (divsi x (broadcast S256x256 64#32)) (broadcast S256x256 1#32))
    (divsi x (broadcast S256x256 64#32))

/-- Row and column lie in the same block of 64. -/
def sameHead : IVec S256x256 1 :=
  cmpi .eq (floor64 (iota .tc S256x256 32 [0] iota_S256x256_d0_w32)) (floor64 (iota .tc S256x256 32 [1] iota_S256x256_d1_w32))

/-- A lane's column modulo 64: the earlier token that an entry of a packed token-by-token matrix speaks of. -/
def laneToken : IVec S64x256 32 :=
  let n : BitVec 32 := Scalar.select (Scalar.cmpi .eq 64#32 0#32) 1#32 64#32
  let q : IVec S64x256 32 := remsi (iota .tc S64x256 32 [1] iota_S64x256_d1_w32) (broadcast S64x256 n)
  select
    (andi
      (xori (cmpi .slt q (broadcast S64x256 0#32))
        (broadcastTo S64x256 (broadcast S64x256 (Scalar.cmpi .slt n 0#32)) broadcasts_S64x256_S64x256))
      (cmpi .ne q (broadcast S64x256 0#32)))
    (addi q (broadcast S64x256 n))
    q

/-- How far the row's token comes after the lane's token, in the scan's order. -/
def order (g : BitVec 32) : IVec S64x256 32 :=
  muli (subi (iota .tc S64x256 32 [0] iota_S64x256_d0_w32) laneToken) (broadcast S64x256 g)

def strict (g : BitVec 32) : IVec S64x256 1 := cmpi .sgt (order g) (broadcast S64x256 0#32)
def incl (g : BitVec 32) : IVec S64x256 1 := cmpi .sge (order g) (broadcast S64x256 0#32)
def eye (g : BitVec 32) : IVec S64x256 1 := cmpi .eq (order g) (broadcast S64x256 0#32)

/-! ## Small float pieces -/

def zero64 : FVec F S64x256 .f32 := broadcast S64x256 (Scalar.ofBits .f32 0x00000000#32)
def zero256 : FVec F S256x256 .f32 := broadcast S256x256 (Scalar.ofBits .f32 0x00000000#32)

/-- Two token blocks above one another. -/
def pair (x y : FVec F S64x256 .f32) : FVec F S128x256 .f32 :=
  concatenate S128x256 0 [⟨S64x256, x⟩, ⟨S64x256, y⟩] concatenates_S64x256_S64x256_S128x256_d0

def top (x : FVec F S128x256 .f32) : FVec F S64x256 .f32 := extractStridedSlice S64x256 ![0, 0] x slices_S128x256_o0_0_S64x256
def bottom (x : FVec F S128x256 .f32) : FVec F S64x256 .f32 := extractStridedSlice S64x256 ![64, 0] x slices_S128x256_o64_0_S64x256

/-- The four heads of a token block on the diagonal of a 256 by 256 matrix. -/
def spread (y : FVec F S64x256 .f32) : FVec F S256x256 .bf16 :=
  truncf .bf16
    (select sameHead
      (concatenate S256x256 0 [⟨S64x256, y⟩, ⟨S64x256, y⟩, ⟨S64x256, y⟩, ⟨S64x256, y⟩] concatenates_S64x256_S64x256_S64x256_S64x256_S256x256_d0)
      zero256) bitsLt_bf16_f32

/-- A token block times a 256 by 256 matrix; two token blocks times one; the same with the matrix transposed. -/
def mul64 (x : FVec F S64x256 .f32) (w : FVec F S256x256 .bf16) : FVec F S64x256 .f32 :=
  matmul dot_S64x256_S256x256_S64x256_1_0_0_1_n_n none (truncf .bf16 x bitsLt_bf16_f32) w (constant S64x256 .f32 0x00000000#32)
def mul128 (x : FVec F S128x256 .f32) (w : FVec F S256x256 .bf16) : FVec F S128x256 .f32 :=
  matmul dot_S128x256_S256x256_S128x256_1_0_0_1_n_n none (truncf .bf16 x bitsLt_bf16_f32) w (constant S128x256 .f32 0x00000000#32)
def mulT (x : FVec F S128x256 .f32) (w : FVec F S256x256 .bf16) : FVec F S128x256 .f32 :=
  matmul dot_S128x256_S256x256_S128x256_1_1_0_0_n_n none (truncf .bf16 x bitsLt_bf16_f32) w (constant S128x256 .f32 0x00000000#32)

/-! ## The decays -/

/-- The triangle of ones of the running sum. -/
def tri (g : BitVec 32) : FVec F S64x64 .f32 :=
  select
    (cmpi .sge
      (muli (subi (iota .tc S64x64 32 [0] iota_S64x64_d0_w32) (iota .tc S64x64 32 [1] iota_S64x64_d1_w32)) (broadcast S64x64 g))
      (broadcast S64x64 0#32))
    (broadcast S64x64 (Scalar.ofBits .f32 0x3F800000#32)) (broadcast S64x64 (Scalar.ofBits .f32 0x00000000#32))

def mulTri (g : BitVec 32) (x : FVec F S64x256 .bf16) : FVec F S64x256 .f32 :=
  matmul dot_S64x64_S64x256_S64x256_1_0_0_1_n_n none (truncf .bf16 (tri g) bitsLt_bf16_f32) x (constant S64x256 .f32 0x00000000#32)

/-- What a narrowing to bf16 leaves over. -/
def rest (x : FVec F S64x256 .f32) : FVec F S64x256 .f32 :=
  subf x (extf .f32 (truncf .bf16 x bitsLt_bf16_f32) bitsLt_bf16_f32)

/-- The running sum of the log decays, in two halves. -/
def gathered (g : BitVec 32) (lw : FVec F S64x256 .f32) : FVec F S64x256 .f32 :=
  addf (mulTri g (truncf .bf16 lw bitsLt_bf16_f32)) (mulTri g (truncf .bf16 (rest lw) bitsLt_bf16_f32))

/-- The chunk's whole log decay, one row. -/
def total (lw : FVec F S64x256 .f32) : FVec F S1x256 .f32 :=
  shapeCast S1x256 (multiReduction .add [0] S256 lw 0x00000000#32 reduces_S64x256_S256 (.inl rfl) rfl) shapeCasts_S256_S1x256

def expNeg (g : BitVec 32) (lw : FVec F S64x256 .f32) : FVec F S64x256 .f32 := exp (subf zero64 (gathered g lw))
def expRest (g : BitVec 32) (lw : FVec F S64x256 .f32) : FVec F S64x256 .f32 :=
  exp (subf (broadcastTo S64x256 (total lw) broadcasts_S1x256_S64x256) (gathered g lw))

/-! ## The chunk -/

section chunk

variable (g : BitVec 32) (lw kd kka kk v r : FVec F S64x256 .f32) (s : FVec F S256x256 .f32)

/-- The negated reading keys above the receptances, each with its decay. -/
def readers : FVec F S128x256 .f32 :=
  pair (subf zero64 (mulf kk (exp (subf (gathered g lw) lw)))) (mulf r (exp (gathered g lw)))

def prodB : FVec F S128x256 .f32 := mulT (readers g lw kk r) (spread (mulf kka (expNeg g lw)))
def prodK : FVec F S128x256 .f32 := mulT (readers g lw kk r) (spread (mulf kd (expNeg g lw)))

def aab : FVec F S64x256 .f32 := select (strict g) (top (prodB g lw kka kk r)) zero64
def aak : FVec F S64x256 .f32 := select (strict g) (top (prodK g lw kd kk r)) zero64
def arb : FVec F S64x256 .f32 := select (incl g) (bottom (prodB g lw kka kk r)) zero64
def ark : FVec F S64x256 .f32 := select (incl g) (bottom (prodK g lw kd kk r)) zero64

/-- One doubling of a pair (inverse so far, power so far). -/
def both (acc pw : FVec F S64x256 .f32) : FVec F S128x256 .f32 := mul128 (pair acc pw) (spread pw)
def accNext (acc pw : FVec F S64x256 .f32) : FVec F S64x256 .f32 := addf acc (top (both acc pw))
def pwNext (acc pw : FVec F S64x256 .f32) : FVec F S64x256 .f32 := bottom (both acc pw)

/-- The triangular inverse of a packed strictly triangular matrix `a`, by doubling. -/
def inv (a : FVec F S64x256 .f32) : FVec F S64x256 .f32 :=
  let acc0 := addf (select (eye g) (broadcast S64x256 (Scalar.ofBits .f32 0x3F800000#32)) zero64) a
  let pw0 := mul64 a (spread a)
  let acc1 := accNext acc0 pw0
  let pw1 := pwNext acc0 pw0
  let acc2 := accNext acc1 pw1
  let pw2 := pwNext acc1 pw1
  let acc3 := accNext acc2 pw2
  let pw3 := pwNext acc2 pw2
  let acc4 := accNext acc3 pw3
  let pw4 := pwNext acc3 pw3
  addf acc4 (mul64 acc4 (spread pw4))

/-- What the readers read of the state, and of the values. -/
def ofState : FVec F S128x256 .f32 := mulT (readers g lw kk r) (truncf .bf16 s bitsLt_bf16_f32)
def ofValue : FVec F S128x256 .f32 := mul128 (pair (aak g lw kd kk r) (ark g lw kd kk r)) (spread v)

/-- The removals. -/
def removals : FVec F S64x256 .f32 :=
  mul64 (inv g (aab g lw kka kk r))
    (spread (addf (top (ofState g lw kk r s)) (top (ofValue g lw kd kk v r))))

/-- The chunk's result. -/
def outY : FVec F S64x256 .f32 :=
  addf (addf (bottom (ofState g lw kk r s)) (bottom (ofValue g lw kd kk v r)))
    (mul64 (arb g lw kka kk r) (spread (removals g lw kd kka kk v r s)))

/-- What the chunk adds to the state. -/
def update : FVec F S256x256 .f32 :=
  matmul dot_S128x256_S128x256_S256x256_0_0_1_1_n_n none
    (truncf .bf16 (pair (removals g lw kd kka kk v r s) v) bitsLt_bf16_f32)
    (truncf .bf16 (pair (mulf kka (expRest g lw)) (mulf kd (expRest g lw))) bitsLt_bf16_f32)
    (constant S256x256 .f32 0x00000000#32)

/-- The state after the chunk. -/
def outS : FVec F S256x256 .f32 :=
  select sameHead
    (addf (mulf s (broadcastTo S256x256 (exp (total lw)) broadcasts_S1x256_S256x256)) (update g lw kd kka kk v r s))
    zero256

end chunk

/-! ## What a body loads: one head group of each input block -/

def widen (x : Vec F S1x64x256 .bf16) : FVec F S64x256 .f32 :=
  extf .f32 (shapeCast S64x256 x shapeCasts_S1x64x256_S64x256) bitsLt_bf16_f32
def plain (x : Vec F S1x64x256 .f32) : FVec F S64x256 .f32 := shapeCast S64x256 x shapeCasts_S1x64x256_S64x256
def widen2 (x : Vec F S64x256 .bf16) : FVec F S64x256 .f32 := extf .f32 x bitsLt_bf16_f32
def square (x : Vec F S1x256x256 .f32) : FVec F S256x256 .f32 := shapeCast S256x256 x shapeCasts_S1x256x256_S256x256

/-- What the body stores for one head group: the result and the new state. -/
def storeY (g : BitVec 32) (lw : Vec F S1x64x256 .f32) (kd kka : Vec F S1x64x256 .bf16) (kk v r : Vec F S64x256 .bf16)
    (s : Vec F S1x256x256 .f32) : FVec F S1x64x256 .bf16 :=
  shapeCast S1x64x256
    (truncf .bf16 (outY g (plain lw) (widen kd) (widen kka) (widen2 kk) (widen2 v) (widen2 r) (square s)) bitsLt_bf16_f32)
    shapeCasts_S64x256_S1x64x256
def storeS (g : BitVec 32) (lw : Vec F S1x64x256 .f32) (kd kka : Vec F S1x64x256 .bf16) (kk v r : Vec F S64x256 .bf16)
    (s : Vec F S1x256x256 .f32) : FVec F S1x256x256 .f32 :=
  shapeCast S1x256x256
    (outS g (plain lw) (widen kd) (widen kka) (widen2 kk) (widen2 v) (widen2 r) (square s)) shapeCasts_S256x256_S1x256x256

end Wkv.Stage

end
-- ==== Proof.Wkv.Words.lean ====
/-
  The word arithmetic of the chunk at an index: which lanes belong to one head, and in which order the tokens of a
  chunk are taken in each direction.
-/
module

public import proofs.«01_k».proof.Proof.Wkv.Stages
public import Idealize.ShloMosaic.Lib.Pointwise
public import Mathlib.Order.Fin.Basic

@[expose] public section

set_option maxRecDepth 65536

noncomputable section

namespace Wkv.Words

open Cert.KernelIdeal Cert.KernelIdeal.Gen Idealize.ShloMosaic Idealize.ShloMosaic.TcCoe Wkv.Stage

/-- Head and channel of a lane of a group of four heads, and the lane of a head's channel. -/
def hd (l : Fin 256) : Fin 4 := ⟨l.val / 64, by omega⟩
def ch (l : Fin 256) : Fin 64 := ⟨l.val % 64, by omega⟩
def lane (h : Fin 4) (c : Fin 64) : Fin 256 := ⟨64 * h.val + c.val, by omega⟩

theorem hd_lane (h : Fin 4) (c : Fin 64) : hd (lane h c) = h := Fin.ext (by show (64 * h.val + c.val) / 64 = h.val; omega)
theorem ch_lane (h : Fin 4) (c : Fin 64) : ch (lane h c) = c := Fin.ext (by show (64 * h.val + c.val) % 64 = c.val; omega)
theorem lane_hd_ch (l : Fin 256) : lane (hd l) (ch l) = l := Fin.ext (by show 64 * (l.val / 64) + l.val % 64 = l.val; omega)

/-- The place of a chunk's token in the scan's order: direction 0 forwards, direction 1 backwards. -/
def place (d : Fin 2) : Equiv.Perm (Fin 64) := if d = 0 then Equiv.refl _ else Fin.revPerm

/-- The sign word of a direction. -/
def sg (d : Fin 2) : BitVec 32 := sgn (BitVec.ofNat 32 d.val)

/-- Floor division by 64 of one word, as the program spells it. -/
def floorWord (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi ArithUnit.vector w 64#32) 0#32))
    (IntOp.subi (IntOp.divsi ArithUnit.vector w 64#32) 1#32)
    (IntOp.divsi ArithUnit.vector w 64#32)

theorem floorWord_eq : ∀ i : Fin 256, floorWord (BitVec.ofNat 32 i.val) = BitVec.ofNat 32 (i.val / 64) := by decide +kernel

theorem heads_word : ∀ a b : Fin 4, IntOp.cmpi .eq (BitVec.ofNat 32 a.val) (BitVec.ofNat 32 b.val) = if a = b then 1#1 else 0#1 := by
  decide +kernel

/-- Row and column are lanes of one head. -/
theorem sameHead_apply (i j : Fin 256) : sameHead (ix2 i j) = if hd i = hd j then 1#1 else 0#1 := by
  pointwise [sameHead, floor64]
  show IntOp.cmpi .eq (floorWord (BitVec.ofNat 32 i.val)) (floorWord (BitVec.ofNat 32 j.val)) = _
  rw [floorWord_eq, floorWord_eq]
  exact heads_word (hd i) (hd j)

/-- The remainder modulo 64 of one word, as the program spells it. -/
def modWord (w : BitVec 32) : BitVec 32 :=
  Scalar.select
    (IntOp.andi
      (IntOp.xori
        (IntOp.cmpi .slt (IntOp.remsi ArithUnit.vector w (Scalar.select (Scalar.cmpi .eq 64#32 0#32) 1#32 64#32)) 0#32)
        (Scalar.cmpi .slt (Scalar.select (Scalar.cmpi .eq 64#32 0#32) 1#32 64#32) 0#32))
      (IntOp.cmpi .ne (IntOp.remsi ArithUnit.vector w (Scalar.select (Scalar.cmpi .eq 64#32 0#32) 1#32 64#32)) 0#32))
    (IntOp.addi (IntOp.remsi ArithUnit.vector w (Scalar.select (Scalar.cmpi .eq 64#32 0#32) 1#32 64#32))
      (Scalar.select (Scalar.cmpi .eq 64#32 0#32) 1#32 64#32))
    (IntOp.remsi ArithUnit.vector w (Scalar.select (Scalar.cmpi .eq 64#32 0#32) 1#32 64#32))

theorem modWord_eq : ∀ i : Fin 256, modWord (BitVec.ofNat 32 i.val) = BitVec.ofNat 32 (ch i).val := by decide +kernel

/-- The signed distance of two tokens in the scan's order, as a word. -/
def dist (d : Fin 2) (t s : Fin 64) : BitVec 32 :=
  IntOp.muli (IntOp.subi (BitVec.ofNat 32 t.val) (BitVec.ofNat 32 s.val)) (sg d)

theorem order_apply (d : Fin 2) (t : Fin 64) (l : Fin 256) : order (sg d) (ix2 t l) = dist d t (ch l) := by
  pointwise [order, laneToken]
  show IntOp.muli (IntOp.subi (BitVec.ofNat 32 t.val) (modWord (BitVec.ofNat 32 l.val))) (sg d) = _
  rw [modWord_eq]
  rfl

theorem dist_pos : ∀ (d : Fin 2) (t s : Fin 64), IntOp.cmpi .sgt (dist d t s) 0#32 = if place d s < place d t then 1#1 else 0#1 := by
  decide +kernel
theorem dist_nonneg : ∀ (d : Fin 2) (t s : Fin 64), IntOp.cmpi .sge (dist d t s) 0#32 = if place d s ≤ place d t then 1#1 else 0#1 := by
  decide +kernel
theorem dist_zero : ∀ (d : Fin 2) (t s : Fin 64), IntOp.cmpi .eq (dist d t s) 0#32 = if t = s then 1#1 else 0#1 := by
  decide +kernel

/-- The masks of the packed token matrices. -/
theorem strict_apply (d : Fin 2) (t : Fin 64) (l : Fin 256) :
    strict (sg d) (ix2 t l) = if place d (ch l) < place d t then 1#1 else 0#1 := by
  rw [← dist_pos, ← order_apply]
  rfl
theorem incl_apply (d : Fin 2) (t : Fin 64) (l : Fin 256) :
    incl (sg d) (ix2 t l) = if place d (ch l) ≤ place d t then 1#1 else 0#1 := by
  rw [← dist_nonneg, ← order_apply]
  rfl
theorem eye_apply (d : Fin 2) (t : Fin 64) (l : Fin 256) :
    eye (sg d) (ix2 t l) = if t = ch l then 1#1 else 0#1 := by
  rw [← dist_zero, ← order_apply]
  rfl

/-- The triangle of the running sum. -/
theorem tri_apply (d : Fin 2) (t s : Fin 64) :
    tri (F := Ideal) (sg d) (ix2 t s) = ((if place d s ≤ place d t then 1 else 0 : ℝ) : EReal) := by
  pointwise [tri]
  show Scalar.select (IntOp.cmpi .sge (dist d t s) 0#32) _ _ = _
  rw [dist_nonneg]
  split <;> simp [Scalar.select]

end Wkv.Words

end
-- ==== Proof.Wkv.Blocks.lean ====
/-
  The chunk's operations on finite blocks, at exact arithmetic: a token block is four 64 by 64 matrices, one for each
  head, and every product of the kernel is a product of these matrices head by head.
-/
module

public import proofs.«01_k».proof.Proof.Wkv.Words
public import Mathlib.Data.Matrix.Mul
public import Mathlib.Algebra.BigOperators.Fin

@[expose] public section

set_option maxRecDepth 65536

noncomputable section

namespace Wkv.Blocks

open Cert.KernelIdeal Cert.KernelIdeal.Gen Idealize.ShloMosaic Idealize.ShloMosaic.TcCoe Wkv.Stage Wkv.Words

/-- Four matrices, one for each head of a group. -/
abbrev Heads := Fin 4 → Fin 64 → Fin 64 → ℝ

/-- Products head by head; the second one with the right factor transposed. -/
def mm (x y : Heads) : Heads := fun h t c => ∑ s, x h t s * y h s c
def mmT (x y : Heads) : Heads := fun h t c => ∑ s, x h t s * y h c s

/-- A token block: token `t`, channel `c` of head `h` in lane `64 h + c`. -/
def blk {e : FTy} (M : Heads) : FVec Ideal S64x256 e := fun j => ((M (hd (j 1)) (j 0) (ch (j 1)) : ℝ) : EReal)
/-- The four matrices on the diagonal. -/
def diag {e : FTy} (M : Heads) : FVec Ideal S256x256 e := fun j =>
  ((if hd (j 0) = hd (j 1) then M (hd (j 0)) (ch (j 0)) (ch (j 1)) else 0 : ℝ) : EReal)
/-- A row of lanes. -/
def row {e : FTy} (m : Fin 4 → Fin 64 → ℝ) : FVec Ideal S1x256 e := fun j => ((m (hd (j 1)) (ch (j 1)) : ℝ) : EReal)

theorem blk_apply {e : FTy} (M : Heads) (t : Fin 64) (l : Fin 256) : blk (e := e) M (ix2 t l) = ((M (hd l) t (ch l) : ℝ) : EReal) := rfl
theorem diag_apply {e : FTy} (M : Heads) (i j : Fin 256) :
    diag (e := e) M (ix2 i j) = ((if hd i = hd j then M (hd i) (ch i) (ch j) else 0 : ℝ) : EReal) := rfl
theorem row_apply {e : FTy} (m : Fin 4 → Fin 64 → ℝ) (a : Fin 1) (l : Fin 256) : row (e := e) m (ix2 a l) = ((m (hd l) (ch l) : ℝ) : EReal) := rfl

/-! ## Sums -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem sum_lanes (f : Fin 256 → ℝ) : ∑ i, f i = ∑ h : Fin 4, ∑ c : Fin 64, f (lane h c) := by
  rw [← Fintype.sum_prod_type']
  refine Fintype.sum_equiv ⟨fun i => (hd i, ch i), fun p => lane p.1 p.2, lane_hd_ch, fun p => Prod.ext (hd_lane _ _) (ch_lane _ _)⟩
    _ _ fun i => ?_
  show f i = f (lane (hd i) (ch i))
  rw [lane_hd_ch]

/-- The four matrices' rows, one head's reading out of a sum over all lanes. -/
theorem sum_right (a : Fin 256 → ℝ) (h0 : Fin 4) (y : Fin 256 → ℝ) :
    (∑ i, a i * (if hd i = h0 then y i else 0)) = ∑ c, a (lane h0 c) * y (lane h0 c) := by
  rw [sum_lanes, Finset.sum_eq_single h0]
  · refine Finset.sum_congr rfl fun c _ => ?_
    rw [hd_lane, if_pos rfl]
  · intro h _ hne
    refine Finset.sum_eq_zero fun c _ => ?_
    rw [hd_lane, if_neg hne, mul_zero]
  · intro h; exact absurd (Finset.mem_univ _) h

/-! ## Elementwise operations -/

section elementwise

variable {e : FTy} (x y : Heads)

theorem blk_congr (h : ∀ h t c, x h t c = y h t c) : blk (e := e) x = blk y := by
  have : x = y := funext fun a => funext fun t => funext fun c => h a t c
  rw [this]

theorem truncf_blk (hb) : truncf (F := Ideal) .bf16 (blk (e := .f32) x) hb = blk x := rfl
theorem extf_blk (hb) : extf (F := Ideal) .f32 (blk (e := .bf16) x) hb = blk x := rfl
theorem truncf_diag (hb) : truncf (F := Ideal) .bf16 (diag (e := .f32) x) hb = diag x := rfl

theorem addf_blk : addf (blk (e := e) x) (blk y) = blk (fun h t c => x h t c + y h t c) := by
  funext j; idx_vars j
  pointwise [blk_apply]
  exact (EReal.coe_add _ _).symm
theorem subf_blk : subf (blk (e := e) x) (blk y) = blk (fun h t c => x h t c - y h t c) := by
  funext j; idx_vars j
  pointwise [blk_apply]
  exact (EReal.coe_sub _ _).symm
theorem mulf_blk : mulf (blk (e := e) x) (blk y) = blk (fun h t c => x h t c * y h t c) := by
  funext j; idx_vars j
  pointwise [blk_apply]
  exact (EReal.coe_mul _ _).symm
theorem exp_blk : exp (blk (e := e) x) = blk (fun h t c => Real.exp (x h t c)) := by
  funext j; idx_vars j
  pointwise [blk_apply]
  exact Ideal.exp_coe _
theorem zero64_blk : zero64 (F := Ideal) = blk (fun _ _ _ => 0) := by
  funext j; idx_vars j
  pointwise [zero64, blk_apply]
  rfl
theorem zero256_diag : zero256 (F := Ideal) = diag (fun _ _ _ => 0) := by
  funext j; idx_vars j
  pointwise [zero256, diag_apply]
  simp
theorem exp_row (m : Fin 4 → Fin 64 → ℝ) : exp (row (e := e) m) = row (fun h c => Real.exp (m h c)) := by
  funext j; idx_vars j
  pointwise [row_apply]
  exact Ideal.exp_coe _

end elementwise

/-! ## Products -/

/-- One head's product out of a sum over all lanes, the matrix on the diagonal read by columns or by rows. -/
theorem sum_cols (x : Heads) (y : Heads) (t : Fin 64) (j : Fin 256) :
    (∑ i, ((x (hd i) t (ch i) : ℝ) : EReal) * ((if hd i = hd j then y (hd i) (ch i) (ch j) else 0 : ℝ) : EReal))
      = ((mm x y (hd j) t (ch j) : ℝ) : EReal) := by
  simp only [← EReal.coe_mul]
  rw [coe_sum]
  congr 1
  rw [sum_right (fun i => x (hd i) t (ch i)) (hd j) (fun i => y (hd i) (ch i) (ch j))]
  simp only [hd_lane, ch_lane]
  rfl
theorem sum_rows (x : Heads) (y : Heads) (t : Fin 64) (j : Fin 256) :
    (∑ i, ((x (hd i) t (ch i) : ℝ) : EReal) * ((if hd j = hd i then y (hd j) (ch j) (ch i) else 0 : ℝ) : EReal))
      = ((mmT x y (hd j) t (ch j) : ℝ) : EReal) := by
  refine Eq.trans ?_ (sum_cols x (fun h s c => y h c s) t j)
  refine Finset.sum_congr rfl fun i _ => ?_
  by_cases h : hd i = hd j
  · rw [if_pos h, if_pos h.symm, h]
  · rw [if_neg h, if_neg (fun e => h e.symm)]

theorem spread_blk (y : Heads) : spread (blk y) = diag y := by
  funext j; idx_vars j
  pointwise [spread, zero256, blk_apply, diag_apply, sameHead_apply]
  by_cases h : hd j0 = hd j1
  · rw [if_pos h, if_pos h, h]
    show (if _ : _ then _ else _) = _
    have hj : j0.val < 256 := j0.isLt
    have key : ∀ k : Fin 64, k.val = j0.val % 64 → ((y (hd j1) k (ch j1) : ℝ) : EReal) = ((y (hd j1) (ch j0) (ch j1) : ℝ) : EReal) :=
      fun k hk => by rw [show k = ch j0 from Fin.ext hk]
    split_ifs with h1 h2 h3 <;> refine key _ ?_ <;> dsimp only <;> omega
  · rw [if_neg h, if_neg h]
    rfl

theorem mul64_blk (x y : Heads) : mul64 (blk x) (diag y) = blk (mm x y) := by
  funext j; idx_vars j
  pointwise [mul64, blk_apply, diag_apply]
  exact sum_cols x y _ _
theorem top_mul128 (x z y : Heads) : top (mul128 (pair (blk x) (blk z)) (diag y)) = blk (mm x y) := by
  funext j; idx_vars j
  pointwise [top, mul128, pair, blk_apply, diag_apply]
  exact sum_cols x y _ _
theorem bottom_mul128 (x z y : Heads) : bottom (mul128 (pair (blk x) (blk z)) (diag y)) = blk (mm z y) := by
  funext j; idx_vars j
  pointwise [bottom, mul128, pair, blk_apply, diag_apply]
  exact sum_cols z y _ _
theorem top_mulT (x z y : Heads) : top (mulT (pair (blk x) (blk z)) (diag y)) = blk (mmT x y) := by
  funext j; idx_vars j
  pointwise [top, mulT, pair, blk_apply, diag_apply]
  exact sum_rows x y _ _
theorem bottom_mulT (x z y : Heads) : bottom (mulT (pair (blk x) (blk z)) (diag y)) = blk (mmT z y) := by
  funext j; idx_vars j
  pointwise [bottom, mulT, pair, blk_apply, diag_apply]
  exact sum_rows z y _ _

theorem total_blk (x : Heads) : total (blk x) = row (fun h c => ∑ t, x h t c) := by
  funext j; idx_vars j
  pointwise [total, blk_apply, row_apply]
  exact coe_sum _ _

/-- The running sum of the log decays. -/
theorem mulTri_blk (d : Fin 2) (x : Heads) :
    mulTri (sg d) (blk x) = blk (fun h t c => ∑ s, if place d s ≤ place d t then x h s c else 0) := by
  funext j; idx_vars j
  pointwise [mulTri, blk_apply, tri_apply]
  simp only [← EReal.coe_mul]
  rw [coe_sum]
  congr 1
  refine Finset.sum_congr rfl fun s _ => ?_
  split <;> simp

theorem select_strict (d : Fin 2) (x : Heads) :
    select (strict (sg d)) (blk (e := .f32) x) zero64 = blk (fun h t s => if place d s < place d t then x h t s else 0) := by
  funext j; idx_vars j
  pointwise [zero64, blk_apply, strict_apply]
  split <;> rfl
theorem select_incl (d : Fin 2) (x : Heads) :
    select (incl (sg d)) (blk (e := .f32) x) zero64 = blk (fun h t s => if place d s ≤ place d t then x h t s else 0) := by
  funext j; idx_vars j
  pointwise [zero64, blk_apply, incl_apply]
  split <;> rfl
theorem select_eye (d : Fin 2) :
    select (eye (sg d)) (broadcast S64x256 (Scalar.ofBits (F := Ideal) .f32 0x3F800000#32)) zero64 = blk (fun h t s => if t = s then 1 else 0) := by
  funext j; idx_vars j
  pointwise [zero64, blk_apply, eye_apply]
  split <;> simp [Scalar.select]

/-- The state's new values on the diagonal. -/
theorem state_diag (S u v b k : Heads) (m : Fin 4 → Fin 64 → ℝ) :
    select sameHead
        (addf (mulf (diag (e := .f32) S) (broadcastTo S256x256 (row (e := .f32) m) broadcasts_S1x256_S256x256))
          (matmul dot_S128x256_S128x256_S256x256_0_0_1_1_n_n none
            (truncf .bf16 (pair (blk u) (blk v)) bitsLt_bf16_f32) (truncf .bf16 (pair (blk b) (blk k)) bitsLt_bf16_f32)
            (constant S256x256 .f32 0x00000000#32)))
        (zero256 (F := Ideal))
      = diag (fun h i j => S h i j * m h j + ((∑ t, u h t i * b h t j) + ∑ t, v h t i * k h t j)) := by
  funext j; idx_vars j
  pointwise [zero256, pair, blk_apply, diag_apply, row_apply, sameHead_apply]
  by_cases h : hd j0 = hd j1
  · rw [if_pos h, if_pos h, if_pos h, h]
    simp only [← EReal.coe_mul]
    rw [coe_sum, coe_sum, ← EReal.coe_add, ← EReal.coe_add]
    rfl
  · rw [if_neg h, if_neg h, if_neg h]
    rfl

end Wkv.Blocks

end
-- ==== Proof.Wkv.Chunk.lean ====
/-
  The mathematics of one chunk, over the reals: sixty-four steps of the generalized delta rule equal the closed form
  that a chunk computes with masked products and one triangular inverse.

  A chunk's tokens are numbered `t : Fin L`, and `σ t` is the place of token `t` in the order in which the scan takes
  the tokens (`σ` is the identity for the forward scan and the reversal for the backward one). One row of the state
  (one value channel) is a function of the key channel `j : K`.
-/
module

public import Mathlib.Analysis.SpecialFunctions.Exp
public import Mathlib.LinearAlgebra.Matrix.Defs
public import Mathlib.Data.Matrix.Mul
public import Mathlib.Tactic.NoncommRing
public import Mathlib.Tactic.LinearCombination
public import Mathlib.Tactic.Ring

@[expose] public section

noncomputable section

namespace Wkv

open Finset

variable {K : Type} [Fintype K]

/-- One step of the rule on one row of the state: decay by `w`, remove the row's reading of `kk` along `kka`, add the
    value `v` along the key `k`. -/
def step (s w k kk kka : K → ℝ) (v : ℝ) : K → ℝ := fun j =>
  s j * w j - (∑ i, s i * kk i) * kka j + v * k j

variable {L : ℕ} (σ : Equiv.Perm (Fin L))

/-- The state row before the step at place `p`. -/
def stateAt (lw kd kka kk : Fin L → K → ℝ) (v : Fin L → ℝ) (s0 : K → ℝ) : ℕ → K → ℝ
  | 0 => s0
  | p + 1 => if h : p < L then
      let t := σ.symm ⟨p, h⟩
      step (stateAt lw kd kka kk v s0 p) (fun j => Real.exp (lw t j)) (kd t) (kk t) (kka t) (v t)
    else stateAt lw kd kka kk v s0 p

/-- The sum of `f` over the tokens placed before `p`. -/
def before (p : ℕ) (f : Fin L → ℝ) : ℝ := ∑ t, if (σ t).val < p then f t else 0

theorem before_zero (f : Fin L → ℝ) : before σ 0 f = 0 := by simp [before]

theorem before_succ (p : ℕ) (h : p < L) (f : Fin L → ℝ) :
    before σ (p + 1) f = before σ p f + f (σ.symm ⟨p, h⟩) := by
  unfold before
  have e : ∀ t, (if (σ t).val < p + 1 then f t else 0)
      = (if (σ t).val < p then f t else 0) + (if t = σ.symm ⟨p, h⟩ then f t else 0) := by
    intro t
    have hiff : t = σ.symm ⟨p, h⟩ ↔ (σ t).val = p := by
      rw [Equiv.eq_symm_apply, Fin.ext_iff]
    by_cases h1 : (σ t).val < p
    · have h2 : ¬ t = σ.symm ⟨p, h⟩ := by rw [hiff]; omega
      simp [h1, h2, Nat.lt_succ_of_lt h1]
    · by_cases h2 : (σ t).val = p
      · simp [h1, hiff.mpr h2, h2]
      · have h3 : ¬ t = σ.symm ⟨p, h⟩ := by rw [hiff]; exact h2
        have h4 : ¬ (σ t).val < p + 1 := by omega
        simp [h1, h3, h4]
  simp only [e, Finset.sum_add_distrib, Finset.sum_ite_eq', Finset.mem_univ, if_true]

theorem before_all (f : Fin L → ℝ) : before σ L f = ∑ t, f t := by
  simp [before]

/-- The sum over the tokens up to and including token `t`, in the scan's order. -/
theorem before_upto (t : Fin L) (f : Fin L → ℝ) :
    before σ ((σ t).val + 1) f = ∑ s, if σ s ≤ σ t then f s else 0 := by
  unfold before
  refine Finset.sum_congr rfl fun s _ => ?_
  simp only [Fin.le_def, Nat.lt_succ_iff]

section chunk

variable (lw kd kka kk r : Fin L → K → ℝ) (v : Fin L → ℝ) (s0 : K → ℝ)

/-- The log decay gathered up to and including token `t`. -/
def cum (t : Fin L) (j : K) : ℝ := ∑ s, if σ s ≤ σ t then lw s j else 0

/-- What the state row reads of `kk` at token `t`, negated: the amount that the rule adds along `kka`. -/
def removal (t : Fin L) : ℝ := -(∑ j, stateAt σ lw kd kka kk v s0 (σ t).val j * kk t j)

/-- The state row before place `p`, its decay divided out, is the initial row and what the tokens before added. -/
theorem stateAt_eq : ∀ (p : ℕ), p ≤ L → ∀ j,
    stateAt σ lw kd kka kk v s0 p j = Real.exp (before σ p fun t => lw t j)
      * (s0 j + before σ p fun t => removal σ lw kd kka kk v s0 t * (kka t j * Real.exp (-cum σ lw t j))
        + v t * (kd t j * Real.exp (-cum σ lw t j)))
  | 0, _, j => by simp [before_zero, stateAt]
  | p + 1, hp, j => by
    have hlt : p < L := hp
    rw [before_succ σ p hlt, before_succ σ p hlt]
    simp only [stateAt, dif_pos hlt, step]
    have ih := stateAt_eq p hlt.le j
    set t := σ.symm ⟨p, hlt⟩ with ht
    have hσ : (σ t).val = p := by simp [ht]
    have hc : cum σ lw t j = (before σ p fun t => lw t j) + lw t j := by
      unfold cum
      rw [← before_upto σ t fun s => lw s j, hσ, before_succ σ p hlt]
    have hr : (∑ i, stateAt σ lw kd kka kk v s0 p i * kk t i) = -removal σ lw kd kka kk v s0 t := by
      unfold removal; rw [hσ, neg_neg]
    rw [hr, ih, hc, Real.exp_add]
    generalize (before σ p fun t => lw t j) = C
    generalize (before σ p fun t => removal σ lw kd kka kk v s0 t * (kka t j * Real.exp (-cum σ lw t j))
        + v t * (kd t j * Real.exp (-cum σ lw t j))) = B
    have e1 : Real.exp C * Real.exp (lw t j) * Real.exp (-(C + lw t j)) = 1 := by
      rw [← Real.exp_add, ← Real.exp_add]; simp
    linear_combination (-removal σ lw kd kka kk v s0 t * kka t j - v t * kd t j) * e1

/-- The three factors of the chunk's products: the reading key, the removal key, the value key and the receptance, each
    scaled by the decay gathered so far. -/
def aT (t : Fin L) (j : K) : ℝ := -(kk t j * Real.exp (cum σ lw t j - lw t j))
def bBar (t : Fin L) (j : K) : ℝ := kka t j * Real.exp (-cum σ lw t j)
def kBar (t : Fin L) (j : K) : ℝ := kd t j * Real.exp (-cum σ lw t j)
def rT (t : Fin L) (j : K) : ℝ := r t j * Real.exp (cum σ lw t j)

/-- A masked product of two families of keys: strictly earlier tokens, or tokens up to and including this one. -/
def strictProd (x y : Fin L → K → ℝ) : Fin L → Fin L → ℝ := fun t s =>
  if σ s < σ t then ∑ j, x t j * y s j else 0
def inclProd (x y : Fin L → K → ℝ) : Fin L → Fin L → ℝ := fun t s =>
  if σ s ≤ σ t then ∑ j, x t j * y s j else 0

theorem exp_mul_neg (x : ℝ) : Real.exp x * Real.exp (-x) = 1 := by rw [← Real.exp_add]; simp

/-- A reading of the state row at place `p` by a key `x` whose decay is `exp (C p)`. -/
theorem read_state (p : ℕ) (hp : p ≤ L) (x : K → ℝ) :
    ∑ j, stateAt σ lw kd kka kk v s0 p j * x j
      = (∑ j, (x j * Real.exp (before σ p fun t => lw t j)) * s0 j)
        + before σ p fun s => removal σ lw kd kka kk v s0 s
            * (∑ j, (x j * Real.exp (before σ p fun t => lw t j)) * bBar σ lw kka s j)
          + v s * (∑ j, (x j * Real.exp (before σ p fun t => lw t j)) * kBar σ lw kd s j) := by
  simp only [stateAt_eq σ lw kd kka kk v s0 p hp, bBar, kBar]
  have e : ∀ f : K → Fin L → ℝ, (∑ j, before σ p (f j)) = before σ p fun s => ∑ j, f j s := by
    intro f
    unfold before
    rw [Finset.sum_comm]
    refine Finset.sum_congr rfl fun s _ => ?_
    split <;> simp
  have e2 : ∀ (a : ℝ) (f : Fin L → ℝ), a * before σ p f = before σ p fun s => a * f s := by
    intro a f
    unfold before
    rw [Finset.mul_sum]
    refine Finset.sum_congr rfl fun s _ => ?_
    split <;> simp
  have e3 : ∀ j, Real.exp (before σ p fun t => lw t j)
      * (s0 j + before σ p fun t => removal σ lw kd kka kk v s0 t * (kka t j * Real.exp (-cum σ lw t j))
        + v t * (kd t j * Real.exp (-cum σ lw t j))) * x j
      = x j * Real.exp (before σ p fun t => lw t j) * s0 j
        + before σ p fun s => (x j * Real.exp (before σ p fun t => lw t j))
          * (removal σ lw kd kka kk v s0 s * (kka s j * Real.exp (-cum σ lw s j))
            + v s * (kd s j * Real.exp (-cum σ lw s j))) := by
    intro j
    rw [← e2]; ring
  simp only [e3, Finset.sum_add_distrib]
  rw [e]
  congr 1
  congr 1
  funext s
  rw [Finset.mul_sum, Finset.mul_sum, ← Finset.sum_add_distrib]
  refine Finset.sum_congr rfl fun j _ => ?_
  ring

/-- The removals solve the chunk's triangular system. -/
theorem removal_system (t : Fin L) :
    removal σ lw kd kka kk v s0 t
      = (∑ j, aT σ lw kk t j * s0 j)
        + (∑ s, strictProd σ (aT σ lw kk) (kBar σ lw kd) t s * v s)
        + ∑ s, strictProd σ (aT σ lw kk) (bBar σ lw kka) t s * removal σ lw kd kka kk v s0 s := by
  have hc : ∀ j, (before σ (σ t).val fun t => lw t j) = cum σ lw t j - lw t j := by
    intro j
    have h := before_succ σ (σ t).val (σ t).isLt fun t => lw t j
    rw [before_upto] at h
    unfold cum
    rw [h]; simp
  have h := read_state σ lw kd kka kk v s0 (σ t).val (σ t).isLt.le (fun j => -kk t j)
  have hl : removal σ lw kd kka kk v s0 t = ∑ j, stateAt σ lw kd kka kk v s0 (σ t).val j * (-kk t j) := by
    unfold removal; simp
  rw [hl, h]
  have ha : ∀ j, -kk t j * Real.exp (before σ (σ t).val fun t => lw t j) = aT σ lw kk t j := by
    intro j; rw [hc]; unfold aT; ring
  simp only [ha]
  rw [add_assoc]
  congr 1
  rw [← Finset.sum_add_distrib]
  unfold before strictProd
  refine Finset.sum_congr rfl fun s _ => ?_
  simp only [Fin.lt_def]
  split
  · ring
  · simp

/-- The row's reading after token `t`'s step. -/
theorem read_after (t : Fin L) :
    ∑ j, stateAt σ lw kd kka kk v s0 ((σ t).val + 1) j * r t j
      = (∑ j, rT σ lw r t j * s0 j)
        + (∑ s, inclProd σ (rT σ lw r) (kBar σ lw kd) t s * v s)
        + ∑ s, inclProd σ (rT σ lw r) (bBar σ lw kka) t s * removal σ lw kd kka kk v s0 s := by
  have hc : ∀ j, (before σ ((σ t).val + 1) fun t => lw t j) = cum σ lw t j := by
    intro j; rw [before_upto]; rfl
  have h := read_state σ lw kd kka kk v s0 ((σ t).val + 1) (σ t).isLt (fun j => r t j)
  rw [h]
  simp only [hc]
  rw [add_assoc]
  congr 1
  rw [← Finset.sum_add_distrib]
  unfold before inclProd
  refine Finset.sum_congr rfl fun s _ => ?_
  simp only [Fin.le_def, Nat.lt_succ_iff, rT]
  split
  · ring
  · simp

/-- The state row after the chunk. -/
theorem state_last (j : K) :
    stateAt σ lw kd kka kk v s0 L j
      = s0 j * Real.exp (∑ t, lw t j)
        + ∑ t, (removal σ lw kd kka kk v s0 t * (kka t j * Real.exp ((∑ t, lw t j) - cum σ lw t j))
            + v t * (kd t j * Real.exp ((∑ t, lw t j) - cum σ lw t j))) := by
  rw [stateAt_eq σ lw kd kka kk v s0 L le_rfl j, before_all, before_all, mul_add, Finset.mul_sum]
  congr 1
  · ring
  refine Finset.sum_congr rfl fun t _ => ?_
  rw [sub_eq_add_neg, Real.exp_add]; ring

end chunk

/-! ## The triangular inverse by doubling -/

/-- A matrix that only reaches strictly earlier tokens vanishes at the `L`-th power. -/
theorem pow_zero_of_strict (A : Matrix (Fin L) (Fin L) ℝ) (hA : ∀ t s, ¬ σ s < σ t → A t s = 0) : A ^ L = 0 := by
  have key : ∀ (n : ℕ) (t s : Fin L), (σ t).val < (σ s).val + n → (A ^ n) t s = 0 := by
    intro n
    induction n with
    | zero =>
      intro t s h
      have : t ≠ s := by rintro rfl; omega
      simp [this]
    | succ n ih =>
      intro t s h
      rw [pow_succ, Matrix.mul_apply]
      refine Finset.sum_eq_zero fun u _ => ?_
      by_cases hu : σ s < σ u
      · rw [ih t u (by rw [Fin.lt_def] at hu; omega), zero_mul]
      · rw [hA u s hu, mul_zero]
  ext t s
  rw [key L t s (by have := (σ t).isLt; omega)]
  rfl

/-- One doubling: from the inverse up to power `n` to the inverse up to power `2 n`. -/
theorem doubling {R : Type} [Ring R] (A acc pw : R) (n : ℕ) (hp : pw = A ^ n) (h : acc * (1 - A) = 1 - A ^ n) :
    (acc + acc * pw) * (1 - A) = 1 - A ^ (n + n) := by
  subst hp
  have hc : A ^ n * (1 - A) = (1 - A) * A ^ n := by
    rw [mul_sub, sub_mul, mul_one, one_mul, ← pow_succ, ← pow_succ']
  rw [add_mul, mul_assoc acc, hc, ← mul_assoc, h, pow_add]
  noncomm_ring

/-- The chunk's six squarings: `1 + A`, then five doublings with `A²`, `A⁴`, … `A³²`. -/
def inverse {R : Type} [Ring R] (A : R) : R :=
  let p2 := A * A
  let a4 := (1 + A) + (1 + A) * p2
  let p4 := p2 * p2
  let a8 := a4 + a4 * p4
  let p8 := p4 * p4
  let a16 := a8 + a8 * p8
  let p16 := p8 * p8
  let a32 := a16 + a16 * p16
  let p32 := p16 * p16
  a32 + a32 * p32

theorem inverse_mul {R : Type} [Ring R] (A : R) (h : A ^ 64 = 0) : inverse A * (1 - A) = 1 := by
  have sq : ∀ (p : R) (n : ℕ), p = A ^ n → p * p = A ^ (n + n) := by rintro p n rfl; rw [pow_add]
  unfold inverse
  have h2 : A * A = A ^ 2 := (sq A 1 (pow_one A).symm)
  have a2 : (1 + A) * (1 - A) = 1 - A ^ 2 := by rw [← h2]; noncomm_ring
  have h4 := sq _ _ h2
  have h8 := sq _ _ h4
  have h16 := sq _ _ h8
  have h32 := sq _ _ h16
  have a4 := doubling A _ _ _ h2 a2
  have a8 := doubling A _ _ _ h4 a4
  have a16 := doubling A _ _ _ h8 a8
  have a32 := doubling A _ _ _ h16 a16
  have a64 := doubling A _ _ _ h32 a32
  have e : A ^ (2 + 2 + (2 + 2) + (2 + 2 + (2 + 2)) + (2 + 2 + (2 + 2) + (2 + 2 + (2 + 2)))
      + (2 + 2 + (2 + 2) + (2 + 2 + (2 + 2)) + (2 + 2 + (2 + 2) + (2 + 2 + (2 + 2))))) = 0 := h
  dsimp only
  rw [a64, e, sub_zero]

/-- So the inverse applied to the system's right side is its solution. -/
theorem inverse_solves (τ : Equiv.Perm (Fin 64)) (A : Matrix (Fin 64) (Fin 64) ℝ)
    (hA : ∀ t s, ¬ τ s < τ t → A t s = 0) (u b : Fin 64 → ℝ) (h : ∀ t, u t = b t + ∑ s, A t s * u s) (t : Fin 64) :
    ∑ s, inverse A t s * b s = u t := by
  have hb : b = Matrix.mulVec (1 - A) u := by
    funext t
    rw [Matrix.sub_mulVec, Matrix.one_mulVec, Pi.sub_apply]
    have := h t
    simp only [Matrix.mulVec, dotProduct]
    linarith
  have : Matrix.mulVec (inverse A) b = u := by
    rw [hb, Matrix.mulVec_mulVec, inverse_mul A (pow_zero_of_strict τ A hA), Matrix.one_mulVec]
  exact congrFun this t

end Wkv

end
-- ==== Proof.Wkv.Exact.lean ====
/-
  The kernel's chunk at exact arithmetic is 64 steps of the recurrence: on finite blocks its result is what each token
  reads of the state after its own step, and its new state is the state after the last step.
-/
module

public import proofs.«01_k».proof.Proof.Wkv.Blocks
public import proofs.«01_k».proof.Proof.Wkv.Chunk

@[expose] public section

set_option maxRecDepth 65536

noncomputable section

namespace Wkv.Exact

open Cert.KernelIdeal Cert.KernelIdeal.Gen Idealize.ShloMosaic Idealize.ShloMosaic.TcCoe Wkv.Stage Wkv.Words Wkv.Blocks

variable (d : Fin 2) (LW KD KKA KK V R S : Heads)

/-- One state row through the chunk: head `h`, value channel `i`, before place `p`. -/
def rowAt (h : Fin 4) (i : Fin 64) (p : ℕ) : Fin 64 → ℝ :=
  stateAt (place d) (LW h) (KD h) (KKA h) (KK h) (fun t => V h t i) (S h i) p

/-- The removals of the chunk. -/
def gone : Heads := fun h t i => removal (place d) (LW h) (KD h) (KKA h) (KK h) (fun t => V h t i) (S h i) t

theorem rest_blk (x : Heads) : rest (blk x) = blk (fun _ _ _ => 0) := by
  unfold rest
  rw [truncf_blk, extf_blk, subf_blk]
  exact blk_congr _ _ fun h t c => sub_self _

theorem gathered_blk : gathered (sg d) (blk LW) = blk (fun h => cum (place d) (LW h)) := by
  unfold gathered
  rw [rest_blk, truncf_blk, truncf_blk, mulTri_blk, mulTri_blk, addf_blk]
  refine blk_congr _ _ fun h t c => ?_
  show (∑ s, if place d s ≤ place d t then LW h s c else 0) + (∑ s, if place d s ≤ place d t then (0 : ℝ) else 0) = _
  simp only [ite_self, Finset.sum_const_zero, add_zero]
  rfl

theorem expNeg_blk : expNeg (sg d) (blk LW) = blk (fun h t c => Real.exp (-cum (place d) (LW h) t c)) := by
  unfold expNeg
  rw [gathered_blk, zero64_blk, subf_blk, exp_blk]
  exact blk_congr _ _ fun h t c => congrArg Real.exp (zero_sub _)

theorem broadcast_row (m : Fin 4 → Fin 64 → ℝ) :
    broadcastTo S64x256 (row (e := .f32) m) broadcasts_S1x256_S64x256 = blk (fun h t c => m h c) := by
  funext j; idx_vars j
  pointwise [row_apply, blk_apply]

theorem expRest_blk :
    expRest (sg d) (blk LW) = blk (fun h t c => Real.exp ((∑ t, LW h t c) - cum (place d) (LW h) t c)) := by
  unfold expRest
  rw [gathered_blk, total_blk, broadcast_row, subf_blk, exp_blk]

theorem readers_blk : readers (sg d) (blk LW) (blk KK) (blk R)
    = pair (blk (fun h => aT (place d) (LW h) (KK h))) (blk (fun h => rT (place d) (LW h) (R h))) := by
  unfold readers
  rw [gathered_blk, subf_blk, exp_blk, exp_blk, mulf_blk, mulf_blk, zero64_blk, subf_blk]
  congr 1
  exact blk_congr _ _ fun h t c => zero_sub _

theorem keysB_blk : mulf (blk KKA) (expNeg (sg d) (blk LW)) = blk (fun h => bBar (place d) (LW h) (KKA h)) := by
  rw [expNeg_blk, mulf_blk]
  rfl
theorem keysK_blk : mulf (blk KD) (expNeg (sg d) (blk LW)) = blk (fun h => kBar (place d) (LW h) (KD h)) := by
  rw [expNeg_blk, mulf_blk]
  rfl

theorem aab_blk : aab (sg d) (blk LW) (blk KKA) (blk KK) (blk R)
    = blk (fun h => strictProd (place d) (aT (place d) (LW h) (KK h)) (bBar (place d) (LW h) (KKA h))) := by
  unfold aab prodB
  rw [readers_blk, keysB_blk, spread_blk, top_mulT, select_strict]
  exact blk_congr _ _ fun h t c => rfl
theorem aak_blk : aak (sg d) (blk LW) (blk KD) (blk KK) (blk R)
    = blk (fun h => strictProd (place d) (aT (place d) (LW h) (KK h)) (kBar (place d) (LW h) (KD h))) := by
  unfold aak prodK
  rw [readers_blk, keysK_blk, spread_blk, top_mulT, select_strict]
  exact blk_congr _ _ fun h t c => rfl
theorem arb_blk : arb (sg d) (blk LW) (blk KKA) (blk KK) (blk R)
    = blk (fun h => inclProd (place d) (rT (place d) (LW h) (R h)) (bBar (place d) (LW h) (KKA h))) := by
  unfold arb prodB
  rw [readers_blk, keysB_blk, spread_blk, bottom_mulT, select_incl]
  exact blk_congr _ _ fun h t c => rfl
theorem ark_blk : ark (sg d) (blk LW) (blk KD) (blk KK) (blk R)
    = blk (fun h => inclProd (place d) (rT (place d) (LW h) (R h)) (kBar (place d) (LW h) (KD h))) := by
  unfold ark prodK
  rw [readers_blk, keysK_blk, spread_blk, bottom_mulT, select_incl]
  exact blk_congr _ _ fun h t c => rfl

theorem accNext_blk (x y : Heads) : accNext (blk x) (blk y) = blk (fun h t c => x h t c + mm x y h t c) := by
  unfold accNext both
  rw [spread_blk, top_mul128, addf_blk]
theorem pwNext_blk (x y : Heads) : pwNext (blk x) (blk y) = blk (mm y y) := by
  unfold pwNext both
  rw [spread_blk, bottom_mul128]

/-- One head's matrix of a block, and the triangular inverse of a matrix entry by entry. -/
def toM (x : Heads) (h : Fin 4) : Matrix (Fin 64) (Fin 64) ℝ := Matrix.of (x h)
def inverseOf (A : Fin 64 → Fin 64 → ℝ) (t s : Fin 64) : ℝ := inverse (Matrix.of A) t s

theorem toM_mm (x y : Heads) (h : Fin 4) : toM (mm x y) h = toM x h * toM y h := rfl
theorem toM_add (x y : Heads) (h : Fin 4) : toM (fun h t c => x h t c + y h t c) h = toM x h + toM y h := rfl
theorem toM_one (h : Fin 4) : toM (fun h t s => if t = s then 1 else 0) h = 1 := by
  ext t s
  exact (Matrix.one_apply (i := t) (j := s)).symm

theorem eq_of_toM {x y : Heads} (h : ∀ a, toM x a = toM y a) : x = y := funext fun a => h a

/-- The triangular inverse, head by head. -/
theorem inv_blk (A : Heads) : Stage.inv (sg d) (blk A) = blk (fun h => inverseOf (A h)) := by
  unfold Stage.inv
  dsimp only
  rw [select_eye, addf_blk, spread_blk, mul64_blk]
  simp only [accNext_blk, pwNext_blk, spread_blk, mul64_blk, addf_blk]
  refine congrArg blk (eq_of_toM ?_)
  intro h
  change _ = inverse (toM A h)
  unfold inverse
  dsimp only
  simp only [toM_add, toM_mm, toM_one]

theorem inverseOf_solves (A : Fin 64 → Fin 64 → ℝ)
    (hA : ∀ t s, ¬ place d s < place d t → A t s = 0) (u b : Fin 64 → ℝ) (h : ∀ t, u t = b t + ∑ s, A t s * u s) (t : Fin 64) :
    ∑ s, inverseOf A t s * b s = u t := inverse_solves (place d) A hA u b h t

theorem ofState_blk : ofState (sg d) (blk LW) (blk KK) (blk R) (diag S)
    = mulT (pair (blk (fun h => aT (place d) (LW h) (KK h))) (blk (fun h => rT (place d) (LW h) (R h)))) (diag S) := by
  unfold ofState
  rw [readers_blk, truncf_diag]

theorem removals_blk :
    removals (sg d) (blk LW) (blk KD) (blk KKA) (blk KK) (blk V) (blk R) (diag S) = blk (gone d LW KD KKA KK V S) := by
  unfold removals ofValue
  rw [ofState_blk, aab_blk, aak_blk, ark_blk, inv_blk, spread_blk, top_mulT, top_mul128, addf_blk, spread_blk, mul64_blk]
  refine blk_congr _ _ fun h t c => ?_
  refine inverseOf_solves d _ (fun t s hts => if_neg hts) (fun t => gone d LW KD KKA KK V S h t c) _ (fun t => ?_) t
  exact removal_system (place d) (LW h) (KD h) (KKA h) (KK h) (fun t => V h t c) (S h c) t

/-- The chunk's result: each token reads the state after its own step. -/
theorem outY_blk :
    outY (sg d) (blk LW) (blk KD) (blk KKA) (blk KK) (blk V) (blk R) (diag S)
      = blk (fun h t i => ∑ j, rowAt d LW KD KKA KK V S h i ((place d t).val + 1) j * R h t j) := by
  unfold outY
  rw [removals_blk]
  unfold ofValue
  rw [ofState_blk, aak_blk, ark_blk, arb_blk, spread_blk, spread_blk, bottom_mulT, bottom_mul128, mul64_blk, addf_blk, addf_blk]
  refine blk_congr _ _ fun h t i => ?_
  exact (read_after (place d) (LW h) (KD h) (KKA h) (KK h) (R h) (fun t => V h t i) (S h i) t).symm

/-- The chunk's new state: the state after the last step. -/
theorem outS_diag :
    outS (sg d) (blk LW) (blk KD) (blk KKA) (blk KK) (blk V) (blk R) (diag S)
      = diag (fun h i => rowAt d LW KD KKA KK V S h i 64) := by
  unfold outS update
  rw [removals_blk, expRest_blk, total_blk, exp_row, mulf_blk, mulf_blk, state_diag]
  congr 1
  funext h i j
  refine Eq.trans ?_ (state_last (place d) (LW h) (KD h) (KKA h) (KK h) (fun t => V h t i) (S h i) j).symm
  rw [Finset.sum_add_distrib]
  rfl

end Wkv.Exact

end
-- ==== Proof.Wkv.Body.lean ====
/-
  What one grid point's body leaves: in the output block and in the carried state, group by group, as functions of the
  input blocks and of the state before.
-/
module

public import proofs.«01_k».proof.Proof.Wkv.Stages
public import proofs.«01_k».proof.Proof.Gen.KernelIdeal.Value
public import Idealize.ShloMosaic.Lib.Pipeline.ReadBack
public import Idealize.ShloMosaic.Lib.Pipeline.ValueKit
public import Idealize.ShloMosaic.Lib.ValueIdx

@[expose] public section

set_option maxRecDepth 65536

noncomputable section

namespace Wkv.Body

open Cert.KernelIdeal Cert.KernelIdeal.Gen Idealize.ShloMosaic Idealize.ShloMosaic.TcCoe Idealize.SL.Sem Wkv.Stage

variable {F : FTy → Type} [FloatOps F]

/-! ## One head group of each block -/

/-- Lane `l` of head group `h`. -/
def laneOf (h : Fin 4) (l : Fin 256) : Fin 1024 := ⟨256 * h.val + l.val, by omega⟩

def lanes3 {e : EltTy} (h : Fin 4) (x : Vec F S1x64x1024 e) : Vec F S1x64x256 e := fun j => x (ValueIdx.ix3 (j 0) (j 1) (laneOf h (j 2)))
def lanes2 {e : EltTy} (h : Fin 4) (x : Vec F S64x1024 e) : Vec F S64x256 e := fun j => x (ValueIdx.ix2 (j 0) (laneOf h (j 1)))
def slab (h : Fin 4) (x : Vec F S4x256x256 .f32) : Vec F S1x256x256 .f32 := fun j => x (ValueIdx.ix3 h (j 1) (j 2))

theorem ld_lanes3 {e : EltTy} (x : Vec F S1x64x1024 e) (h : Fin 4) (o : ℕ) (ho : o = 256 * h.val)
    (inb : ∀ a, (![0, 0, o] : Fin 3 → ℕ) a + S1x64x256.size a ≤ S1x64x1024.size a) :
    View.ld x (Rect.unit (s := S1x64x1024) ![0, 0, o] S1x64x256.size inb) = lanes3 h x := by
  funext j
  refine View.ld_unit_apply_of x _ _ inb j _ fun a => ?_
  match a with
  | ⟨0, _⟩ => exact (Nat.zero_add _).symm
  | ⟨1, _⟩ => exact (Nat.zero_add _).symm
  | ⟨2, _⟩ => subst ho; rfl

theorem ld_lanes2 {e : EltTy} (x : Vec F S64x1024 e) (h : Fin 4) (o : ℕ) (ho : o = 256 * h.val)
    (inb : ∀ a, (![0, o] : Fin 2 → ℕ) a + S64x256.size a ≤ S64x1024.size a) :
    View.ld x (Rect.unit (s := S64x1024) ![0, o] S64x256.size inb) = lanes2 h x := by
  funext j
  refine View.ld_unit_apply_of x _ _ inb j _ fun a => ?_
  match a with
  | ⟨0, _⟩ => exact (Nat.zero_add _).symm
  | ⟨1, _⟩ => subst ho; rfl

theorem ld_slab (x : Vec F S4x256x256 .f32) (h : Fin 4) (o : ℕ) (ho : o = h.val)
    (inb : ∀ a, (![o, 0, 0] : Fin 3 → ℕ) a + S1x256x256.size a ≤ S4x256x256.size a) :
    View.ld x (Rect.unit (s := S4x256x256) ![o, 0, 0] S1x256x256.size inb) = slab h x := by
  funext j
  refine View.ld_unit_apply_of x _ _ inb j _ fun a => ?_
  match a with
  | ⟨0, _⟩ =>
    have h0 : (j 0 : ℕ) < 1 := (j 0).isLt
    show (h : ℕ) = o + (j 0 : ℕ)
    omega
  | ⟨1, _⟩ => exact (Nat.zero_add _).symm
  | ⟨2, _⟩ => exact (Nat.zero_add _).symm

section next

variable (g : BitVec 32) (x0 : Vec F S1x64x1024 .f32) (x1 x2 : Vec F S1x64x1024 .bf16) (x3 x4 x5 : Vec F S64x1024 .bf16)
  (s : Vec F S4x256x256 .f32)

/-- Head group `h` of the new state and of the result. -/
def groupS (h : Fin 4) : Vec F S1x256x256 .f32 :=
  storeS g (lanes3 h x0) (lanes3 h x1) (lanes3 h x2) (lanes2 h x3) (lanes2 h x4) (lanes2 h x5) (slab h s)
def groupY (h : Fin 4) : Vec F S1x64x256 .bf16 :=
  storeY g (lanes3 h x0) (lanes3 h x1) (lanes3 h x2) (lanes2 h x3) (lanes2 h x4) (lanes2 h x5) (slab h s)

/-- The state after the point, and the output block. -/
def nextS : Vec F S4x256x256 .f32 := fun y => groupS g x0 x1 x2 x3 x4 x5 s (y 0) (ValueIdx.ix3 0 (y 1) (y 2))
def nextY : Vec F S1x64x1024 .bf16 := fun y =>
  groupY g x0 x1 x2 x3 x4 x5 s ⟨(y 2).val / 256, by have h : (y 2).val < 1024 := (y 2).isLt; omega⟩
    (ValueIdx.ix3 0 (y 1) ⟨(y 2).val % 256, Nat.mod_lt _ (by omega)⟩)

theorem nextS_piece (h : Fin 4) (o : ℕ) (ho : o = h.val)
    (inb : ∀ a, (![o, 0, 0] : Fin 3 → ℕ) a + (![1, 256, 256] : Fin 3 → ℕ) a ≤ S4x256x256.size a) (x : S1x256x256.Idx) :
    groupS g x0 x1 x2 x3 x4 x5 s h x
      = nextS g x0 x1 x2 x3 x4 x5 s ((Rect.unit (s := S4x256x256) ![o, 0, 0] ![1, 256, 256] inb).emb x) := by
  have hx : (x 0 : ℕ) < 1 := (x 0).isLt
  have e : (Rect.unit (s := S4x256x256) ![o, 0, 0] ![1, 256, 256] inb).emb x = ValueIdx.ix3 h (x 1) (x 2) := by
    funext a
    apply Fin.ext
    refine (Rect.idx_unit_val (s := S4x256x256) ![o, 0, 0] ![1, 256, 256] inb x a).trans ?_
    match a with
    | ⟨0, _⟩ => show o + (x 0 : ℕ) = (h : ℕ); omega
    | ⟨1, _⟩ => exact Nat.zero_add _
    | ⟨2, _⟩ => exact Nat.zero_add _
  rw [e]
  show groupS g x0 x1 x2 x3 x4 x5 s h x = groupS g x0 x1 x2 x3 x4 x5 s h (ValueIdx.ix3 0 (x 1) (x 2))
  congr 1
  funext a
  match a with
  | ⟨0, _⟩ => exact Fin.ext (Nat.lt_one_iff.mp hx)
  | ⟨1, _⟩ => rfl
  | ⟨2, _⟩ => rfl

theorem nextY_piece (h : Fin 4) (o : ℕ) (ho : o = 256 * h.val)
    (inb : ∀ a, (![0, 0, o] : Fin 3 → ℕ) a + (![1, 64, 256] : Fin 3 → ℕ) a ≤ S1x64x1024.size a) (x : S1x64x256.Idx) :
    groupY g x0 x1 x2 x3 x4 x5 s h x
      = nextY g x0 x1 x2 x3 x4 x5 s ((Rect.unit (s := S1x64x1024) ![0, 0, o] ![1, 64, 256] inb).emb x) := by
  have hx : (x 0 : ℕ) < 1 := (x 0).isLt
  have hx2 : (x 2 : ℕ) < 256 := (x 2).isLt
  have e : (Rect.unit (s := S1x64x1024) ![0, 0, o] ![1, 64, 256] inb).emb x = ValueIdx.ix3 0 (x 1) (laneOf h (x 2)) := by
    funext a
    apply Fin.ext
    refine (Rect.idx_unit_val (s := S1x64x1024) ![0, 0, o] ![1, 64, 256] inb x a).trans ?_
    match a with
    | ⟨0, _⟩ => show 0 + (x 0 : ℕ) = 0; omega
    | ⟨1, _⟩ => exact Nat.zero_add _
    | ⟨2, _⟩ => subst ho; rfl
  rw [e]
  unfold nextY
  have e1 : (⟨((ValueIdx.ix3 (0 : Fin 1) (x 1) (laneOf h (x 2)) : S1x64x1024.Idx) 2).val / 256, by
      have h : ((ValueIdx.ix3 (0 : Fin 1) (x 1) (laneOf h (x 2)) : S1x64x1024.Idx) 2).val < 1024 := (laneOf h (x 2)).isLt
      omega⟩ : Fin 4) = h := Fin.ext (by show (256 * h.val + (x 2).val) / 256 = h.val; omega)
  have e2 : (⟨((ValueIdx.ix3 (0 : Fin 1) (x 1) (laneOf h (x 2)) : S1x64x1024.Idx) 2).val % 256, Nat.mod_lt _ (by omega)⟩ : Fin 256) = x 2 :=
    Fin.ext (by show (256 * h.val + (x 2).val) % 256 = (x 2).val; omega)
  rw [e1, e2]
  congr 1
  funext a
  match a with
  | ⟨0, _⟩ => exact Fin.ext (Nat.lt_one_iff.mp hx)
  | ⟨1, _⟩ => rfl
  | ⟨2, _⟩ => rfl

end next

/-! ## The three kinds of points: the first of a sequence, the middle ones, the last -/

/-- The initial state as the first point stores it. -/
def startS (x6 : Vec F S1x1x4x256x256 .f32) : Vec F S4x256x256 .f32 := shapeCast S4x256x256 x6 shapeCasts_S1x1x4x256x256_S4x256x256

section first

variable (c : Dev nD) (i : grid0.Coords)
    (a3 : Memref sig .tc .vmem S1x64x1024 .f32) (h3 : a3.IsWhole) (a4 : Memref sig .tc .vmem S1x64x1024 .bf16) (h4 : a4.IsWhole)
    (a5 : Memref sig .tc .vmem S1x64x1024 .bf16) (h5 : a5.IsWhole) (a6 : Memref sig .tc .vmem S64x1024 .bf16) (h6 : a6.IsWhole)
    (a7 : Memref sig .tc .vmem S64x1024 .bf16) (h7 : a7.IsWhole) (a8 : Memref sig .tc .vmem S64x1024 .bf16) (h8 : a8.IsWhole)
    (a9 : Memref sig .tc .vmem S1x1x4x256x256 .f32) (h9 : a9.IsWhole) (a10 : Memref sig .tc .vmem S1x64x1024 .bf16) (h10 : a10.IsWhole)
    (a11 : Memref sig .tc .vmem S1x1x4x256x256 .f32) (h11 : a11.IsWhole) (a12 : Memref sig .tc .vmem S4x256x256 .f32) (h12 : a12.IsWhole)
    (x0 : Vec F S1x64x1024 .f32) (x1 x2 : Vec F S1x64x1024 .bf16) (x3 x4 x5 : Vec F S64x1024 .bf16)
    (x6 : Vec F S1x1x4x256x256 .f32)

/-- What the first point has stored into the state, after the initial state and after each head group. -/
def put0 : List (View.Piece (Elt F) S4x256x256 .f32) :=
  [⟨Rect.unit (s := S4x256x256) ![0, 0, 0] S4x256x256.size inb_S4x256x256_S4x256x256_0_0_0, k0_pay3 (View.readAt (Elt F) a9.view (Rect.unit (s := S1x1x4x256x256) ![0, 0, 0, 0, 0] S1x1x4x256x256.size inb_S1x1x4x256x256_S1x1x4x256x256_0_0_0_0_0).toLoadRect (h9.unread x6))⟩]
def put1 : List (View.Piece (Elt F) S4x256x256 .f32) :=
  ⟨(Rect.unit (s := S4x256x256) ![0, 0, 0] ![1, 256, 256] inb_S4x256x256_S1x256x256_0_0_0), storeS (sgn (BitVec.ofNat 32 (i 0).val))
      (View.readAt (Elt F) a3.view (Rect.unit (s := S1x64x1024) ![0, 0, 0] S1x64x256.size inb_S1x64x1024_S1x64x256_0_0_0).toLoadRect (h3.unread x0))
      (View.readAt (Elt F) a4.view (Rect.unit (s := S1x64x1024) ![0, 0, 0] S1x64x256.size inb_S1x64x1024_S1x64x256_0_0_0).toLoadRect (h4.unread x1))
      (View.readAt (Elt F) a5.view (Rect.unit (s := S1x64x1024) ![0, 0, 0] S1x64x256.size inb_S1x64x1024_S1x64x256_0_0_0).toLoadRect (h5.unread x2))
      (View.readAt (Elt F) a6.view (Rect.unit (s := S64x1024) ![0, 0] S64x256.size inb_S64x1024_S64x256_0_0).toLoadRect (h6.unread x3))
      (View.readAt (Elt F) a7.view (Rect.unit (s := S64x1024) ![0, 0] S64x256.size inb_S64x1024_S64x256_0_0).toLoadRect (h7.unread x4))
      (View.readAt (Elt F) a8.view (Rect.unit (s := S64x1024) ![0, 0] S64x256.size inb_S64x1024_S64x256_0_0).toLoadRect (h8.unread x5))
      (a12.view.readCov (put0 a9 h9 x6) (Rect.unit (s := S4x256x256) ![0, 0, 0] S1x256x256.size inb_S4x256x256_S1x256x256_0_0_0).toLoadRect)⟩ :: put0 a9 h9 x6
def put2 : List (View.Piece (Elt F) S4x256x256 .f32) :=
  ⟨(Rect.unit (s := S4x256x256) ![1, 0, 0] ![1, 256, 256] inb_S4x256x256_S1x256x256_1_0_0), storeS (sgn (BitVec.ofNat 32 (i 0).val))
      (View.readAt (Elt F) a3.view (Rect.unit (s := S1x64x1024) ![0, 0, 256] S1x64x256.size inb_S1x64x1024_S1x64x256_0_0_256).toLoadRect (h3.unread x0))
      (View.readAt (Elt F) a4.view (Rect.unit (s := S1x64x1024) ![0, 0, 256] S1x64x256.size inb_S1x64x1024_S1x64x256_0_0_256).toLoadRect (h4.unread x1))
      (View.readAt (Elt F) a5.view (Rect.unit (s := S1x64x1024) ![0, 0, 256] S1x64x256.size inb_S1x64x1024_S1x64x256_0_0_256).toLoadRect (h5.unread x2))
      (View.readAt (Elt F) a6.view (Rect.unit (s := S64x1024) ![0, 256] S64x256.size inb_S64x1024_S64x256_0_256).toLoadRect (h6.unread x3))
      (View.readAt (Elt F) a7.view (Rect.unit (s := S64x1024) ![0, 256] S64x256.size inb_S64x1024_S64x256_0_256).toLoadRect (h7.unread x4))
      (View.readAt (Elt F) a8.view (Rect.unit (s := S64x1024) ![0, 256] S64x256.size inb_S64x1024_S64x256_0_256).toLoadRect (h8.unread x5))
      (a12.view.readCov (put1 i a3 h3 a4 h4 a5 h5 a6 h6 a7 h7 a8 h8 a9 h9 a12 x0 x1 x2 x3 x4 x5 x6) (Rect.unit (s := S4x256x256) ![1, 0, 0] S1x256x256.size inb_S4x256x256_S1x256x256_1_0_0).toLoadRect)⟩ :: put1 i a3 h3 a4 h4 a5 h5 a6 h6 a7 h7 a8 h8 a9 h9 a12 x0 x1 x2 x3 x4 x5 x6
def put3 : List (View.Piece (Elt F) S4x256x256 .f32) :=
  ⟨(Rect.unit (s := S4x256x256) ![2, 0, 0] ![1, 256, 256] inb_S4x256x256_S1x256x256_2_0_0), storeS (sgn (BitVec.ofNat 32 (i 0).val))
      (View.readAt (Elt F) a3.view (Rect.unit (s := S1x64x1024) ![0, 0, 512] S1x64x256.size inb_S1x64x1024_S1x64x256_0_0_512).toLoadRect (h3.unread x0))
      (View.readAt (Elt F) a4.view (Rect.unit (s := S1x64x1024) ![0, 0, 512] S1x64x256.size inb_S1x64x1024_S1x64x256_0_0_512).toLoadRect (h4.unread x1))
      (View.readAt (Elt F) a5.view (Rect.unit (s := S1x64x1024) ![0, 0, 512] S1x64x256.size inb_S1x64x1024_S1x64x256_0_0_512).toLoadRect (h5.unread x2))
      (View.readAt (Elt F) a6.view (Rect.unit (s := S64x1024) ![0, 512] S64x256.size inb_S64x1024_S64x256_0_512).toLoadRect (h6.unread x3))
      (View.readAt (Elt F) a7.view (Rect.unit (s := S64x1024) ![0, 512] S64x256.size inb_S64x1024_S64x256_0_512).toLoadRect (h7.unread x4))
      (View.readAt (Elt F) a8.view (Rect.unit (s := S64x1024) ![0, 512] S64x256.size inb_S64x1024_S64x256_0_512).toLoadRect (h8.unread x5))
      (a12.view.readCov (put2 i a3 h3 a4 h4 a5 h5 a6 h6 a7 h7 a8 h8 a9 h9 a12 x0 x1 x2 x3 x4 x5 x6) (Rect.unit (s := S4x256x256) ![2, 0, 0] S1x256x256.size inb_S4x256x256_S1x256x256_2_0_0).toLoadRect)⟩ :: put2 i a3 h3 a4 h4 a5 h5 a6 h6 a7 h7 a8 h8 a9 h9 a12 x0 x1 x2 x3 x4 x5 x6
def put4 : List (View.Piece (Elt F) S4x256x256 .f32) :=
  ⟨(Rect.unit (s := S4x256x256) ![3, 0, 0] ![1, 256, 256] inb_S4x256x256_S1x256x256_3_0_0), storeS (sgn (BitVec.ofNat 32 (i 0).val))
      (View.readAt (Elt F) a3.view (Rect.unit (s := S1x64x1024) ![0, 0, 768] S1x64x256.size inb_S1x64x1024_S1x64x256_0_0_768).toLoadRect (h3.unread x0))
      (View.readAt (Elt F) a4.view (Rect.unit (s := S1x64x1024) ![0, 0, 768] S1x64x256.size inb_S1x64x1024_S1x64x256_0_0_768).toLoadRect (h4.unread x1))
      (View.readAt (Elt F) a5.view (Rect.unit (s := S1x64x1024) ![0, 0, 768] S1x64x256.size inb_S1x64x1024_S1x64x256_0_0_768).toLoadRect (h5.unread x2))
      (View.readAt (Elt F) a6.view (Rect.unit (s := S64x1024) ![0, 768] S64x256.size inb_S64x1024_S64x256_0_768).toLoadRect (h6.unread x3))
      (View.readAt (Elt F) a7.view (Rect.unit (s := S64x1024) ![0, 768] S64x256.size inb_S64x1024_S64x256_0_768).toLoadRect (h7.unread x4))
      (View.readAt (Elt F) a8.view (Rect.unit (s := S64x1024) ![0, 768] S64x256.size inb_S64x1024_S64x256_0_768).toLoadRect (h8.unread x5))
      (a12.view.readCov (put3 i a3 h3 a4 h4 a5 h5 a6 h6 a7 h7 a8 h8 a9 h9 a12 x0 x1 x2 x3 x4 x5 x6) (Rect.unit (s := S4x256x256) ![3, 0, 0] S1x256x256.size inb_S4x256x256_S1x256x256_3_0_0).toLoadRect)⟩ :: put3 i a3 h3 a4 h4 a5 h5 a6 h6 a7 h7 a8 h8 a9 h9 a12 x0 x1 x2 x3 x4 x5 x6

omit [FloatOps F] in
theorem start_eq : k0_pay3 (View.readAt (Elt F) a9.view (Rect.unit (s := S1x1x4x256x256) ![0, 0, 0, 0, 0] S1x1x4x256x256.size inb_S1x1x4x256x256_S1x1x4x256x256_0_0_0_0_0).toLoadRect (h9.unread x6)) = startS x6 := by
  have e : View.readAt (Elt F) a9.view (Rect.unit (s := S1x1x4x256x256) ![0, 0, 0, 0, 0] S1x1x4x256x256.size inb_S1x1x4x256x256_S1x1x4x256x256_0_0_0_0_0).toLoadRect (h9.unread x6) = x6 := by
    rw [View.readAt_eq_ld, h9.read_unread]
    exact View.ld_unit_zero (S := S1x1x4x256x256) (funext fun a => by fin_cases a <;> rfl) _ _
  rw [e]
  unfold startS k0_pay3
  exact shapeCast_self _ _

theorem load0 : (a12.view.readCov (put0 a9 h9 x6) (Rect.unit (s := S4x256x256) ![0, 0, 0] S1x256x256.size inb_S4x256x256_S1x256x256_0_0_0).toLoadRect) = slab 0 (startS x6) := by
  unfold put0
  skip
  rw [View.readCov_fill _ _ _ _ _ (fun a => by fin_cases a <;> rfl), start_eq, ld_slab _ 0 0 rfl]

theorem load1 : (a12.view.readCov (put1 i a3 h3 a4 h4 a5 h5 a6 h6 a7 h7 a8 h8 a9 h9 a12 x0 x1 x2 x3 x4 x5 x6) (Rect.unit (s := S4x256x256) ![1, 0, 0] S1x256x256.size inb_S4x256x256_S1x256x256_1_0_0).toLoadRect) = slab 1 (startS x6) := by
  unfold put1 put0
  rw [View.readCov_skip _ _ _ _ _ (by decide)]
  rw [View.readCov_fill _ _ _ _ _ (fun a => by fin_cases a <;> rfl), start_eq, ld_slab _ 1 1 rfl]

theorem load2 : (a12.view.readCov (put2 i a3 h3 a4 h4 a5 h5 a6 h6 a7 h7 a8 h8 a9 h9 a12 x0 x1 x2 x3 x4 x5 x6) (Rect.unit (s := S4x256x256) ![2, 0, 0] S1x256x256.size inb_S4x256x256_S1x256x256_2_0_0).toLoadRect) = slab 2 (startS x6) := by
  unfold put2 put1 put0
  rw [View.readCov_skip _ _ _ _ _ (by decide), View.readCov_skip _ _ _ _ _ (by decide)]
  rw [View.readCov_fill _ _ _ _ _ (fun a => by fin_cases a <;> rfl), start_eq, ld_slab _ 2 2 rfl]

theorem load3 : (a12.view.readCov (put3 i a3 h3 a4 h4 a5 h5 a6 h6 a7 h7 a8 h8 a9 h9 a12 x0 x1 x2 x3 x4 x5 x6) (Rect.unit (s := S4x256x256) ![3, 0, 0] S1x256x256.size inb_S4x256x256_S1x256x256_3_0_0).toLoadRect) = slab 3 (startS x6) := by
  unfold put3 put2 put1 put0
  rw [View.readCov_skip _ _ _ _ _ (by decide), View.readCov_skip _ _ _ _ _ (by decide), View.readCov_skip _ _ _ _ _ (by decide)]
  rw [View.readCov_fill _ _ _ _ _ (fun a => by fin_cases a <;> rfl), start_eq, ld_slab _ 3 3 rfl]

theorem put1_eq : put1 i a3 h3 a4 h4 a5 h5 a6 h6 a7 h7 a8 h8 a9 h9 a12 x0 x1 x2 x3 x4 x5 x6 = ⟨(Rect.unit (s := S4x256x256) ![0, 0, 0] ![1, 256, 256] inb_S4x256x256_S1x256x256_0_0_0), groupS (sgn (BitVec.ofNat 32 (i 0).val)) x0 x1 x2 x3 x4 x5 (startS x6) 0⟩ :: put0 a9 h9 x6 := by
  unfold put1
  rw [load0]
  simp only [View.readAt_eq_ld, h3.read_unread, h4.read_unread, h5.read_unread, h6.read_unread, h7.read_unread, h8.read_unread, ld_lanes3 _ 0 0 rfl, ld_lanes2 _ 0 0 rfl]
  rfl

theorem put2_eq : put2 i a3 h3 a4 h4 a5 h5 a6 h6 a7 h7 a8 h8 a9 h9 a12 x0 x1 x2 x3 x4 x5 x6 = ⟨(Rect.unit (s := S4x256x256) ![1, 0, 0] ![1, 256, 256] inb_S4x256x256_S1x256x256_1_0_0), groupS (sgn (BitVec.ofNat 32 (i 0).val)) x0 x1 x2 x3 x4 x5 (startS x6) 1⟩ :: put1 i a3 h3 a4 h4 a5 h5 a6 h6 a7 h7 a8 h8 a9 h9 a12 x0 x1 x2 x3 x4 x5 x6 := by
  unfold put2
  rw [load1]
  simp only [View.readAt_eq_ld, h3.read_unread, h4.read_unread, h5.read_unread, h6.read_unread, h7.read_unread, h8.read_unread, ld_lanes3 _ 1 256 rfl, ld_lanes2 _ 1 256 rfl]
  rfl

theorem put3_eq : put3 i a3 h3 a4 h4 a5 h5 a6 h6 a7 h7 a8 h8 a9 h9 a12 x0 x1 x2 x3 x4 x5 x6 = ⟨(Rect.unit (s := S4x256x256) ![2, 0, 0] ![1, 256, 256] inb_S4x256x256_S1x256x256_2_0_0), groupS (sgn (BitVec.ofNat 32 (i 0).val)) x0 x1 x2 x3 x4 x5 (startS x6) 2⟩ :: put2 i a3 h3 a4 h4 a5 h5 a6 h6 a7 h7 a8 h8 a9 h9 a12 x0 x1 x2 x3 x4 x5 x6 := by
  unfold put3
  rw [load2]
  simp only [View.readAt_eq_ld, h3.read_unread, h4.read_unread, h5.read_unread, h6.read_unread, h7.read_unread, h8.read_unread, ld_lanes3 _ 2 512 rfl, ld_lanes2 _ 2 512 rfl]
  rfl

theorem put4_eq : put4 i a3 h3 a4 h4 a5 h5 a6 h6 a7 h7 a8 h8 a9 h9 a12 x0 x1 x2 x3 x4 x5 x6 = ⟨(Rect.unit (s := S4x256x256) ![3, 0, 0] ![1, 256, 256] inb_S4x256x256_S1x256x256_3_0_0), groupS (sgn (BitVec.ofNat 32 (i 0).val)) x0 x1 x2 x3 x4 x5 (startS x6) 3⟩ :: put3 i a3 h3 a4 h4 a5 h5 a6 h6 a7 h7 a8 h8 a9 h9 a12 x0 x1 x2 x3 x4 x5 x6 := by
  unfold put4
  rw [load3]
  simp only [View.readAt_eq_ld, h3.read_unread, h4.read_unread, h5.read_unread, h6.read_unread, h7.read_unread, h8.read_unread, ld_lanes3 _ 3 768 rfl, ld_lanes2 _ 3 768 rfl]
  rfl

/-- The four head groups' pieces. -/
def groups (i : grid0.Coords)
    (x0 : Vec F S1x64x1024 .f32) (x1 x2 : Vec F S1x64x1024 .bf16) (x3 x4 x5 : Vec F S64x1024 .bf16)
    (x6 : Vec F S1x1x4x256x256 .f32) : List (View.Piece (Elt F) S4x256x256 .f32) :=
  [⟨(Rect.unit (s := S4x256x256) ![3, 0, 0] ![1, 256, 256] inb_S4x256x256_S1x256x256_3_0_0), groupS (sgn (BitVec.ofNat 32 (i 0).val)) x0 x1 x2 x3 x4 x5 (startS x6) 3⟩, ⟨(Rect.unit (s := S4x256x256) ![2, 0, 0] ![1, 256, 256] inb_S4x256x256_S1x256x256_2_0_0), groupS (sgn (BitVec.ofNat 32 (i 0).val)) x0 x1 x2 x3 x4 x5 (startS x6) 2⟩, ⟨(Rect.unit (s := S4x256x256) ![1, 0, 0] ![1, 256, 256] inb_S4x256x256_S1x256x256_1_0_0), groupS (sgn (BitVec.ofNat 32 (i 0).val)) x0 x1 x2 x3 x4 x5 (startS x6) 1⟩, ⟨(Rect.unit (s := S4x256x256) ![0, 0, 0] ![1, 256, 256] inb_S4x256x256_S1x256x256_0_0_0), groupS (sgn (BitVec.ofNat 32 (i 0).val)) x0 x1 x2 x3 x4 x5 (startS x6) 0⟩]

theorem all_puts : put4 i a3 h3 a4 h4 a5 h5 a6 h6 a7 h7 a8 h8 a9 h9 a12 x0 x1 x2 x3 x4 x5 x6 = groups i x0 x1 x2 x3 x4 x5 x6 ++ put0 a9 h9 x6 := by
  rw [put4_eq, put3_eq, put2_eq, put1_eq]
  rfl

end first

theorem storedA_S (c : Dev nD) (i : grid0.Coords)
    (a3 : Memref sig .tc .vmem S1x64x1024 .f32) (h3 : a3.IsWhole) (a4 : Memref sig .tc .vmem S1x64x1024 .bf16) (h4 : a4.IsWhole)
    (a5 : Memref sig .tc .vmem S1x64x1024 .bf16) (h5 : a5.IsWhole) (a6 : Memref sig .tc .vmem S64x1024 .bf16) (h6 : a6.IsWhole)
    (a7 : Memref sig .tc .vmem S64x1024 .bf16) (h7 : a7.IsWhole) (a8 : Memref sig .tc .vmem S64x1024 .bf16) (h8 : a8.IsWhole)
    (a9 : Memref sig .tc .vmem S1x1x4x256x256 .f32) (h9 : a9.IsWhole) (a10 : Memref sig .tc .vmem S1x64x1024 .bf16) (h10 : a10.IsWhole)
    (a11 : Memref sig .tc .vmem S1x1x4x256x256 .f32) (h11 : a11.IsWhole) (a12 : Memref sig .tc .vmem S4x256x256 .f32) (h12 : a12.IsWhole)
    (hc0 : cond0_0 i) (hc1 : ¬cond0_1 i)
    (x0 : Vec F S1x64x1024 .f32) (x1 x2 : Vec F S1x64x1024 .bf16) (x3 x4 x5 : Vec F S64x1024 .bf16)
    (x6 : Vec F S1x1x4x256x256 .f32) :
    (kernelRun0_A c i a3 h3 a4 h4 a5 h5 a6 h6 a7 h7 a8 h8 a9 h9 a10 h10 a11 h11 a12 h12 hc0 hc1 x0 x1 x2 x3 x4 x5 x6).2.2.1 = put4 i a3 h3 a4 h4 a5 h5 a6 h6 a7 h7 a8 h8 a9 h9 a12 x0 x1 x2 x3 x4 x5 x6 := by
  unfold kernelRun0_A
  dsimp only
  rfl

theorem storedA_Y (c : Dev nD) (i : grid0.Coords)
    (a3 : Memref sig .tc .vmem S1x64x1024 .f32) (h3 : a3.IsWhole) (a4 : Memref sig .tc .vmem S1x64x1024 .bf16) (h4 : a4.IsWhole)
    (a5 : Memref sig .tc .vmem S1x64x1024 .bf16) (h5 : a5.IsWhole) (a6 : Memref sig .tc .vmem S64x1024 .bf16) (h6 : a6.IsWhole)
    (a7 : Memref sig .tc .vmem S64x1024 .bf16) (h7 : a7.IsWhole) (a8 : Memref sig .tc .vmem S64x1024 .bf16) (h8 : a8.IsWhole)
    (a9 : Memref sig .tc .vmem S1x1x4x256x256 .f32) (h9 : a9.IsWhole) (a10 : Memref sig .tc .vmem S1x64x1024 .bf16) (h10 : a10.IsWhole)
    (a11 : Memref sig .tc .vmem S1x1x4x256x256 .f32) (h11 : a11.IsWhole) (a12 : Memref sig .tc .vmem S4x256x256 .f32) (h12 : a12.IsWhole)
    (hc0 : cond0_0 i) (hc1 : ¬cond0_1 i)
    (x0 : Vec F S1x64x1024 .f32) (x1 x2 : Vec F S1x64x1024 .bf16) (x3 x4 x5 : Vec F S64x1024 .bf16)
    (x6 : Vec F S1x1x4x256x256 .f32) :
    (kernelRun0_A c i a3 h3 a4 h4 a5 h5 a6 h6 a7 h7 a8 h8 a9 h9 a10 h10 a11 h11 a12 h12 hc0 hc1 x0 x1 x2 x3 x4 x5 x6).1 = [⟨Rect.unit (s := S1x64x1024) ![0, 0, 768] ![1, 64, 256] inb_S1x64x1024_S1x64x256_0_0_768, storeY (sgn (BitVec.ofNat 32 (i 0).val))
      (View.readAt (Elt F) a3.view (Rect.unit (s := S1x64x1024) ![0, 0, 768] S1x64x256.size inb_S1x64x1024_S1x64x256_0_0_768).toLoadRect (h3.unread x0))
      (View.readAt (Elt F) a4.view (Rect.unit (s := S1x64x1024) ![0, 0, 768] S1x64x256.size inb_S1x64x1024_S1x64x256_0_0_768).toLoadRect (h4.unread x1))
      (View.readAt (Elt F) a5.view (Rect.unit (s := S1x64x1024) ![0, 0, 768] S1x64x256.size inb_S1x64x1024_S1x64x256_0_0_768).toLoadRect (h5.unread x2))
      (View.readAt (Elt F) a6.view (Rect.unit (s := S64x1024) ![0, 768] S64x256.size inb_S64x1024_S64x256_0_768).toLoadRect (h6.unread x3))
      (View.readAt (Elt F) a7.view (Rect.unit (s := S64x1024) ![0, 768] S64x256.size inb_S64x1024_S64x256_0_768).toLoadRect (h7.unread x4))
      (View.readAt (Elt F) a8.view (Rect.unit (s := S64x1024) ![0, 768] S64x256.size inb_S64x1024_S64x256_0_768).toLoadRect (h8.unread x5))
      (a12.view.readCov (put3 i a3 h3 a4 h4 a5 h5 a6 h6 a7 h7 a8 h8 a9 h9 a12 x0 x1 x2 x3 x4 x5 x6) (Rect.unit (s := S4x256x256) ![3, 0, 0] S1x256x256.size inb_S4x256x256_S1x256x256_3_0_0).toLoadRect)⟩,
    ⟨Rect.unit (s := S1x64x1024) ![0, 0, 512] ![1, 64, 256] inb_S1x64x1024_S1x64x256_0_0_512, storeY (sgn (BitVec.ofNat 32 (i 0).val))
      (View.readAt (Elt F) a3.view (Rect.unit (s := S1x64x1024) ![0, 0, 512] S1x64x256.size inb_S1x64x1024_S1x64x256_0_0_512).toLoadRect (h3.unread x0))
      (View.readAt (Elt F) a4.view (Rect.unit (s := S1x64x1024) ![0, 0, 512] S1x64x256.size inb_S1x64x1024_S1x64x256_0_0_512).toLoadRect (h4.unread x1))
      (View.readAt (Elt F) a5.view (Rect.unit (s := S1x64x1024) ![0, 0, 512] S1x64x256.size inb_S1x64x1024_S1x64x256_0_0_512).toLoadRect (h5.unread x2))
      (View.readAt (Elt F) a6.view (Rect.unit (s := S64x1024) ![0, 512] S64x256.size inb_S64x1024_S64x256_0_512).toLoadRect (h6.unread x3))
      (View.readAt (Elt F) a7.view (Rect.unit (s := S64x1024) ![0, 512] S64x256.size inb_S64x1024_S64x256_0_512).toLoadRect (h7.unread x4))
      (View.readAt (Elt F) a8.view (Rect.unit (s := S64x1024) ![0, 512] S64x256.size inb_S64x1024_S64x256_0_512).toLoadRect (h8.unread x5))
      (a12.view.readCov (put2 i a3 h3 a4 h4 a5 h5 a6 h6 a7 h7 a8 h8 a9 h9 a12 x0 x1 x2 x3 x4 x5 x6) (Rect.unit (s := S4x256x256) ![2, 0, 0] S1x256x256.size inb_S4x256x256_S1x256x256_2_0_0).toLoadRect)⟩,
    ⟨Rect.unit (s := S1x64x1024) ![0, 0, 256] ![1, 64, 256] inb_S1x64x1024_S1x64x256_0_0_256, storeY (sgn (BitVec.ofNat 32 (i 0).val))
      (View.readAt (Elt F) a3.view (Rect.unit (s := S1x64x1024) ![0, 0, 256] S1x64x256.size inb_S1x64x1024_S1x64x256_0_0_256).toLoadRect (h3.unread x0))
      (View.readAt (Elt F) a4.view (Rect.unit (s := S1x64x1024) ![0, 0, 256] S1x64x256.size inb_S1x64x1024_S1x64x256_0_0_256).toLoadRect (h4.unread x1))
      (View.readAt (Elt F) a5.view (Rect.unit (s := S1x64x1024) ![0, 0, 256] S1x64x256.size inb_S1x64x1024_S1x64x256_0_0_256).toLoadRect (h5.unread x2))
      (View.readAt (Elt F) a6.view (Rect.unit (s := S64x1024) ![0, 256] S64x256.size inb_S64x1024_S64x256_0_256).toLoadRect (h6.unread x3))
      (View.readAt (Elt F) a7.view (Rect.unit (s := S64x1024) ![0, 256] S64x256.size inb_S64x1024_S64x256_0_256).toLoadRect (h7.unread x4))
      (View.readAt (Elt F) a8.view (Rect.unit (s := S64x1024) ![0, 256] S64x256.size inb_S64x1024_S64x256_0_256).toLoadRect (h8.unread x5))
      (a12.view.readCov (put1 i a3 h3 a4 h4 a5 h5 a6 h6 a7 h7 a8 h8 a9 h9 a12 x0 x1 x2 x3 x4 x5 x6) (Rect.unit (s := S4x256x256) ![1, 0, 0] S1x256x256.size inb_S4x256x256_S1x256x256_1_0_0).toLoadRect)⟩,
    ⟨Rect.unit (s := S1x64x1024) ![0, 0, 0] ![1, 64, 256] inb_S1x64x1024_S1x64x256_0_0_0, storeY (sgn (BitVec.ofNat 32 (i 0).val))
      (View.readAt (Elt F) a3.view (Rect.unit (s := S1x64x1024) ![0, 0, 0] S1x64x256.size inb_S1x64x1024_S1x64x256_0_0_0).toLoadRect (h3.unread x0))
      (View.readAt (Elt F) a4.view (Rect.unit (s := S1x64x1024) ![0, 0, 0] S1x64x256.size inb_S1x64x1024_S1x64x256_0_0_0).toLoadRect (h4.unread x1))
      (View.readAt (Elt F) a5.view (Rect.unit (s := S1x64x1024) ![0, 0, 0] S1x64x256.size inb_S1x64x1024_S1x64x256_0_0_0).toLoadRect (h5.unread x2))
      (View.readAt (Elt F) a6.view (Rect.unit (s := S64x1024) ![0, 0] S64x256.size inb_S64x1024_S64x256_0_0).toLoadRect (h6.unread x3))
      (View.readAt (Elt F) a7.view (Rect.unit (s := S64x1024) ![0, 0] S64x256.size inb_S64x1024_S64x256_0_0).toLoadRect (h7.unread x4))
      (View.readAt (Elt F) a8.view (Rect.unit (s := S64x1024) ![0, 0] S64x256.size inb_S64x1024_S64x256_0_0).toLoadRect (h8.unread x5))
      (a12.view.readCov (put0 a9 h9 x6) (Rect.unit (s := S4x256x256) ![0, 0, 0] S1x256x256.size inb_S4x256x256_S1x256x256_0_0_0).toLoadRect)⟩] := by
  unfold kernelRun0_A
  dsimp only
  rfl

attribute [local irreducible] put0 put1 put2 put3 put4

/-- The state after the first point. -/
theorem stateA (c : Dev nD) (i : grid0.Coords)
    (a3 : Memref sig .tc .vmem S1x64x1024 .f32) (h3 : a3.IsWhole) (a4 : Memref sig .tc .vmem S1x64x1024 .bf16) (h4 : a4.IsWhole)
    (a5 : Memref sig .tc .vmem S1x64x1024 .bf16) (h5 : a5.IsWhole) (a6 : Memref sig .tc .vmem S64x1024 .bf16) (h6 : a6.IsWhole)
    (a7 : Memref sig .tc .vmem S64x1024 .bf16) (h7 : a7.IsWhole) (a8 : Memref sig .tc .vmem S64x1024 .bf16) (h8 : a8.IsWhole)
    (a9 : Memref sig .tc .vmem S1x1x4x256x256 .f32) (h9 : a9.IsWhole) (a10 : Memref sig .tc .vmem S1x64x1024 .bf16) (h10 : a10.IsWhole)
    (a11 : Memref sig .tc .vmem S1x1x4x256x256 .f32) (h11 : a11.IsWhole) (a12 : Memref sig .tc .vmem S4x256x256 .f32) (h12 : a12.IsWhole)
    (hc0 : cond0_0 i) (hc1 : ¬cond0_1 i)
    (x0 : Vec F S1x64x1024 .f32) (x1 x2 : Vec F S1x64x1024 .bf16) (x3 x4 x5 : Vec F S64x1024 .bf16)
    (x6 : Vec F S1x1x4x256x256 .f32) :
    sout0_A_0 c i a3 h3 a4 h4 a5 h5 a6 h6 a7 h7 a8 h8 a9 h9 a10 h10 a11 h11 a12 h12 hc0 hc1 x0 x1 x2 x3 x4 x5 x6
      = nextS (sgn (BitVec.ofNat 32 (i 0).val)) x0 x1 x2 x3 x4 x5 (startS x6) := by
  unfold sout0_A_0
  rw [View.read_writes_eq_canon _ _ _ (scover0_A_0 c i a3 h3 a4 h4 a5 h5 a6 h6 a7 h7 a8 h8 a9 h9 a10 h10 a11 h11 a12 h12 hc0 hc1 x0 x1 x2 x3 x4 x5 x6)]
  funext y
  rw [storedA_S, all_puts]
  exact View.canon_append_of_piecesOf _ (put0 a9 h9 x6) (groups i x0 x1 x2 x3 x4 x5 x6)
    ⟨fun x => nextS_piece _ _ _ _ _ _ _ _ 3 3 rfl inb_S4x256x256_S1x256x256_3_0_0 x, fun x => nextS_piece _ _ _ _ _ _ _ _ 2 2 rfl inb_S4x256x256_S1x256x256_2_0_0 x,
      fun x => nextS_piece _ _ _ _ _ _ _ _ 1 1 rfl inb_S4x256x256_S1x256x256_1_0_0 x, fun x => nextS_piece _ _ _ _ _ _ _ _ 0 0 rfl inb_S4x256x256_S1x256x256_0_0_0 x, trivial⟩
    y (View.cover_of_tiledL (groups i x0 x1 x2 x3 x4 x5 x6) S1x256x256.size (by sl_kernel_rfl) y)

/-- The four stored pieces of the first point's output block. -/
theorem blocksA (c : Dev nD) (i : grid0.Coords)
    (a3 : Memref sig .tc .vmem S1x64x1024 .f32) (h3 : a3.IsWhole) (a4 : Memref sig .tc .vmem S1x64x1024 .bf16) (h4 : a4.IsWhole)
    (a5 : Memref sig .tc .vmem S1x64x1024 .bf16) (h5 : a5.IsWhole) (a6 : Memref sig .tc .vmem S64x1024 .bf16) (h6 : a6.IsWhole)
    (a7 : Memref sig .tc .vmem S64x1024 .bf16) (h7 : a7.IsWhole) (a8 : Memref sig .tc .vmem S64x1024 .bf16) (h8 : a8.IsWhole)
    (a9 : Memref sig .tc .vmem S1x1x4x256x256 .f32) (h9 : a9.IsWhole) (a10 : Memref sig .tc .vmem S1x64x1024 .bf16) (h10 : a10.IsWhole)
    (a11 : Memref sig .tc .vmem S1x1x4x256x256 .f32) (h11 : a11.IsWhole) (a12 : Memref sig .tc .vmem S4x256x256 .f32) (h12 : a12.IsWhole)
    (hc0 : cond0_0 i) (hc1 : ¬cond0_1 i)
    (x0 : Vec F S1x64x1024 .f32) (x1 x2 : Vec F S1x64x1024 .bf16) (x3 x4 x5 : Vec F S64x1024 .bf16)
    (x6 : Vec F S1x1x4x256x256 .f32) :
    (kernelRun0_A c i a3 h3 a4 h4 a5 h5 a6 h6 a7 h7 a8 h8 a9 h9 a10 h10 a11 h11 a12 h12 hc0 hc1 x0 x1 x2 x3 x4 x5 x6).1 = [⟨Rect.unit (s := S1x64x1024) ![0, 0, 768] ![1, 64, 256] inb_S1x64x1024_S1x64x256_0_0_768, groupY (sgn (BitVec.ofNat 32 (i 0).val)) x0 x1 x2 x3 x4 x5 (startS x6) 3⟩,
    ⟨Rect.unit (s := S1x64x1024) ![0, 0, 512] ![1, 64, 256] inb_S1x64x1024_S1x64x256_0_0_512, groupY (sgn (BitVec.ofNat 32 (i 0).val)) x0 x1 x2 x3 x4 x5 (startS x6) 2⟩,
    ⟨Rect.unit (s := S1x64x1024) ![0, 0, 256] ![1, 64, 256] inb_S1x64x1024_S1x64x256_0_0_256, groupY (sgn (BitVec.ofNat 32 (i 0).val)) x0 x1 x2 x3 x4 x5 (startS x6) 1⟩,
    ⟨Rect.unit (s := S1x64x1024) ![0, 0, 0] ![1, 64, 256] inb_S1x64x1024_S1x64x256_0_0_0, groupY (sgn (BitVec.ofNat 32 (i 0).val)) x0 x1 x2 x3 x4 x5 (startS x6) 0⟩] := by
  rw [storedA_Y, load3 i a3 h3 a4 h4 a5 h5 a6 h6 a7 h7 a8 h8 a9 h9 a12 x0 x1 x2 x3 x4 x5 x6, load2 i a3 h3 a4 h4 a5 h5 a6 h6 a7 h7 a8 h8 a9 h9 a12 x0 x1 x2 x3 x4 x5 x6, load1 i a3 h3 a4 h4 a5 h5 a6 h6 a7 h7 a8 h8 a9 h9 a12 x0 x1 x2 x3 x4 x5 x6, load0 a9 h9 a12 x6]
  simp only [View.readAt_eq_ld, h3.read_unread, h4.read_unread, h5.read_unread, h6.read_unread, h7.read_unread, h8.read_unread, h12.read_unread,
    ld_lanes3 _ 0 0 rfl, ld_lanes2 _ 0 0 rfl, ld_slab _ 0 0 rfl,
    ld_lanes3 _ 1 256 rfl, ld_lanes2 _ 1 256 rfl, ld_slab _ 1 1 rfl,
    ld_lanes3 _ 2 512 rfl, ld_lanes2 _ 2 512 rfl, ld_slab _ 2 2 rfl,
    ld_lanes3 _ 3 768 rfl, ld_lanes2 _ 3 768 rfl, ld_slab _ 3 3 rfl]
  rfl

/-- The output block of the first point. -/
theorem outputA (c : Dev nD) (i : grid0.Coords)
    (a3 : Memref sig .tc .vmem S1x64x1024 .f32) (h3 : a3.IsWhole) (a4 : Memref sig .tc .vmem S1x64x1024 .bf16) (h4 : a4.IsWhole)
    (a5 : Memref sig .tc .vmem S1x64x1024 .bf16) (h5 : a5.IsWhole) (a6 : Memref sig .tc .vmem S64x1024 .bf16) (h6 : a6.IsWhole)
    (a7 : Memref sig .tc .vmem S64x1024 .bf16) (h7 : a7.IsWhole) (a8 : Memref sig .tc .vmem S64x1024 .bf16) (h8 : a8.IsWhole)
    (a9 : Memref sig .tc .vmem S1x1x4x256x256 .f32) (h9 : a9.IsWhole) (a10 : Memref sig .tc .vmem S1x64x1024 .bf16) (h10 : a10.IsWhole)
    (a11 : Memref sig .tc .vmem S1x1x4x256x256 .f32) (h11 : a11.IsWhole) (a12 : Memref sig .tc .vmem S4x256x256 .f32) (h12 : a12.IsWhole)
    (hc0 : cond0_0 i) (hc1 : ¬cond0_1 i)
    (x0 : Vec F S1x64x1024 .f32) (x1 x2 : Vec F S1x64x1024 .bf16) (x3 x4 x5 : Vec F S64x1024 .bf16)
    (x6 : Vec F S1x1x4x256x256 .f32) :
    out0_A_7 c i a3 h3 a4 h4 a5 h5 a6 h6 a7 h7 a8 h8 a9 h9 a10 h10 a11 h11 a12 h12 hc0 hc1 x0 x1 x2 x3 x4 x5 x6
      = nextY (sgn (BitVec.ofNat 32 (i 0).val)) x0 x1 x2 x3 x4 x5 (startS x6) := by
  unfold out0_A_7
  rw [View.read_writes_eq_canon _ _ _ (cover0_A_7 c i a3 h3 a4 h4 a5 h5 a6 h6 a7 h7 a8 h8 a9 h9 a10 h10 a11 h11 a12 h12 hc0 hc1 x0 x1 x2 x3 x4 x5 x6)]
  funext y
  have hc := cover0_A_7 c i a3 h3 a4 h4 a5 h5 a6 h6 a7 h7 a8 h8 a9 h9 a10 h10 a11 h11 a12 h12 hc0 hc1 x0 x1 x2 x3 x4 x5 x6 y
  rw [blocksA] at hc ⊢
  refine View.canon_append_of_piecesOf _ [] _ ?_ y hc
  exact ⟨fun x => nextY_piece _ _ _ _ _ _ _ _ 3 768 rfl inb_S1x64x1024_S1x64x256_0_0_768 x, fun x => nextY_piece _ _ _ _ _ _ _ _ 2 512 rfl inb_S1x64x1024_S1x64x256_0_0_512 x,
    fun x => nextY_piece _ _ _ _ _ _ _ _ 1 256 rfl inb_S1x64x1024_S1x64x256_0_0_256 x, fun x => nextY_piece _ _ _ _ _ _ _ _ 0 0 rfl inb_S1x64x1024_S1x64x256_0_0_0 x, trivial⟩

theorem storedB_S (c : Dev nD) (i : grid0.Coords)
    (a3 : Memref sig .tc .vmem S1x64x1024 .f32) (h3 : a3.IsWhole) (a4 : Memref sig .tc .vmem S1x64x1024 .bf16) (h4 : a4.IsWhole)
    (a5 : Memref sig .tc .vmem S1x64x1024 .bf16) (h5 : a5.IsWhole) (a6 : Memref sig .tc .vmem S64x1024 .bf16) (h6 : a6.IsWhole)
    (a7 : Memref sig .tc .vmem S64x1024 .bf16) (h7 : a7.IsWhole) (a8 : Memref sig .tc .vmem S64x1024 .bf16) (h8 : a8.IsWhole)
    (a9 : Memref sig .tc .vmem S1x1x4x256x256 .f32) (h9 : a9.IsWhole) (a10 : Memref sig .tc .vmem S1x64x1024 .bf16) (h10 : a10.IsWhole)
    (a11 : Memref sig .tc .vmem S1x1x4x256x256 .f32) (h11 : a11.IsWhole) (a12 : Memref sig .tc .vmem S4x256x256 .f32) (h12 : a12.IsWhole)
    (hc0 : ¬cond0_0 i) (hc1 : ¬cond0_1 i)
    (x0 : Vec F S1x64x1024 .f32) (x1 x2 : Vec F S1x64x1024 .bf16) (x3 x4 x5 : Vec F S64x1024 .bf16)
    (x6 : Vec F S1x1x4x256x256 .f32) (xs0 : Vec F S4x256x256 .f32) :
    (kernelRun0_B c i a3 h3 a4 h4 a5 h5 a6 h6 a7 h7 a8 h8 a9 h9 a10 h10 a11 h11 a12 h12 hc0 hc1 x0 x1 x2 x3 x4 x5 x6 xs0).2.2.1 = [⟨(Rect.unit (s := S4x256x256) ![3, 0, 0] ![1, 256, 256] inb_S4x256x256_S1x256x256_3_0_0), storeS (sgn (BitVec.ofNat 32 (i 0).val))
      (View.readAt (Elt F) a3.view (Rect.unit (s := S1x64x1024) ![0, 0, 768] S1x64x256.size inb_S1x64x1024_S1x64x256_0_0_768).toLoadRect (h3.unread x0))
      (View.readAt (Elt F) a4.view (Rect.unit (s := S1x64x1024) ![0, 0, 768] S1x64x256.size inb_S1x64x1024_S1x64x256_0_0_768).toLoadRect (h4.unread x1))
      (View.readAt (Elt F) a5.view (Rect.unit (s := S1x64x1024) ![0, 0, 768] S1x64x256.size inb_S1x64x1024_S1x64x256_0_0_768).toLoadRect (h5.unread x2))
      (View.readAt (Elt F) a6.view (Rect.unit (s := S64x1024) ![0, 768] S64x256.size inb_S64x1024_S64x256_0_768).toLoadRect (h6.unread x3))
      (View.readAt (Elt F) a7.view (Rect.unit (s := S64x1024) ![0, 768] S64x256.size inb_S64x1024_S64x256_0_768).toLoadRect (h7.unread x4))
      (View.readAt (Elt F) a8.view (Rect.unit (s := S64x1024) ![0, 768] S64x256.size inb_S64x1024_S64x256_0_768).toLoadRect (h8.unread x5))
      (View.readAt (Elt F) a12.view (Rect.unit (s := S4x256x256) ![3, 0, 0] S1x256x256.size inb_S4x256x256_S1x256x256_3_0_0).toLoadRect (h12.unread xs0))⟩,
    ⟨(Rect.unit (s := S4x256x256) ![2, 0, 0] ![1, 256, 256] inb_S4x256x256_S1x256x256_2_0_0), storeS (sgn (BitVec.ofNat 32 (i 0).val))
      (View.readAt (Elt F) a3.view (Rect.unit (s := S1x64x1024) ![0, 0, 512] S1x64x256.size inb_S1x64x1024_S1x64x256_0_0_512).toLoadRect (h3.unread x0))
      (View.readAt (Elt F) a4.view (Rect.unit (s := S1x64x1024) ![0, 0, 512] S1x64x256.size inb_S1x64x1024_S1x64x256_0_0_512).toLoadRect (h4.unread x1))
      (View.readAt (Elt F) a5.view (Rect.unit (s := S1x64x1024) ![0, 0, 512] S1x64x256.size inb_S1x64x1024_S1x64x256_0_0_512).toLoadRect (h5.unread x2))
      (View.readAt (Elt F) a6.view (Rect.unit (s := S64x1024) ![0, 512] S64x256.size inb_S64x1024_S64x256_0_512).toLoadRect (h6.unread x3))
      (View.readAt (Elt F) a7.view (Rect.unit (s := S64x1024) ![0, 512] S64x256.size inb_S64x1024_S64x256_0_512).toLoadRect (h7.unread x4))
      (View.readAt (Elt F) a8.view (Rect.unit (s := S64x1024) ![0, 512] S64x256.size inb_S64x1024_S64x256_0_512).toLoadRect (h8.unread x5))
      (View.readAt (Elt F) a12.view (Rect.unit (s := S4x256x256) ![2, 0, 0] S1x256x256.size inb_S4x256x256_S1x256x256_2_0_0).toLoadRect (h12.unread xs0))⟩,
    ⟨(Rect.unit (s := S4x256x256) ![1, 0, 0] ![1, 256, 256] inb_S4x256x256_S1x256x256_1_0_0), storeS (sgn (BitVec.ofNat 32 (i 0).val))
      (View.readAt (Elt F) a3.view (Rect.unit (s := S1x64x1024) ![0, 0, 256] S1x64x256.size inb_S1x64x1024_S1x64x256_0_0_256).toLoadRect (h3.unread x0))
      (View.readAt (Elt F) a4.view (Rect.unit (s := S1x64x1024) ![0, 0, 256] S1x64x256.size inb_S1x64x1024_S1x64x256_0_0_256).toLoadRect (h4.unread x1))
      (View.readAt (Elt F) a5.view (Rect.unit (s := S1x64x1024) ![0, 0, 256] S1x64x256.size inb_S1x64x1024_S1x64x256_0_0_256).toLoadRect (h5.unread x2))
      (View.readAt (Elt F) a6.view (Rect.unit (s := S64x1024) ![0, 256] S64x256.size inb_S64x1024_S64x256_0_256).toLoadRect (h6.unread x3))
      (View.readAt (Elt F) a7.view (Rect.unit (s := S64x1024) ![0, 256] S64x256.size inb_S64x1024_S64x256_0_256).toLoadRect (h7.unread x4))
      (View.readAt (Elt F) a8.view (Rect.unit (s := S64x1024) ![0, 256] S64x256.size inb_S64x1024_S64x256_0_256).toLoadRect (h8.unread x5))
      (View.readAt (Elt F) a12.view (Rect.unit (s := S4x256x256) ![1, 0, 0] S1x256x256.size inb_S4x256x256_S1x256x256_1_0_0).toLoadRect (h12.unread xs0))⟩,
    ⟨(Rect.unit (s := S4x256x256) ![0, 0, 0] ![1, 256, 256] inb_S4x256x256_S1x256x256_0_0_0), storeS (sgn (BitVec.ofNat 32 (i 0).val))
      (View.readAt (Elt F) a3.view (Rect.unit (s := S1x64x1024) ![0, 0, 0] S1x64x256.size inb_S1x64x1024_S1x64x256_0_0_0).toLoadRect (h3.unread x0))
      (View.readAt (Elt F) a4.view (Rect.unit (s := S1x64x1024) ![0, 0, 0] S1x64x256.size inb_S1x64x1024_S1x64x256_0_0_0).toLoadRect (h4.unread x1))
      (View.readAt (Elt F) a5.view (Rect.unit (s := S1x64x1024) ![0, 0, 0] S1x64x256.size inb_S1x64x1024_S1x64x256_0_0_0).toLoadRect (h5.unread x2))
      (View.readAt (Elt F) a6.view (Rect.unit (s := S64x1024) ![0, 0] S64x256.size inb_S64x1024_S64x256_0_0).toLoadRect (h6.unread x3))
      (View.readAt (Elt F) a7.view (Rect.unit (s := S64x1024) ![0, 0] S64x256.size inb_S64x1024_S64x256_0_0).toLoadRect (h7.unread x4))
      (View.readAt (Elt F) a8.view (Rect.unit (s := S64x1024) ![0, 0] S64x256.size inb_S64x1024_S64x256_0_0).toLoadRect (h8.unread x5))
      (View.readAt (Elt F) a12.view (Rect.unit (s := S4x256x256) ![0, 0, 0] S1x256x256.size inb_S4x256x256_S1x256x256_0_0_0).toLoadRect (h12.unread xs0))⟩] := by
  unfold kernelRun0_B
  dsimp only
  rfl

theorem storedB_Y (c : Dev nD) (i : grid0.Coords)
    (a3 : Memref sig .tc .vmem S1x64x1024 .f32) (h3 : a3.IsWhole) (a4 : Memref sig .tc .vmem S1x64x1024 .bf16) (h4 : a4.IsWhole)
    (a5 : Memref sig .tc .vmem S1x64x1024 .bf16) (h5 : a5.IsWhole) (a6 : Memref sig .tc .vmem S64x1024 .bf16) (h6 : a6.IsWhole)
    (a7 : Memref sig .tc .vmem S64x1024 .bf16) (h7 : a7.IsWhole) (a8 : Memref sig .tc .vmem S64x1024 .bf16) (h8 : a8.IsWhole)
    (a9 : Memref sig .tc .vmem S1x1x4x256x256 .f32) (h9 : a9.IsWhole) (a10 : Memref sig .tc .vmem S1x64x1024 .bf16) (h10 : a10.IsWhole)
    (a11 : Memref sig .tc .vmem S1x1x4x256x256 .f32) (h11 : a11.IsWhole) (a12 : Memref sig .tc .vmem S4x256x256 .f32) (h12 : a12.IsWhole)
    (hc0 : ¬cond0_0 i) (hc1 : ¬cond0_1 i)
    (x0 : Vec F S1x64x1024 .f32) (x1 x2 : Vec F S1x64x1024 .bf16) (x3 x4 x5 : Vec F S64x1024 .bf16)
    (x6 : Vec F S1x1x4x256x256 .f32) (xs0 : Vec F S4x256x256 .f32) :
    (kernelRun0_B c i a3 h3 a4 h4 a5 h5 a6 h6 a7 h7 a8 h8 a9 h9 a10 h10 a11 h11 a12 h12 hc0 hc1 x0 x1 x2 x3 x4 x5 x6 xs0).1 = [⟨Rect.unit (s := S1x64x1024) ![0, 0, 768] ![1, 64, 256] inb_S1x64x1024_S1x64x256_0_0_768, storeY (sgn (BitVec.ofNat 32 (i 0).val))
      (View.readAt (Elt F) a3.view (Rect.unit (s := S1x64x1024) ![0, 0, 768] S1x64x256.size inb_S1x64x1024_S1x64x256_0_0_768).toLoadRect (h3.unread x0))
      (View.readAt (Elt F) a4.view (Rect.unit (s := S1x64x1024) ![0, 0, 768] S1x64x256.size inb_S1x64x1024_S1x64x256_0_0_768).toLoadRect (h4.unread x1))
      (View.readAt (Elt F) a5.view (Rect.unit (s := S1x64x1024) ![0, 0, 768] S1x64x256.size inb_S1x64x1024_S1x64x256_0_0_768).toLoadRect (h5.unread x2))
      (View.readAt (Elt F) a6.view (Rect.unit (s := S64x1024) ![0, 768] S64x256.size inb_S64x1024_S64x256_0_768).toLoadRect (h6.unread x3))
      (View.readAt (Elt F) a7.view (Rect.unit (s := S64x1024) ![0, 768] S64x256.size inb_S64x1024_S64x256_0_768).toLoadRect (h7.unread x4))
      (View.readAt (Elt F) a8.view (Rect.unit (s := S64x1024) ![0, 768] S64x256.size inb_S64x1024_S64x256_0_768).toLoadRect (h8.unread x5))
      (View.readAt (Elt F) a12.view (Rect.unit (s := S4x256x256) ![3, 0, 0] S1x256x256.size inb_S4x256x256_S1x256x256_3_0_0).toLoadRect (h12.unread xs0))⟩,
    ⟨Rect.unit (s := S1x64x1024) ![0, 0, 512] ![1, 64, 256] inb_S1x64x1024_S1x64x256_0_0_512, storeY (sgn (BitVec.ofNat 32 (i 0).val))
      (View.readAt (Elt F) a3.view (Rect.unit (s := S1x64x1024) ![0, 0, 512] S1x64x256.size inb_S1x64x1024_S1x64x256_0_0_512).toLoadRect (h3.unread x0))
      (View.readAt (Elt F) a4.view (Rect.unit (s := S1x64x1024) ![0, 0, 512] S1x64x256.size inb_S1x64x1024_S1x64x256_0_0_512).toLoadRect (h4.unread x1))
      (View.readAt (Elt F) a5.view (Rect.unit (s := S1x64x1024) ![0, 0, 512] S1x64x256.size inb_S1x64x1024_S1x64x256_0_0_512).toLoadRect (h5.unread x2))
      (View.readAt (Elt F) a6.view (Rect.unit (s := S64x1024) ![0, 512] S64x256.size inb_S64x1024_S64x256_0_512).toLoadRect (h6.unread x3))
      (View.readAt (Elt F) a7.view (Rect.unit (s := S64x1024) ![0, 512] S64x256.size inb_S64x1024_S64x256_0_512).toLoadRect (h7.unread x4))
      (View.readAt (Elt F) a8.view (Rect.unit (s := S64x1024) ![0, 512] S64x256.size inb_S64x1024_S64x256_0_512).toLoadRect (h8.unread x5))
      (View.readAt (Elt F) a12.view (Rect.unit (s := S4x256x256) ![2, 0, 0] S1x256x256.size inb_S4x256x256_S1x256x256_2_0_0).toLoadRect (h12.unread xs0))⟩,
    ⟨Rect.unit (s := S1x64x1024) ![0, 0, 256] ![1, 64, 256] inb_S1x64x1024_S1x64x256_0_0_256, storeY (sgn (BitVec.ofNat 32 (i 0).val))
      (View.readAt (Elt F) a3.view (Rect.unit (s := S1x64x1024) ![0, 0, 256] S1x64x256.size inb_S1x64x1024_S1x64x256_0_0_256).toLoadRect (h3.unread x0))
      (View.readAt (Elt F) a4.view (Rect.unit (s := S1x64x1024) ![0, 0, 256] S1x64x256.size inb_S1x64x1024_S1x64x256_0_0_256).toLoadRect (h4.unread x1))
      (View.readAt (Elt F) a5.view (Rect.unit (s := S1x64x1024) ![0, 0, 256] S1x64x256.size inb_S1x64x1024_S1x64x256_0_0_256).toLoadRect (h5.unread x2))
      (View.readAt (Elt F) a6.view (Rect.unit (s := S64x1024) ![0, 256] S64x256.size inb_S64x1024_S64x256_0_256).toLoadRect (h6.unread x3))
      (View.readAt (Elt F) a7.view (Rect.unit (s := S64x1024) ![0, 256] S64x256.size inb_S64x1024_S64x256_0_256).toLoadRect (h7.unread x4))
      (View.readAt (Elt F) a8.view (Rect.unit (s := S64x1024) ![0, 256] S64x256.size inb_S64x1024_S64x256_0_256).toLoadRect (h8.unread x5))
      (View.readAt (Elt F) a12.view (Rect.unit (s := S4x256x256) ![1, 0, 0] S1x256x256.size inb_S4x256x256_S1x256x256_1_0_0).toLoadRect (h12.unread xs0))⟩,
    ⟨Rect.unit (s := S1x64x1024) ![0, 0, 0] ![1, 64, 256] inb_S1x64x1024_S1x64x256_0_0_0, storeY (sgn (BitVec.ofNat 32 (i 0).val))
      (View.readAt (Elt F) a3.view (Rect.unit (s := S1x64x1024) ![0, 0, 0] S1x64x256.size inb_S1x64x1024_S1x64x256_0_0_0).toLoadRect (h3.unread x0))
      (View.readAt (Elt F) a4.view (Rect.unit (s := S1x64x1024) ![0, 0, 0] S1x64x256.size inb_S1x64x1024_S1x64x256_0_0_0).toLoadRect (h4.unread x1))
      (View.readAt (Elt F) a5.view (Rect.unit (s := S1x64x1024) ![0, 0, 0] S1x64x256.size inb_S1x64x1024_S1x64x256_0_0_0).toLoadRect (h5.unread x2))
      (View.readAt (Elt F) a6.view (Rect.unit (s := S64x1024) ![0, 0] S64x256.size inb_S64x1024_S64x256_0_0).toLoadRect (h6.unread x3))
      (View.readAt (Elt F) a7.view (Rect.unit (s := S64x1024) ![0, 0] S64x256.size inb_S64x1024_S64x256_0_0).toLoadRect (h7.unread x4))
      (View.readAt (Elt F) a8.view (Rect.unit (s := S64x1024) ![0, 0] S64x256.size inb_S64x1024_S64x256_0_0).toLoadRect (h8.unread x5))
      (View.readAt (Elt F) a12.view (Rect.unit (s := S4x256x256) ![0, 0, 0] S1x256x256.size inb_S4x256x256_S1x256x256_0_0_0).toLoadRect (h12.unread xs0))⟩] := by
  unfold kernelRun0_B
  dsimp only
  rfl

/-- The state after a middle point. -/
theorem stateB (c : Dev nD) (i : grid0.Coords)
    (a3 : Memref sig .tc .vmem S1x64x1024 .f32) (h3 : a3.IsWhole) (a4 : Memref sig .tc .vmem S1x64x1024 .bf16) (h4 : a4.IsWhole)
    (a5 : Memref sig .tc .vmem S1x64x1024 .bf16) (h5 : a5.IsWhole) (a6 : Memref sig .tc .vmem S64x1024 .bf16) (h6 : a6.IsWhole)
    (a7 : Memref sig .tc .vmem S64x1024 .bf16) (h7 : a7.IsWhole) (a8 : Memref sig .tc .vmem S64x1024 .bf16) (h8 : a8.IsWhole)
    (a9 : Memref sig .tc .vmem S1x1x4x256x256 .f32) (h9 : a9.IsWhole) (a10 : Memref sig .tc .vmem S1x64x1024 .bf16) (h10 : a10.IsWhole)
    (a11 : Memref sig .tc .vmem S1x1x4x256x256 .f32) (h11 : a11.IsWhole) (a12 : Memref sig .tc .vmem S4x256x256 .f32) (h12 : a12.IsWhole)
    (hc0 : ¬cond0_0 i) (hc1 : ¬cond0_1 i)
    (x0 : Vec F S1x64x1024 .f32) (x1 x2 : Vec F S1x64x1024 .bf16) (x3 x4 x5 : Vec F S64x1024 .bf16)
    (x6 : Vec F S1x1x4x256x256 .f32) (xs0 : Vec F S4x256x256 .f32) :
    sout0_B_0 c i a3 h3 a4 h4 a5 h5 a6 h6 a7 h7 a8 h8 a9 h9 a10 h10 a11 h11 a12 h12 hc0 hc1 x0 x1 x2 x3 x4 x5 x6 xs0
      = nextS (sgn (BitVec.ofNat 32 (i 0).val)) x0 x1 x2 x3 x4 x5 xs0 := by
  unfold sout0_B_0
  rw [View.read_writes_eq_canon _ _ _ (scover0_B_0 c i a3 h3 a4 h4 a5 h5 a6 h6 a7 h7 a8 h8 a9 h9 a10 h10 a11 h11 a12 h12 hc0 hc1 x0 x1 x2 x3 x4 x5 x6 xs0)]
  funext y
  have hc := scover0_B_0 c i a3 h3 a4 h4 a5 h5 a6 h6 a7 h7 a8 h8 a9 h9 a10 h10 a11 h11 a12 h12 hc0 hc1 x0 x1 x2 x3 x4 x5 x6 xs0 y
  rw [storedB_S] at hc ⊢
  refine View.canon_append_of_piecesOf _ [] _ ?_ y hc
  simp only [View.readAt_eq_ld, h3.read_unread, h4.read_unread, h5.read_unread, h6.read_unread, h7.read_unread, h8.read_unread, h12.read_unread,
    ld_lanes3 _ 0 0 rfl, ld_lanes2 _ 0 0 rfl, ld_slab _ 0 0 rfl,
    ld_lanes3 _ 1 256 rfl, ld_lanes2 _ 1 256 rfl, ld_slab _ 1 1 rfl,
    ld_lanes3 _ 2 512 rfl, ld_lanes2 _ 2 512 rfl, ld_slab _ 2 2 rfl,
    ld_lanes3 _ 3 768 rfl, ld_lanes2 _ 3 768 rfl, ld_slab _ 3 3 rfl]
  exact ⟨fun x => nextS_piece _ _ _ _ _ _ _ _ 3 3 rfl inb_S4x256x256_S1x256x256_3_0_0 x, fun x => nextS_piece _ _ _ _ _ _ _ _ 2 2 rfl inb_S4x256x256_S1x256x256_2_0_0 x,
    fun x => nextS_piece _ _ _ _ _ _ _ _ 1 1 rfl inb_S4x256x256_S1x256x256_1_0_0 x, fun x => nextS_piece _ _ _ _ _ _ _ _ 0 0 rfl inb_S4x256x256_S1x256x256_0_0_0 x, trivial⟩

/-- The output block of a middle point. -/
theorem outputB (c : Dev nD) (i : grid0.Coords)
    (a3 : Memref sig .tc .vmem S1x64x1024 .f32) (h3 : a3.IsWhole) (a4 : Memref sig .tc .vmem S1x64x1024 .bf16) (h4 : a4.IsWhole)
    (a5 : Memref sig .tc .vmem S1x64x1024 .bf16) (h5 : a5.IsWhole) (a6 : Memref sig .tc .vmem S64x1024 .bf16) (h6 : a6.IsWhole)
    (a7 : Memref sig .tc .vmem S64x1024 .bf16) (h7 : a7.IsWhole) (a8 : Memref sig .tc .vmem S64x1024 .bf16) (h8 : a8.IsWhole)
    (a9 : Memref sig .tc .vmem S1x1x4x256x256 .f32) (h9 : a9.IsWhole) (a10 : Memref sig .tc .vmem S1x64x1024 .bf16) (h10 : a10.IsWhole)
    (a11 : Memref sig .tc .vmem S1x1x4x256x256 .f32) (h11 : a11.IsWhole) (a12 : Memref sig .tc .vmem S4x256x256 .f32) (h12 : a12.IsWhole)
    (hc0 : ¬cond0_0 i) (hc1 : ¬cond0_1 i)
    (x0 : Vec F S1x64x1024 .f32) (x1 x2 : Vec F S1x64x1024 .bf16) (x3 x4 x5 : Vec F S64x1024 .bf16)
    (x6 : Vec F S1x1x4x256x256 .f32) (xs0 : Vec F S4x256x256 .f32) :
    out0_B_7 c i a3 h3 a4 h4 a5 h5 a6 h6 a7 h7 a8 h8 a9 h9 a10 h10 a11 h11 a12 h12 hc0 hc1 x0 x1 x2 x3 x4 x5 x6 xs0
      = nextY (sgn (BitVec.ofNat 32 (i 0).val)) x0 x1 x2 x3 x4 x5 xs0 := by
  unfold out0_B_7
  rw [View.read_writes_eq_canon _ _ _ (cover0_B_7 c i a3 h3 a4 h4 a5 h5 a6 h6 a7 h7 a8 h8 a9 h9 a10 h10 a11 h11 a12 h12 hc0 hc1 x0 x1 x2 x3 x4 x5 x6 xs0)]
  funext y
  have hc := cover0_B_7 c i a3 h3 a4 h4 a5 h5 a6 h6 a7 h7 a8 h8 a9 h9 a10 h10 a11 h11 a12 h12 hc0 hc1 x0 x1 x2 x3 x4 x5 x6 xs0 y
  rw [storedB_Y] at hc ⊢
  refine View.canon_append_of_piecesOf _ [] _ ?_ y hc
  simp only [View.readAt_eq_ld, h3.read_unread, h4.read_unread, h5.read_unread, h6.read_unread, h7.read_unread, h8.read_unread, h12.read_unread,
    ld_lanes3 _ 0 0 rfl, ld_lanes2 _ 0 0 rfl, ld_slab _ 0 0 rfl,
    ld_lanes3 _ 1 256 rfl, ld_lanes2 _ 1 256 rfl, ld_slab _ 1 1 rfl,
    ld_lanes3 _ 2 512 rfl, ld_lanes2 _ 2 512 rfl, ld_slab _ 2 2 rfl,
    ld_lanes3 _ 3 768 rfl, ld_lanes2 _ 3 768 rfl, ld_slab _ 3 3 rfl]
  exact ⟨fun x => nextY_piece _ _ _ _ _ _ _ _ 3 768 rfl inb_S1x64x1024_S1x64x256_0_0_768 x, fun x => nextY_piece _ _ _ _ _ _ _ _ 2 512 rfl inb_S1x64x1024_S1x64x256_0_0_512 x,
    fun x => nextY_piece _ _ _ _ _ _ _ _ 1 256 rfl inb_S1x64x1024_S1x64x256_0_0_256 x, fun x => nextY_piece _ _ _ _ _ _ _ _ 0 0 rfl inb_S1x64x1024_S1x64x256_0_0_0 x, trivial⟩

theorem storedC_S (c : Dev nD) (i : grid0.Coords)
    (a3 : Memref sig .tc .vmem S1x64x1024 .f32) (h3 : a3.IsWhole) (a4 : Memref sig .tc .vmem S1x64x1024 .bf16) (h4 : a4.IsWhole)
    (a5 : Memref sig .tc .vmem S1x64x1024 .bf16) (h5 : a5.IsWhole) (a6 : Memref sig .tc .vmem S64x1024 .bf16) (h6 : a6.IsWhole)
    (a7 : Memref sig .tc .vmem S64x1024 .bf16) (h7 : a7.IsWhole) (a8 : Memref sig .tc .vmem S64x1024 .bf16) (h8 : a8.IsWhole)
    (a9 : Memref sig .tc .vmem S1x1x4x256x256 .f32) (h9 : a9.IsWhole) (a10 : Memref sig .tc .vmem S1x64x1024 .bf16) (h10 : a10.IsWhole)
    (a11 : Memref sig .tc .vmem S1x1x4x256x256 .f32) (h11 : a11.IsWhole) (a12 : Memref sig .tc .vmem S4x256x256 .f32) (h12 : a12.IsWhole)
    (hc0 : ¬cond0_0 i) (hc1 : cond0_1 i)
    (x0 : Vec F S1x64x1024 .f32) (x1 x2 : Vec F S1x64x1024 .bf16) (x3 x4 x5 : Vec F S64x1024 .bf16)
    (x6 : Vec F S1x1x4x256x256 .f32) (xs0 : Vec F S4x256x256 .f32) :
    (kernelRun0_C c i a3 h3 a4 h4 a5 h5 a6 h6 a7 h7 a8 h8 a9 h9 a10 h10 a11 h11 a12 h12 hc0 hc1 x0 x1 x2 x3 x4 x5 x6 xs0).2.2.1 = [⟨(Rect.unit (s := S4x256x256) ![3, 0, 0] ![1, 256, 256] inb_S4x256x256_S1x256x256_3_0_0), storeS (sgn (BitVec.ofNat 32 (i 0).val))
      (View.readAt (Elt F) a3.view (Rect.unit (s := S1x64x1024) ![0, 0, 768] S1x64x256.size inb_S1x64x1024_S1x64x256_0_0_768).toLoadRect (h3.unread x0))
      (View.readAt (Elt F) a4.view (Rect.unit (s := S1x64x1024) ![0, 0, 768] S1x64x256.size inb_S1x64x1024_S1x64x256_0_0_768).toLoadRect (h4.unread x1))
      (View.readAt (Elt F) a5.view (Rect.unit (s := S1x64x1024) ![0, 0, 768] S1x64x256.size inb_S1x64x1024_S1x64x256_0_0_768).toLoadRect (h5.unread x2))
      (View.readAt (Elt F) a6.view (Rect.unit (s := S64x1024) ![0, 768] S64x256.size inb_S64x1024_S64x256_0_768).toLoadRect (h6.unread x3))
      (View.readAt (Elt F) a7.view (Rect.unit (s := S64x1024) ![0, 768] S64x256.size inb_S64x1024_S64x256_0_768).toLoadRect (h7.unread x4))
      (View.readAt (Elt F) a8.view (Rect.unit (s := S64x1024) ![0, 768] S64x256.size inb_S64x1024_S64x256_0_768).toLoadRect (h8.unread x5))
      (View.readAt (Elt F) a12.view (Rect.unit (s := S4x256x256) ![3, 0, 0] S1x256x256.size inb_S4x256x256_S1x256x256_3_0_0).toLoadRect (h12.unread xs0))⟩,
    ⟨(Rect.unit (s := S4x256x256) ![2, 0, 0] ![1, 256, 256] inb_S4x256x256_S1x256x256_2_0_0), storeS (sgn (BitVec.ofNat 32 (i 0).val))
      (View.readAt (Elt F) a3.view (Rect.unit (s := S1x64x1024) ![0, 0, 512] S1x64x256.size inb_S1x64x1024_S1x64x256_0_0_512).toLoadRect (h3.unread x0))
      (View.readAt (Elt F) a4.view (Rect.unit (s := S1x64x1024) ![0, 0, 512] S1x64x256.size inb_S1x64x1024_S1x64x256_0_0_512).toLoadRect (h4.unread x1))
      (View.readAt (Elt F) a5.view (Rect.unit (s := S1x64x1024) ![0, 0, 512] S1x64x256.size inb_S1x64x1024_S1x64x256_0_0_512).toLoadRect (h5.unread x2))
      (View.readAt (Elt F) a6.view (Rect.unit (s := S64x1024) ![0, 512] S64x256.size inb_S64x1024_S64x256_0_512).toLoadRect (h6.unread x3))
      (View.readAt (Elt F) a7.view (Rect.unit (s := S64x1024) ![0, 512] S64x256.size inb_S64x1024_S64x256_0_512).toLoadRect (h7.unread x4))
      (View.readAt (Elt F) a8.view (Rect.unit (s := S64x1024) ![0, 512] S64x256.size inb_S64x1024_S64x256_0_512).toLoadRect (h8.unread x5))
      (View.readAt (Elt F) a12.view (Rect.unit (s := S4x256x256) ![2, 0, 0] S1x256x256.size inb_S4x256x256_S1x256x256_2_0_0).toLoadRect (h12.unread xs0))⟩,
    ⟨(Rect.unit (s := S4x256x256) ![1, 0, 0] ![1, 256, 256] inb_S4x256x256_S1x256x256_1_0_0), storeS (sgn (BitVec.ofNat 32 (i 0).val))
      (View.readAt (Elt F) a3.view (Rect.unit (s := S1x64x1024) ![0, 0, 256] S1x64x256.size inb_S1x64x1024_S1x64x256_0_0_256).toLoadRect (h3.unread x0))
      (View.readAt (Elt F) a4.view (Rect.unit (s := S1x64x1024) ![0, 0, 256] S1x64x256.size inb_S1x64x1024_S1x64x256_0_0_256).toLoadRect (h4.unread x1))
      (View.readAt (Elt F) a5.view (Rect.unit (s := S1x64x1024) ![0, 0, 256] S1x64x256.size inb_S1x64x1024_S1x64x256_0_0_256).toLoadRect (h5.unread x2))
      (View.readAt (Elt F) a6.view (Rect.unit (s := S64x1024) ![0, 256] S64x256.size inb_S64x1024_S64x256_0_256).toLoadRect (h6.unread x3))
      (View.readAt (Elt F) a7.view (Rect.unit (s := S64x1024) ![0, 256] S64x256.size inb_S64x1024_S64x256_0_256).toLoadRect (h7.unread x4))
      (View.readAt (Elt F) a8.view (Rect.unit (s := S64x1024) ![0, 256] S64x256.size inb_S64x1024_S64x256_0_256).toLoadRect (h8.unread x5))
      (View.readAt (Elt F) a12.view (Rect.unit (s := S4x256x256) ![1, 0, 0] S1x256x256.size inb_S4x256x256_S1x256x256_1_0_0).toLoadRect (h12.unread xs0))⟩,
    ⟨(Rect.unit (s := S4x256x256) ![0, 0, 0] ![1, 256, 256] inb_S4x256x256_S1x256x256_0_0_0), storeS (sgn (BitVec.ofNat 32 (i 0).val))
      (View.readAt (Elt F) a3.view (Rect.unit (s := S1x64x1024) ![0, 0, 0] S1x64x256.size inb_S1x64x1024_S1x64x256_0_0_0).toLoadRect (h3.unread x0))
      (View.readAt (Elt F) a4.view (Rect.unit (s := S1x64x1024) ![0, 0, 0] S1x64x256.size inb_S1x64x1024_S1x64x256_0_0_0).toLoadRect (h4.unread x1))
      (View.readAt (Elt F) a5.view (Rect.unit (s := S1x64x1024) ![0, 0, 0] S1x64x256.size inb_S1x64x1024_S1x64x256_0_0_0).toLoadRect (h5.unread x2))
      (View.readAt (Elt F) a6.view (Rect.unit (s := S64x1024) ![0, 0] S64x256.size inb_S64x1024_S64x256_0_0).toLoadRect (h6.unread x3))
      (View.readAt (Elt F) a7.view (Rect.unit (s := S64x1024) ![0, 0] S64x256.size inb_S64x1024_S64x256_0_0).toLoadRect (h7.unread x4))
      (View.readAt (Elt F) a8.view (Rect.unit (s := S64x1024) ![0, 0] S64x256.size inb_S64x1024_S64x256_0_0).toLoadRect (h8.unread x5))
      (View.readAt (Elt F) a12.view (Rect.unit (s := S4x256x256) ![0, 0, 0] S1x256x256.size inb_S4x256x256_S1x256x256_0_0_0).toLoadRect (h12.unread xs0))⟩] := by
  unfold kernelRun0_C
  dsimp only
  rfl

theorem storedC_Y (c : Dev nD) (i : grid0.Coords)
    (a3 : Memref sig .tc .vmem S1x64x1024 .f32) (h3 : a3.IsWhole) (a4 : Memref sig .tc .vmem S1x64x1024 .bf16) (h4 : a4.IsWhole)
    (a5 : Memref sig .tc .vmem S1x64x1024 .bf16) (h5 : a5.IsWhole) (a6 : Memref sig .tc .vmem S64x1024 .bf16) (h6 : a6.IsWhole)
    (a7 : Memref sig .tc .vmem S64x1024 .bf16) (h7 : a7.IsWhole) (a8 : Memref sig .tc .vmem S64x1024 .bf16) (h8 : a8.IsWhole)
    (a9 : Memref sig .tc .vmem S1x1x4x256x256 .f32) (h9 : a9.IsWhole) (a10 : Memref sig .tc .vmem S1x64x1024 .bf16) (h10 : a10.IsWhole)
    (a11 : Memref sig .tc .vmem S1x1x4x256x256 .f32) (h11 : a11.IsWhole) (a12 : Memref sig .tc .vmem S4x256x256 .f32) (h12 : a12.IsWhole)
    (hc0 : ¬cond0_0 i) (hc1 : cond0_1 i)
    (x0 : Vec F S1x64x1024 .f32) (x1 x2 : Vec F S1x64x1024 .bf16) (x3 x4 x5 : Vec F S64x1024 .bf16)
    (x6 : Vec F S1x1x4x256x256 .f32) (xs0 : Vec F S4x256x256 .f32) :
    (kernelRun0_C c i a3 h3 a4 h4 a5 h5 a6 h6 a7 h7 a8 h8 a9 h9 a10 h10 a11 h11 a12 h12 hc0 hc1 x0 x1 x2 x3 x4 x5 x6 xs0).1 = [⟨Rect.unit (s := S1x64x1024) ![0, 0, 768] ![1, 64, 256] inb_S1x64x1024_S1x64x256_0_0_768, storeY (sgn (BitVec.ofNat 32 (i 0).val))
      (View.readAt (Elt F) a3.view (Rect.unit (s := S1x64x1024) ![0, 0, 768] S1x64x256.size inb_S1x64x1024_S1x64x256_0_0_768).toLoadRect (h3.unread x0))
      (View.readAt (Elt F) a4.view (Rect.unit (s := S1x64x1024) ![0, 0, 768] S1x64x256.size inb_S1x64x1024_S1x64x256_0_0_768).toLoadRect (h4.unread x1))
      (View.readAt (Elt F) a5.view (Rect.unit (s := S1x64x1024) ![0, 0, 768] S1x64x256.size inb_S1x64x1024_S1x64x256_0_0_768).toLoadRect (h5.unread x2))
      (View.readAt (Elt F) a6.view (Rect.unit (s := S64x1024) ![0, 768] S64x256.size inb_S64x1024_S64x256_0_768).toLoadRect (h6.unread x3))
      (View.readAt (Elt F) a7.view (Rect.unit (s := S64x1024) ![0, 768] S64x256.size inb_S64x1024_S64x256_0_768).toLoadRect (h7.unread x4))
      (View.readAt (Elt F) a8.view (Rect.unit (s := S64x1024) ![0, 768] S64x256.size inb_S64x1024_S64x256_0_768).toLoadRect (h8.unread x5))
      (View.readAt (Elt F) a12.view (Rect.unit (s := S4x256x256) ![3, 0, 0] S1x256x256.size inb_S4x256x256_S1x256x256_3_0_0).toLoadRect (h12.unread xs0))⟩,
    ⟨Rect.unit (s := S1x64x1024) ![0, 0, 512] ![1, 64, 256] inb_S1x64x1024_S1x64x256_0_0_512, storeY (sgn (BitVec.ofNat 32 (i 0).val))
      (View.readAt (Elt F) a3.view (Rect.unit (s := S1x64x1024) ![0, 0, 512] S1x64x256.size inb_S1x64x1024_S1x64x256_0_0_512).toLoadRect (h3.unread x0))
      (View.readAt (Elt F) a4.view (Rect.unit (s := S1x64x1024) ![0, 0, 512] S1x64x256.size inb_S1x64x1024_S1x64x256_0_0_512).toLoadRect (h4.unread x1))
      (View.readAt (Elt F) a5.view (Rect.unit (s := S1x64x1024) ![0, 0, 512] S1x64x256.size inb_S1x64x1024_S1x64x256_0_0_512).toLoadRect (h5.unread x2))
      (View.readAt (Elt F) a6.view (Rect.unit (s := S64x1024) ![0, 512] S64x256.size inb_S64x1024_S64x256_0_512).toLoadRect (h6.unread x3))
      (View.readAt (Elt F) a7.view (Rect.unit (s := S64x1024) ![0, 512] S64x256.size inb_S64x1024_S64x256_0_512).toLoadRect (h7.unread x4))
      (View.readAt (Elt F) a8.view (Rect.unit (s := S64x1024) ![0, 512] S64x256.size inb_S64x1024_S64x256_0_512).toLoadRect (h8.unread x5))
      (View.readAt (Elt F) a12.view (Rect.unit (s := S4x256x256) ![2, 0, 0] S1x256x256.size inb_S4x256x256_S1x256x256_2_0_0).toLoadRect (h12.unread xs0))⟩,
    ⟨Rect.unit (s := S1x64x1024) ![0, 0, 256] ![1, 64, 256] inb_S1x64x1024_S1x64x256_0_0_256, storeY (sgn (BitVec.ofNat 32 (i 0).val))
      (View.readAt (Elt F) a3.view (Rect.unit (s := S1x64x1024) ![0, 0, 256] S1x64x256.size inb_S1x64x1024_S1x64x256_0_0_256).toLoadRect (h3.unread x0))
      (View.readAt (Elt F) a4.view (Rect.unit (s := S1x64x1024) ![0, 0, 256] S1x64x256.size inb_S1x64x1024_S1x64x256_0_0_256).toLoadRect (h4.unread x1))
      (View.readAt (Elt F) a5.view (Rect.unit (s := S1x64x1024) ![0, 0, 256] S1x64x256.size inb_S1x64x1024_S1x64x256_0_0_256).toLoadRect (h5.unread x2))
      (View.readAt (Elt F) a6.view (Rect.unit (s := S64x1024) ![0, 256] S64x256.size inb_S64x1024_S64x256_0_256).toLoadRect (h6.unread x3))
      (View.readAt (Elt F) a7.view (Rect.unit (s := S64x1024) ![0, 256] S64x256.size inb_S64x1024_S64x256_0_256).toLoadRect (h7.unread x4))
      (View.readAt (Elt F) a8.view (Rect.unit (s := S64x1024) ![0, 256] S64x256.size inb_S64x1024_S64x256_0_256).toLoadRect (h8.unread x5))
      (View.readAt (Elt F) a12.view (Rect.unit (s := S4x256x256) ![1, 0, 0] S1x256x256.size inb_S4x256x256_S1x256x256_1_0_0).toLoadRect (h12.unread xs0))⟩,
    ⟨Rect.unit (s := S1x64x1024) ![0, 0, 0] ![1, 64, 256] inb_S1x64x1024_S1x64x256_0_0_0, storeY (sgn (BitVec.ofNat 32 (i 0).val))
      (View.readAt (Elt F) a3.view (Rect.unit (s := S1x64x1024) ![0, 0, 0] S1x64x256.size inb_S1x64x1024_S1x64x256_0_0_0).toLoadRect (h3.unread x0))
      (View.readAt (Elt F) a4.view (Rect.unit (s := S1x64x1024) ![0, 0, 0] S1x64x256.size inb_S1x64x1024_S1x64x256_0_0_0).toLoadRect (h4.unread x1))
      (View.readAt (Elt F) a5.view (Rect.unit (s := S1x64x1024) ![0, 0, 0] S1x64x256.size inb_S1x64x1024_S1x64x256_0_0_0).toLoadRect (h5.unread x2))
      (View.readAt (Elt F) a6.view (Rect.unit (s := S64x1024) ![0, 0] S64x256.size inb_S64x1024_S64x256_0_0).toLoadRect (h6.unread x3))
      (View.readAt (Elt F) a7.view (Rect.unit (s := S64x1024) ![0, 0] S64x256.size inb_S64x1024_S64x256_0_0).toLoadRect (h7.unread x4))
      (View.readAt (Elt F) a8.view (Rect.unit (s := S64x1024) ![0, 0] S64x256.size inb_S64x1024_S64x256_0_0).toLoadRect (h8.unread x5))
      (View.readAt (Elt F) a12.view (Rect.unit (s := S4x256x256) ![0, 0, 0] S1x256x256.size inb_S4x256x256_S1x256x256_0_0_0).toLoadRect (h12.unread xs0))⟩] := by
  unfold kernelRun0_C
  dsimp only
  rfl

/-- The state after the last point. -/
theorem stateC (c : Dev nD) (i : grid0.Coords)
    (a3 : Memref sig .tc .vmem S1x64x1024 .f32) (h3 : a3.IsWhole) (a4 : Memref sig .tc .vmem S1x64x1024 .bf16) (h4 : a4.IsWhole)
    (a5 : Memref sig .tc .vmem S1x64x1024 .bf16) (h5 : a5.IsWhole) (a6 : Memref sig .tc .vmem S64x1024 .bf16) (h6 : a6.IsWhole)
    (a7 : Memref sig .tc .vmem S64x1024 .bf16) (h7 : a7.IsWhole) (a8 : Memref sig .tc .vmem S64x1024 .bf16) (h8 : a8.IsWhole)
    (a9 : Memref sig .tc .vmem S1x1x4x256x256 .f32) (h9 : a9.IsWhole) (a10 : Memref sig .tc .vmem S1x64x1024 .bf16) (h10 : a10.IsWhole)
    (a11 : Memref sig .tc .vmem S1x1x4x256x256 .f32) (h11 : a11.IsWhole) (a12 : Memref sig .tc .vmem S4x256x256 .f32) (h12 : a12.IsWhole)
    (hc0 : ¬cond0_0 i) (hc1 : cond0_1 i)
    (x0 : Vec F S1x64x1024 .f32) (x1 x2 : Vec F S1x64x1024 .bf16) (x3 x4 x5 : Vec F S64x1024 .bf16)
    (x6 : Vec F S1x1x4x256x256 .f32) (xs0 : Vec F S4x256x256 .f32) :
    sout0_C_0 c i a3 h3 a4 h4 a5 h5 a6 h6 a7 h7 a8 h8 a9 h9 a10 h10 a11 h11 a12 h12 hc0 hc1 x0 x1 x2 x3 x4 x5 x6 xs0
      = nextS (sgn (BitVec.ofNat 32 (i 0).val)) x0 x1 x2 x3 x4 x5 xs0 := by
  unfold sout0_C_0
  rw [View.read_writes_eq_canon _ _ _ (scover0_C_0 c i a3 h3 a4 h4 a5 h5 a6 h6 a7 h7 a8 h8 a9 h9 a10 h10 a11 h11 a12 h12 hc0 hc1 x0 x1 x2 x3 x4 x5 x6 xs0)]
  funext y
  have hc := scover0_C_0 c i a3 h3 a4 h4 a5 h5 a6 h6 a7 h7 a8 h8 a9 h9 a10 h10 a11 h11 a12 h12 hc0 hc1 x0 x1 x2 x3 x4 x5 x6 xs0 y
  rw [storedC_S] at hc ⊢
  refine View.canon_append_of_piecesOf _ [] _ ?_ y hc
  simp only [View.readAt_eq_ld, h3.read_unread, h4.read_unread, h5.read_unread, h6.read_unread, h7.read_unread, h8.read_unread, h12.read_unread,
    ld_lanes3 _ 0 0 rfl, ld_lanes2 _ 0 0 rfl, ld_slab _ 0 0 rfl,
    ld_lanes3 _ 1 256 rfl, ld_lanes2 _ 1 256 rfl, ld_slab _ 1 1 rfl,
    ld_lanes3 _ 2 512 rfl, ld_lanes2 _ 2 512 rfl, ld_slab _ 2 2 rfl,
    ld_lanes3 _ 3 768 rfl, ld_lanes2 _ 3 768 rfl, ld_slab _ 3 3 rfl]
  exact ⟨fun x => nextS_piece _ _ _ _ _ _ _ _ 3 3 rfl inb_S4x256x256_S1x256x256_3_0_0 x, fun x => nextS_piece _ _ _ _ _ _ _ _ 2 2 rfl inb_S4x256x256_S1x256x256_2_0_0 x,
    fun x => nextS_piece _ _ _ _ _ _ _ _ 1 1 rfl inb_S4x256x256_S1x256x256_1_0_0 x, fun x => nextS_piece _ _ _ _ _ _ _ _ 0 0 rfl inb_S4x256x256_S1x256x256_0_0_0 x, trivial⟩

/-- The output block of the last point. -/
theorem outputC (c : Dev nD) (i : grid0.Coords)
    (a3 : Memref sig .tc .vmem S1x64x1024 .f32) (h3 : a3.IsWhole) (a4 : Memref sig .tc .vmem S1x64x1024 .bf16) (h4 : a4.IsWhole)
    (a5 : Memref sig .tc .vmem S1x64x1024 .bf16) (h5 : a5.IsWhole) (a6 : Memref sig .tc .vmem S64x1024 .bf16) (h6 : a6.IsWhole)
    (a7 : Memref sig .tc .vmem S64x1024 .bf16) (h7 : a7.IsWhole) (a8 : Memref sig .tc .vmem S64x1024 .bf16) (h8 : a8.IsWhole)
    (a9 : Memref sig .tc .vmem S1x1x4x256x256 .f32) (h9 : a9.IsWhole) (a10 : Memref sig .tc .vmem S1x64x1024 .bf16) (h10 : a10.IsWhole)
    (a11 : Memref sig .tc .vmem S1x1x4x256x256 .f32) (h11 : a11.IsWhole) (a12 : Memref sig .tc .vmem S4x256x256 .f32) (h12 : a12.IsWhole)
    (hc0 : ¬cond0_0 i) (hc1 : cond0_1 i)
    (x0 : Vec F S1x64x1024 .f32) (x1 x2 : Vec F S1x64x1024 .bf16) (x3 x4 x5 : Vec F S64x1024 .bf16)
    (x6 : Vec F S1x1x4x256x256 .f32) (xs0 : Vec F S4x256x256 .f32) :
    out0_C_7 c i a3 h3 a4 h4 a5 h5 a6 h6 a7 h7 a8 h8 a9 h9 a10 h10 a11 h11 a12 h12 hc0 hc1 x0 x1 x2 x3 x4 x5 x6 xs0
      = nextY (sgn (BitVec.ofNat 32 (i 0).val)) x0 x1 x2 x3 x4 x5 xs0 := by
  unfold out0_C_7
  rw [View.read_writes_eq_canon _ _ _ (cover0_C_7 c i a3 h3 a4 h4 a5 h5 a6 h6 a7 h7 a8 h8 a9 h9 a10 h10 a11 h11 a12 h12 hc0 hc1 x0 x1 x2 x3 x4 x5 x6 xs0)]
  funext y
  have hc := cover0_C_7 c i a3 h3 a4 h4 a5 h5 a6 h6 a7 h7 a8 h8 a9 h9 a10 h10 a11 h11 a12 h12 hc0 hc1 x0 x1 x2 x3 x4 x5 x6 xs0 y
  rw [storedC_Y] at hc ⊢
  refine View.canon_append_of_piecesOf _ [] _ ?_ y hc
  simp only [View.readAt_eq_ld, h3.read_unread, h4.read_unread, h5.read_unread, h6.read_unread, h7.read_unread, h8.read_unread, h12.read_unread,
    ld_lanes3 _ 0 0 rfl, ld_lanes2 _ 0 0 rfl, ld_slab _ 0 0 rfl,
    ld_lanes3 _ 1 256 rfl, ld_lanes2 _ 1 256 rfl, ld_slab _ 1 1 rfl,
    ld_lanes3 _ 2 512 rfl, ld_lanes2 _ 2 512 rfl, ld_slab _ 2 2 rfl,
    ld_lanes3 _ 3 768 rfl, ld_lanes2 _ 3 768 rfl, ld_slab _ 3 3 rfl]
  exact ⟨fun x => nextY_piece _ _ _ _ _ _ _ _ 3 768 rfl inb_S1x64x1024_S1x64x256_0_0_768 x, fun x => nextY_piece _ _ _ _ _ _ _ _ 2 512 rfl inb_S1x64x1024_S1x64x256_0_0_512 x,
    fun x => nextY_piece _ _ _ _ _ _ _ _ 1 256 rfl inb_S1x64x1024_S1x64x256_0_0_256 x, fun x => nextY_piece _ _ _ _ _ _ _ _ 0 0 rfl inb_S1x64x1024_S1x64x256_0_0_0 x, trivial⟩

end Wkv.Body

end
-- ==== Proof.Wkv.Model.lean ====
/-
  The rule over the whole sequences: direction `d` and batch `b` have a sequence of 8192 tokens, taken forwards or
  backwards, and 16 heads of 64 rows; one grid point of the kernel takes the state of four groups of heads from one
  chunk of 64 tokens to the next.
-/
module

public import proofs.«01_k».proof.Proof.Wkv.Exact
public import proofs.«01_k».proof.Proof.Wkv.Body

@[expose] public section

set_option maxRecDepth 65536

noncomputable section

namespace Wkv.Model

open Cert.KernelIdeal Cert.KernelIdeal.Gen Idealize.ShloMosaic Idealize.ShloMosaic.TcCoe
open Wkv.Stage Wkv.Words Wkv.Blocks Wkv.Exact Wkv.Body

/-- The token of step `n` of a sequence. -/
def tok (d b : Fin 2) (n : ℕ) : Fin 16384 :=
  ⟨8192 * b.val + if d = 0 then n % 8192 else 8191 - n % 8192, by split <;> omega⟩

/-- Channel `c` of head `H`. -/
def lane16 (H : Fin 16) (c : Fin 64) : Fin 1024 := ⟨64 * H.val + c.val, by omega⟩

/-- The real arrays that the arguments hold. -/
structure Args where
  lw : S2x16384x1024.Idx → ℝ
  kd : S2x16384x1024.Idx → ℝ
  kka : S2x16384x1024.Idx → ℝ
  kk : S16384x1024.Idx → ℝ
  v : S16384x1024.Idx → ℝ
  r : S16384x1024.Idx → ℝ
  s0 : S2x2x4x256x256.Idx → ℝ

variable (A : Args)

/-- Row `i` of head `H`'s state after `n` steps. -/
def glob (d b : Fin 2) (H : Fin 16) (i : Fin 64) : ℕ → Fin 64 → ℝ
  | 0 => fun j => A.s0 (ix5 d b ⟨H.val / 4, by omega⟩ (lane ⟨H.val % 4, by omega⟩ i) (lane ⟨H.val % 4, by omega⟩ j))
  | n + 1 => step (glob d b H i n)
      (fun j => Real.exp (A.lw (ix3 d (tok d b n) (lane16 H j))))
      (fun j => A.kd (ix3 d (tok d b n) (lane16 H j)))
      (fun j => A.kk (ix2 (tok d b n) (lane16 H j)))
      (fun j => A.kka (ix3 d (tok d b n) (lane16 H j)))
      (A.v (ix2 (tok d b n) (lane16 H i)))

/-- The step of a token within its sequence. -/
def stepOf (d : Fin 2) (x : Fin 16384) : ℕ := if d = 0 then x.val % 8192 else 8191 - x.val % 8192

/-- The result: what a token's receptance reads of each row of its head's state after its own step. -/
def result (j : S2x16384x1024.Idx) : ℝ :=
  let d : Fin 2 := j 0
  let x : Fin 16384 := j 1
  let l : Fin 1024 := j 2
  ∑ k, glob A d ⟨x.val / 8192, by omega⟩ ⟨l.val / 64, by omega⟩ ⟨l.val % 64, by omega⟩ (stepOf d x + 1) k
    * A.r (ix2 x (lane16 ⟨l.val / 64, by omega⟩ k))

/-! ## One chunk -/

/-- The token `t` of chunk `c`, and the place of a chunk among the blocks of the arrays. -/
def blockOf (d : Fin 2) (c : Fin 128) : ℕ := if d = 0 then c.val else 127 - c.val
def tk (d b : Fin 2) (c : Fin 128) (t : Fin 64) : Fin 16384 :=
  ⟨8192 * b.val + 64 * blockOf d c + t.val, by have : blockOf d c ≤ 127 := by { unfold blockOf; split <;> omega }; omega⟩

/-- Head `h` of group `g`. -/
def head16 (g h : Fin 4) : Fin 16 := ⟨4 * g.val + h.val, by omega⟩

theorem laneOf_lane (g h : Fin 4) (c : Fin 64) : laneOf g (lane h c) = lane16 (head16 g h) c :=
  Fin.ext (by show 256 * g.val + (64 * h.val + c.val) = 64 * (4 * g.val + h.val) + c.val; omega)

/-- One head group of a chunk of an array. -/
def part3 (X : S2x16384x1024.Idx → ℝ) (d b : Fin 2) (c : Fin 128) (g : Fin 4) : Heads := fun h t k =>
  X (ix3 d (tk d b c t) (laneOf g (lane h k)))
def part2 (X : S16384x1024.Idx → ℝ) (d b : Fin 2) (c : Fin 128) (g : Fin 4) : Heads := fun h t k =>
  X (ix2 (tk d b c t) (laneOf g (lane h k)))

/-- One head group's state after `n` steps, and the whole state array. -/
def stateOf (d b : Fin 2) (g : Fin 4) (n : ℕ) : Heads := fun h i j => glob A d b (head16 g h) i n j
def stateVec (d b : Fin 2) (n : ℕ) : Vec Ideal S4x256x256 .f32 := fun y =>
  diag (e := .f32) (stateOf A d b (y 0) n) (ix2 (y 1) (y 2))

theorem tk_place : ∀ (d b : Fin 2) (c : Fin 128) (p : Fin 64), tk d b c ((place d).symm p) = tok d b (64 * c.val + p.val) := by
  intro d b c p
  have hc := c.isLt
  have hp := p.isLt
  have h8 : (64 * c.val + p.val) % 8192 = 64 * c.val + p.val := Nat.mod_eq_of_lt (by omega)
  apply Fin.ext
  fin_cases d
  · show 8192 * b.val + 64 * c.val + p.val = 8192 * b.val + (64 * c.val + p.val) % 8192
    omega
  · show 8192 * b.val + 64 * (127 - c.val) + (Fin.revPerm.symm p).val = 8192 * b.val + (8191 - (64 * c.val + p.val) % 8192)
    rw [Fin.revPerm_symm, Fin.revPerm_apply, Fin.val_rev]
    omega

/-- Within a chunk the state rows go on as in the whole sequence. -/
theorem rowAt_glob (d b : Fin 2) (c : Fin 128) (g h : Fin 4) (i : Fin 64) : ∀ p : ℕ, p ≤ 64 →
    rowAt d (part3 A.lw d b c g) (part3 A.kd d b c g) (part3 A.kka d b c g) (part2 A.kk d b c g) (part2 A.v d b c g)
        (stateOf A d b g (64 * c.val)) h i p
      = glob A d b (head16 g h) i (64 * c.val + p)
  | 0, _ => rfl
  | p + 1, hp => by
    have hp' : p < 64 := hp
    have ih := rowAt_glob d b c g h i p (by omega)
    have e := tk_place d b c ⟨p, hp'⟩
    unfold rowAt at ih ⊢
    unfold stateAt
    rw [dif_pos hp']
    dsimp only
    rw [ih]
    show _ = step (glob A d b (head16 g h) i (64 * c.val + p)) _ _ _ _ _
    have a3 : ∀ X, part3 X d b c g h ((place d).symm ⟨p, hp'⟩) = fun j => X (ix3 d (tok d b (64 * c.val + p)) (lane16 (head16 g h) j)) :=
      fun X => funext fun j => by unfold part3; rw [laneOf_lane, e]
    have a2 : ∀ X, part2 X d b c g h ((place d).symm ⟨p, hp'⟩) = fun j => X (ix2 (tok d b (64 * c.val + p)) (lane16 (head16 g h) j)) :=
      fun X => funext fun j => by unfold part2; rw [laneOf_lane, e]
    rw [a3 A.lw, a3 A.kd, a3 A.kka, a2 A.kk, a2 A.v]
    rfl

/-! ## One grid point -/

section point

variable (d b : Fin 2) (c : Fin 128)
  (x0 : Vec Ideal S1x64x1024 .f32) (x1 x2 : Vec Ideal S1x64x1024 .bf16) (x3 x4 x5 : Vec Ideal S64x1024 .bf16)
  (h0 : ∀ t l, x0 (ix3 0 t l) = ((A.lw (ix3 d (tk d b c t) l) : ℝ) : EReal))
  (h1 : ∀ t l, x1 (ix3 0 t l) = ((A.kd (ix3 d (tk d b c t) l) : ℝ) : EReal))
  (h2 : ∀ t l, x2 (ix3 0 t l) = ((A.kka (ix3 d (tk d b c t) l) : ℝ) : EReal))
  (h3 : ∀ t l, x3 (ix2 t l) = ((A.kk (ix2 (tk d b c t) l) : ℝ) : EReal))
  (h4 : ∀ t l, x4 (ix2 t l) = ((A.v (ix2 (tk d b c t) l) : ℝ) : EReal))
  (h5 : ∀ t l, x5 (ix2 t l) = ((A.r (ix2 (tk d b c t) l) : ℝ) : EReal))

theorem plain_lanes (X : S2x16384x1024.Idx → ℝ) (x : Vec Ideal S1x64x1024 .f32)
    (h : ∀ t l, x (ix3 0 t l) = ((X (ix3 d (tk d b c t) l) : ℝ) : EReal)) (g : Fin 4) :
    plain (lanes3 g x) = blk (part3 X d b c g) := by
  funext j; idx_vars j
  pointwise [plain, lanes3, blk_apply]
  refine (h j0 (laneOf g j1)).trans ?_
  unfold part3
  rw [lane_hd_ch]
theorem widen_lanes (X : S2x16384x1024.Idx → ℝ) (x : Vec Ideal S1x64x1024 .bf16)
    (h : ∀ t l, x (ix3 0 t l) = ((X (ix3 d (tk d b c t) l) : ℝ) : EReal)) (g : Fin 4) :
    widen (lanes3 g x) = blk (part3 X d b c g) := by
  funext j; idx_vars j
  pointwise [widen, lanes3, blk_apply]
  refine (h j0 (laneOf g j1)).trans ?_
  unfold part3
  rw [lane_hd_ch]
theorem widen2_lanes (X : S16384x1024.Idx → ℝ) (x : Vec Ideal S64x1024 .bf16)
    (h : ∀ t l, x (ix2 t l) = ((X (ix2 (tk d b c t) l) : ℝ) : EReal)) (g : Fin 4) :
    widen2 (lanes2 g x) = blk (part2 X d b c g) := by
  funext j; idx_vars j
  pointwise [widen2, lanes2, blk_apply]
  refine (h j0 (laneOf g j1)).trans ?_
  unfold part2
  rw [lane_hd_ch]
theorem square_slab (n : ℕ) (g : Fin 4) : square (slab g (stateVec A d b n)) = diag (stateOf A d b g n) := by
  funext j; idx_vars j
  pointwise [square, slab, stateVec, diag_apply]

include h0 h1 h2 h3 h4 h5

/-- The state after the point. -/
theorem nextS_eq : nextS (sg d) x0 x1 x2 x3 x4 x5 (stateVec A d b (64 * c.val)) = stateVec A d b (64 * (c.val + 1)) := by
  funext y; idx_vars y
  unfold nextS groupS storeS
  show shapeCast S1x256x256 (outS (sg d) (plain (lanes3 y0 x0)) (widen (lanes3 y0 x1)) (widen (lanes3 y0 x2)) (widen2 (lanes2 y0 x3))
    (widen2 (lanes2 y0 x4)) (widen2 (lanes2 y0 x5)) (square (slab y0 (stateVec A d b (64 * c.val))))) shapeCasts_S256x256_S1x256x256
    (ix3 0 y1 y2) = _
  rw [plain_lanes d b c _ _ h0, widen_lanes d b c _ _ h1, widen_lanes d b c _ _ h2, widen2_lanes d b c _ _ h3, widen2_lanes d b c _ _ h4,
    widen2_lanes d b c _ _ h5, square_slab, outS_diag]
  pointwise
  show diag _ (ix2 y1 y2) = diag (e := .f32) (stateOf A d b y0 (64 * (c.val + 1))) (ix2 y1 y2)
  congr 2
  funext h i
  exact rowAt_glob A d b c y0 h i 64 le_rfl

/-- The output block of the point. -/
theorem nextY_eq (t : Fin 64) (l : Fin 1024) :
    nextY (sg d) x0 x1 x2 x3 x4 x5 (stateVec A d b (64 * c.val)) (ix3 0 t l)
      = ((result A (ix3 d (tk d b c t) l) : ℝ) : EReal) := by
  have hl := l.isLt
  set g : Fin 4 := ⟨l.val / 256, by omega⟩ with hg
  set l' : Fin 256 := ⟨l.val % 256, by omega⟩ with hl'
  unfold nextY groupY storeY
  show shapeCast S1x64x256 (truncf .bf16 (outY (sg d) (plain (lanes3 g x0)) (widen (lanes3 g x1)) (widen (lanes3 g x2)) (widen2 (lanes2 g x3))
    (widen2 (lanes2 g x4)) (widen2 (lanes2 g x5)) (square (slab g (stateVec A d b (64 * c.val))))) bitsLt_bf16_f32) shapeCasts_S64x256_S1x64x256
    (ix3 0 t l') = _
  rw [plain_lanes d b c _ _ h0, widen_lanes d b c _ _ h1, widen_lanes d b c _ _ h2, widen2_lanes d b c _ _ h3, widen2_lanes d b c _ _ h4,
    widen2_lanes d b c _ _ h5, square_slab, outY_blk]
  pointwise [blk_apply]
  congr 1
  unfold result
  dsimp only
  have eb : (⟨(tk d b c t).val / 8192, by omega⟩ : Fin 2) = b := Fin.ext (by
    show (8192 * b.val + 64 * blockOf d c + t.val) / 8192 = b.val
    have : blockOf d c ≤ 127 := by { unfold blockOf; split <;> omega }
    omega)
  have eH : (⟨l.val / 64, by omega⟩ : Fin 16) = head16 g (hd l') := Fin.ext (by
    show l.val / 64 = 4 * (l.val / 256) + l.val % 256 / 64
    omega)
  have ei : (⟨l.val % 64, by omega⟩ : Fin 64) = ch l' := Fin.ext (by
    show l.val % 64 = l.val % 256 % 64
    omega)
  have es : stepOf d (tk d b c t) = 64 * c.val + (place d t).val := by
    have hc := c.isLt
    have ht := t.isLt
    unfold stepOf
    fin_cases d
    · show (8192 * b.val + 64 * c.val + t.val) % 8192 = 64 * c.val + t.val
      omega
    · show 8191 - (8192 * b.val + 64 * (127 - c.val) + t.val) % 8192 = 64 * c.val + (Fin.revPerm t).val
      rw [Fin.revPerm_apply, Fin.val_rev]
      omega
  show _ = ∑ k, glob A d ⟨(tk d b c t).val / 8192, _⟩ ⟨l.val / 64, _⟩ ⟨l.val % 64, _⟩ (stepOf d (tk d b c t) + 1) k
    * A.r (ix2 (tk d b c t) (lane16 ⟨l.val / 64, _⟩ k))
  rw [eb, eH, ei, es]
  refine Finset.sum_congr rfl fun k _ => ?_
  rw [rowAt_glob A d b c g (hd l') (ch l') ((place d t).val + 1) (place d t).isLt]
  unfold part2
  rw [laneOf_lane]
  rfl

end point

end Wkv.Model

end
-- ==== Proof.Wkv.Launch.lean ====
/-
  The launch: the grid points of one direction and batch take the state from chunk to chunk, and the blocks they write
  make up the result of the whole sequences.
-/
module

public import proofs.«01_k».proof.Proof.Wkv.Model
public import proofs.«01_k».proof.Proof.Gen.KernelIdeal.Value
public import Idealize.ShloMosaic.Lib.Pipeline.Value

@[expose] public section

set_option maxRecDepth 65536

noncomputable section

namespace Wkv.Launch

open Cert.KernelIdeal Cert.KernelIdeal.Gen Cert.KernelIdeal.Value Idealize.ShloMosaic Idealize.ShloMosaic.TcCoe
open Idealize.ShloMosaic.Pipeline (Dat)
open Wkv.Stage Wkv.Words Wkv.Blocks Wkv.Exact Wkv.Body Wkv.Model

/-- The seven arguments hold these real arrays, and the start states are zero off the diagonal of heads. -/
structure Holds (A : Args) (a0 : Vec Ideal S2x16384x1024 .f32) (a1 a2 : Vec Ideal S2x16384x1024 .bf16)
    (a3 a4 a5 : Vec Ideal S16384x1024 .bf16) (a6 : Vec Ideal S2x2x4x256x256 .f32) : Prop where
  lw : ∀ j, a0 j = ((A.lw j : ℝ) : EReal)
  kd : ∀ j, a1 j = ((A.kd j : ℝ) : EReal)
  kka : ∀ j, a2 j = ((A.kka j : ℝ) : EReal)
  kk : ∀ j, a3 j = ((A.kk j : ℝ) : EReal)
  v : ∀ j, a4 j = ((A.v j : ℝ) : EReal)
  r : ∀ j, a5 j = ((A.r j : ℝ) : EReal)
  s0 : ∀ j, a6 j = ((A.s0 j : ℝ) : EReal)
  off : ∀ d b g i j, hd i ≠ hd j → A.s0 (ix5 d b g i j) = 0

/-! ## The points of the grid -/

def dOf (t : Fin cfg0.N) : Fin 2 := ⟨t.val / 256, by have := lt_of_lt_of_eq t.isLt N_0; omega⟩
def bOf (t : Fin cfg0.N) : Fin 2 := ⟨t.val / 128 % 2, by omega⟩
def cOf (t : Fin cfg0.N) : Fin 128 := ⟨t.val % 128, by omega⟩

theorem coord0 : ∀ t : Fin cfg0.N, (grid0.coords t 0).val = t.val / 256 :=
  (by decide +kernel : ∀ t : Fin grid0.N, (grid0.coords t 0).val = t.val / 256)

/-- The block row of a point. -/
def rowOf (n : ℕ) : ℕ := 128 * (n / 128 % 2) + if n / 256 = 0 then n % 128 else 127 - n % 128

theorem row_eq (t : Fin cfg0.N) (x : Fin 64) : rowOf t.val * 64 + x.val = (tk (dOf t) (bOf t) (cOf t) x).val := by
  show (128 * (t.val / 128 % 2) + if t.val / 256 = 0 then t.val % 128 else 127 - t.val % 128) * 64 + x.val
    = 8192 * (t.val / 128 % 2) + 64 * (if dOf t = 0 then t.val % 128 else 127 - t.val % 128) + x.val
  have e : (dOf t = 0) = (t.val / 256 = 0) := by
    apply propext
    rw [Fin.ext_iff]
    rfl
  simp only [e]
  split <;> omega

theorem index0 : ∀ t : Fin cfg0.N, win0_0.index t 0 = t.val / 256 ∧ win0_0.index t 1 = rowOf t.val ∧ win0_0.index t 2 = 0 :=
  (by decide +kernel : ∀ t : Fin grid0.N, win0_0.index t 0 = t.val / 256 ∧ win0_0.index t 1 = rowOf t.val ∧ win0_0.index t 2 = 0)
theorem index1 : ∀ t : Fin cfg0.N, win0_1.index t 0 = t.val / 256 ∧ win0_1.index t 1 = rowOf t.val ∧ win0_1.index t 2 = 0 :=
  (by decide +kernel : ∀ t : Fin grid0.N, win0_1.index t 0 = t.val / 256 ∧ win0_1.index t 1 = rowOf t.val ∧ win0_1.index t 2 = 0)
theorem index2 : ∀ t : Fin cfg0.N, win0_2.index t 0 = t.val / 256 ∧ win0_2.index t 1 = rowOf t.val ∧ win0_2.index t 2 = 0 :=
  (by decide +kernel : ∀ t : Fin grid0.N, win0_2.index t 0 = t.val / 256 ∧ win0_2.index t 1 = rowOf t.val ∧ win0_2.index t 2 = 0)
theorem index3 : ∀ t : Fin cfg0.N, win0_3.index t 0 = rowOf t.val ∧ win0_3.index t 1 = 0 :=
  (by decide +kernel : ∀ t : Fin grid0.N, win0_3.index t 0 = rowOf t.val ∧ win0_3.index t 1 = 0)
theorem index4 : ∀ t : Fin cfg0.N, win0_4.index t 0 = rowOf t.val ∧ win0_4.index t 1 = 0 :=
  (by decide +kernel : ∀ t : Fin grid0.N, win0_4.index t 0 = rowOf t.val ∧ win0_4.index t 1 = 0)
theorem index5 : ∀ t : Fin cfg0.N, win0_5.index t 0 = rowOf t.val ∧ win0_5.index t 1 = 0 :=
  (by decide +kernel : ∀ t : Fin grid0.N, win0_5.index t 0 = rowOf t.val ∧ win0_5.index t 1 = 0)
theorem index6 : ∀ t : Fin cfg0.N, win0_6.index t 0 = t.val / 256 ∧ win0_6.index t 1 = t.val / 128 % 2 ∧ win0_6.index t 2 = 0
    ∧ win0_6.index t 3 = 0 ∧ win0_6.index t 4 = 0 :=
  (by decide +kernel : ∀ t : Fin grid0.N, win0_6.index t 0 = t.val / 256 ∧ win0_6.index t 1 = t.val / 128 % 2 ∧ win0_6.index t 2 = 0
    ∧ win0_6.index t 3 = 0 ∧ win0_6.index t 4 = 0)
theorem index7 : ∀ t : Fin cfg0.N, win0_7.index t 0 = t.val / 256 ∧ win0_7.index t 1 = rowOf t.val ∧ win0_7.index t 2 = 0 :=
  (by decide +kernel : ∀ t : Fin grid0.N, win0_7.index t 0 = t.val / 256 ∧ win0_7.index t 1 = rowOf t.val ∧ win0_7.index t 2 = 0)

/-! ## The blocks the points read -/

variable (m : (ℓ : Loc nD τ sig) → Buf (Elt Ideal) ℓ) (c : Dev nD) (t : Fin cfg0.N)

theorem block0 (x : Fin 64) (l : Fin 1024) : (iblk m c 0 t : Vec Ideal S1x64x1024 .f32) (ix3 0 x l)
    = m ((c : Thread nD τ).loc main_arg0) (ix3 (dOf t) (tk (dOf t) (bOf t) (cOf t) x) l) := by
  unfold iblk
  rw [View.read_apply]
  show V m c main_arg0 _ = _
  unfold V
  congr 1
  have hi := index0 t
  funext a
  apply Fin.ext
  match a with
  | ⟨0, _⟩ => show win0_0.index t 0 * 1 + 1 * 0 = t.val / 256; rw [hi.1]; omega
  | ⟨1, _⟩ => show win0_0.index t 1 * 64 + 1 * x.val = _; rw [hi.2.1, Nat.one_mul]; exact row_eq t x
  | ⟨2, _⟩ => show win0_0.index t 2 * 1024 + 1 * l.val = l.val; rw [hi.2.2]; omega
theorem block1 (x : Fin 64) (l : Fin 1024) : (iblk m c 1 t : Vec Ideal S1x64x1024 .bf16) (ix3 0 x l)
    = m ((c : Thread nD τ).loc main_arg1) (ix3 (dOf t) (tk (dOf t) (bOf t) (cOf t) x) l) := by
  unfold iblk
  rw [View.read_apply]
  show V m c main_arg1 _ = _
  unfold V
  congr 1
  have hi := index1 t
  funext a
  apply Fin.ext
  match a with
  | ⟨0, _⟩ => show win0_1.index t 0 * 1 + 1 * 0 = t.val / 256; rw [hi.1]; omega
  | ⟨1, _⟩ => show win0_1.index t 1 * 64 + 1 * x.val = _; rw [hi.2.1, Nat.one_mul]; exact row_eq t x
  | ⟨2, _⟩ => show win0_1.index t 2 * 1024 + 1 * l.val = l.val; rw [hi.2.2]; omega
theorem block2 (x : Fin 64) (l : Fin 1024) : (iblk m c 2 t : Vec Ideal S1x64x1024 .bf16) (ix3 0 x l)
    = m ((c : Thread nD τ).loc main_arg2) (ix3 (dOf t) (tk (dOf t) (bOf t) (cOf t) x) l) := by
  unfold iblk
  rw [View.read_apply]
  show V m c main_arg2 _ = _
  unfold V
  congr 1
  have hi := index2 t
  funext a
  apply Fin.ext
  match a with
  | ⟨0, _⟩ => show win0_2.index t 0 * 1 + 1 * 0 = t.val / 256; rw [hi.1]; omega
  | ⟨1, _⟩ => show win0_2.index t 1 * 64 + 1 * x.val = _; rw [hi.2.1, Nat.one_mul]; exact row_eq t x
  | ⟨2, _⟩ => show win0_2.index t 2 * 1024 + 1 * l.val = l.val; rw [hi.2.2]; omega
theorem block3 (x : Fin 64) (l : Fin 1024) : (iblk m c 3 t : Vec Ideal S64x1024 .bf16) (ix2 x l)
    = m ((c : Thread nD τ).loc main_arg3) (ix2 (tk (dOf t) (bOf t) (cOf t) x) l) := by
  unfold iblk
  rw [View.read_apply]
  show V m c main_arg3 _ = _
  unfold V
  congr 1
  have hi := index3 t
  funext a
  apply Fin.ext
  match a with
  | ⟨0, _⟩ => show win0_3.index t 0 * 64 + 1 * x.val = _; rw [hi.1, Nat.one_mul]; exact row_eq t x
  | ⟨1, _⟩ => show win0_3.index t 1 * 1024 + 1 * l.val = l.val; rw [hi.2]; omega
theorem block4 (x : Fin 64) (l : Fin 1024) : (iblk m c 4 t : Vec Ideal S64x1024 .bf16) (ix2 x l)
    = m ((c : Thread nD τ).loc main_arg4) (ix2 (tk (dOf t) (bOf t) (cOf t) x) l) := by
  unfold iblk
  rw [View.read_apply]
  show V m c main_arg4 _ = _
  unfold V
  congr 1
  have hi := index4 t
  funext a
  apply Fin.ext
  match a with
  | ⟨0, _⟩ => show win0_4.index t 0 * 64 + 1 * x.val = _; rw [hi.1, Nat.one_mul]; exact row_eq t x
  | ⟨1, _⟩ => show win0_4.index t 1 * 1024 + 1 * l.val = l.val; rw [hi.2]; omega
theorem block5 (x : Fin 64) (l : Fin 1024) : (iblk m c 5 t : Vec Ideal S64x1024 .bf16) (ix2 x l)
    = m ((c : Thread nD τ).loc main_arg5) (ix2 (tk (dOf t) (bOf t) (cOf t) x) l) := by
  unfold iblk
  rw [View.read_apply]
  show V m c main_arg5 _ = _
  unfold V
  congr 1
  have hi := index5 t
  funext a
  apply Fin.ext
  match a with
  | ⟨0, _⟩ => show win0_5.index t 0 * 64 + 1 * x.val = _; rw [hi.1, Nat.one_mul]; exact row_eq t x
  | ⟨1, _⟩ => show win0_5.index t 1 * 1024 + 1 * l.val = l.val; rw [hi.2]; omega
theorem block6 (g : Fin 4) (i j : Fin 256) : (iblk m c 6 t : Vec Ideal S1x1x4x256x256 .f32) (ix5 0 0 g i j)
    = m ((c : Thread nD τ).loc main_arg6) (ix5 (dOf t) (bOf t) g i j) := by
  unfold iblk
  rw [View.read_apply]
  show V m c main_arg6 _ = _
  unfold V
  congr 1
  have hi := index6 t
  funext a
  apply Fin.ext
  match a with
  | ⟨0, _⟩ => show win0_6.index t 0 * 1 + 1 * 0 = t.val / 256; rw [hi.1]; omega
  | ⟨1, _⟩ => show win0_6.index t 1 * 1 + 1 * 0 = t.val / 128 % 2; rw [hi.2.1]; omega
  | ⟨2, _⟩ => show win0_6.index t 2 * 4 + 1 * g.val = g.val; rw [hi.2.2.1]; omega
  | ⟨3, _⟩ => show win0_6.index t 3 * 256 + 1 * i.val = i.val; rw [hi.2.2.2.1]; omega
  | ⟨4, _⟩ => show win0_6.index t 4 * 256 + 1 * j.val = j.val; rw [hi.2.2.2.2]; omega

/-! ## From point to point -/

variable (A : Args)
  (H : Holds A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)))

theorem head_pair (g h : Fin 4) (i j : Fin 64) (d b : Fin 2) :
    glob A d b (head16 g h) i 0 j = A.s0 (ix5 d b g (lane h i) (lane h j)) := by
  have e1 : (⟨(head16 g h).val / 4, by omega⟩ : Fin 4) = g := Fin.ext (by show (4 * g.val + h.val) / 4 = g.val; omega)
  have e2 : (⟨(head16 g h).val % 4, by omega⟩ : Fin 4) = h := Fin.ext (by show (4 * g.val + h.val) % 4 = h.val; omega)
  show A.s0 (ix5 d b ⟨(head16 g h).val / 4, _⟩ (lane ⟨(head16 g h).val % 4, _⟩ i) (lane ⟨(head16 g h).val % 4, _⟩ j)) = _
  rw [e1, e2]

/-- A start state block as the model's state before the first step. -/
theorem start_eq (d b : Fin 2) (x6 : Vec Ideal S1x1x4x256x256 .f32)
    (h6 : ∀ g i j, x6 (ix5 0 0 g i j) = ((A.s0 (ix5 d b g i j) : ℝ) : EReal))
    (off : ∀ d b g i j, hd i ≠ hd j → A.s0 (ix5 d b g i j) = 0) :
    startS x6 = stateVec A d b 0 := by
  funext y; idx_vars y
  pointwise [startS, stateVec, diag_apply]
  refine (h6 y0 y1 y2).trans ?_
  unfold stateOf
  by_cases e : hd y1 = hd y2
  · rw [if_pos e, head_pair, lane_hd_ch, e, lane_hd_ch]
  · rw [if_neg e, off _ _ _ _ _ e]

include H

theorem state_step (s : Vec Ideal S4x256x256 .f32) (hs : s = stateVec A (dOf t) (bOf t) (64 * (cOf t).val)) :
    nextS (sgn (BitVec.ofNat 32 (grid0.coords t 0).val)) (iblk m c 0 t) (iblk m c 1 t) (iblk m c 2 t) (iblk m c 3 t)
      (iblk m c 4 t) (iblk m c 5 t) s = stateVec A (dOf t) (bOf t) (64 * ((cOf t).val + 1)) := by
  subst hs
  have e := coord0 t
  rw [e]
  exact nextS_eq A (dOf t) (bOf t) (cOf t) (iblk m c 0 t) (iblk m c 1 t) (iblk m c 2 t) (iblk m c 3 t) (iblk m c 4 t) (iblk m c 5 t)
    (fun x l => (block0 m c t x l).trans (H.lw _)) (fun x l => (block1 m c t x l).trans (H.kd _))
    (fun x l => (block2 m c t x l).trans (H.kka _)) (fun x l => (block3 m c t x l).trans (H.kk _))
    (fun x l => (block4 m c t x l).trans (H.v _)) (fun x l => (block5 m c t x l).trans (H.r _))
theorem output_step (s : Vec Ideal S4x256x256 .f32) (hs : s = stateVec A (dOf t) (bOf t) (64 * (cOf t).val)) (x : Fin 64) (l : Fin 1024) :
    nextY (sgn (BitVec.ofNat 32 (grid0.coords t 0).val)) (iblk m c 0 t) (iblk m c 1 t) (iblk m c 2 t) (iblk m c 3 t)
      (iblk m c 4 t) (iblk m c 5 t) s (ix3 0 x l) = ((result A (ix3 (dOf t) (tk (dOf t) (bOf t) (cOf t) x) l) : ℝ) : EReal) := by
  subst hs
  have e := coord0 t
  rw [e]
  exact nextY_eq A (dOf t) (bOf t) (cOf t) (iblk m c 0 t) (iblk m c 1 t) (iblk m c 2 t) (iblk m c 3 t) (iblk m c 4 t) (iblk m c 5 t)
    (fun x l => (block0 m c t x l).trans (H.lw _)) (fun x l => (block1 m c t x l).trans (H.kd _))
    (fun x l => (block2 m c t x l).trans (H.kka _)) (fun x l => (block3 m c t x l).trans (H.kk _))
    (fun x l => (block4 m c t x l).trans (H.v _)) (fun x l => (block5 m c t x l).trans (H.r _)) x l
theorem start_step (hc : (cOf t).val = 0) :
    startS (iblk m c 6 t : Vec Ideal S1x1x4x256x256 .f32) = stateVec A (dOf t) (bOf t) (64 * (cOf t).val) := by
  rw [hc]
  exact start_eq A (dOf t) (bOf t) (iblk m c 6 t) (fun g i j => (block6 m c t g i j).trans (H.s0 _)) H.off

/-- What a point leaves in the state buffer. -/
theorem state_after : ∀ (n : ℕ) (hn : n < cfg0.N),
    (outsAt0 m c n hn).2.2 = stateVec A (dOf ⟨n, hn⟩) (bOf ⟨n, hn⟩) (64 * ((cOf ⟨n, hn⟩).val + 1)) := by
  intro n
  induction n with
  | zero =>
    intro hn
    rw [outsAt0_A m c ⟨0, hn⟩ rfl (by dsimp only; omega)]
    dsimp only
    rw [stateA]
    exact state_step m c ⟨0, hn⟩ A H _ (start_step m c ⟨0, hn⟩ A H rfl)
  | succ n ih =>
    intro hn
    have hN := lt_of_lt_of_eq hn (show cfg0.N = 512 from N_0)
    by_cases h0 : (n + 1) % 128 = 0
    · rw [outsAt0_A m c ⟨n + 1, hn⟩ h0 (by dsimp only; omega)]
      dsimp only
      rw [stateA]
      exact state_step m c ⟨n + 1, hn⟩ A H _ (start_step m c ⟨n + 1, hn⟩ A H h0)
    · have hs : (outsAt0 m c n (Nat.lt_of_succ_lt hn)).2.2
          = stateVec A (dOf ⟨n + 1, hn⟩) (bOf ⟨n + 1, hn⟩) (64 * (cOf ⟨n + 1, hn⟩).val) := by
        rw [ih (Nat.lt_of_succ_lt hn)]
        have ed : dOf ⟨n, Nat.lt_of_succ_lt hn⟩ = dOf ⟨n + 1, hn⟩ := Fin.ext (by show n / 256 = (n + 1) / 256; omega)
        have eb : bOf ⟨n, Nat.lt_of_succ_lt hn⟩ = bOf ⟨n + 1, hn⟩ := Fin.ext (by show n / 128 % 2 = (n + 1) / 128 % 2; omega)
        have ec : (cOf ⟨n, Nat.lt_of_succ_lt hn⟩).val + 1 = (cOf ⟨n + 1, hn⟩).val := by show n % 128 + 1 = (n + 1) % 128; omega
        rw [ed, eb, ec]
      by_cases h1 : (n + 1) % 128 = 127
      · rw [outsAt0_C m c ⟨n + 1, hn⟩ h0 h1]
        dsimp only
        rw [stateC]
        exact state_step m c ⟨n + 1, hn⟩ A H _ hs
      · rw [outsAt0_B m c ⟨n + 1, hn⟩ h0 h1]
        dsimp only
        rw [stateB]
        exact state_step m c ⟨n + 1, hn⟩ A H _ hs

/-- What a point leaves in the output buffer. -/
theorem output_after (x : Fin 64) (l : Fin 1024) : ((outsAt0 m c t.val t.isLt).1 : Vec Ideal S1x64x1024 .bf16) (ix3 0 x l)
    = ((result A (ix3 (dOf t) (tk (dOf t) (bOf t) (cOf t) x) l) : ℝ) : EReal) := by
  obtain ⟨n, hn⟩ := t
  have hN := lt_of_lt_of_eq hn (show cfg0.N = 512 from N_0)
  by_cases h0 : n % 128 = 0
  · rw [outsAt0_A m c ⟨n, hn⟩ h0 (by dsimp only; omega)]
    dsimp only
    rw [outputA]
    exact output_step m c ⟨n, hn⟩ A H _ (start_step m c ⟨n, hn⟩ A H h0) x l
  · have hs : (outsAt0 m c (n - 1) (Nat.lt_of_le_of_lt (Nat.sub_le _ _) hn)).2.2
        = stateVec A (dOf ⟨n, hn⟩) (bOf ⟨n, hn⟩) (64 * (cOf ⟨n, hn⟩).val) := by
      rw [state_after m c A H (n - 1) (Nat.lt_of_le_of_lt (Nat.sub_le _ _) hn)]
      have ed : dOf ⟨n - 1, Nat.lt_of_le_of_lt (Nat.sub_le _ _) hn⟩ = dOf ⟨n, hn⟩ := Fin.ext (by show (n - 1) / 256 = n / 256; omega)
      have eb : bOf ⟨n - 1, Nat.lt_of_le_of_lt (Nat.sub_le _ _) hn⟩ = bOf ⟨n, hn⟩ := Fin.ext (by show (n - 1) / 128 % 2 = n / 128 % 2; omega)
      have ec : (cOf ⟨n - 1, Nat.lt_of_le_of_lt (Nat.sub_le _ _) hn⟩).val + 1 = (cOf ⟨n, hn⟩).val := by show (n - 1) % 128 + 1 = n % 128; omega
      rw [ed, eb, ec]
    by_cases h1 : n % 128 = 127
    · rw [outsAt0_C m c ⟨n, hn⟩ h0 h1]
      dsimp only
      rw [outputC]
      exact output_step m c ⟨n, hn⟩ A H _ hs x l
    · rw [outsAt0_B m c ⟨n, hn⟩ h0 h1]
      dsimp only
      rw [outputB]
      exact output_step m c ⟨n, hn⟩ A H _ hs x l

/-! ## The whole array -/

omit H in
/-- The result as contents of the output array. -/
def resultArr : Vec Ideal S2x16384x1024 .bf16 := fun j => ((result A j : ℝ) : EReal)

theorem flushed_eq : (dats m 0 c).flushed 7 t = ((cfg0.win 7).blk t).view.read (Elt Ideal) (resultArr A) := by
  rw [flushed7]
  funext j
  obtain ⟨x, l, rfl⟩ : ∃ (x : Fin 64) (l : Fin 1024), j = ix3 0 x l :=
    ⟨j 1, j 2, funext fun a => match a with
      | ⟨0, _⟩ => Fin.ext (Nat.lt_one_iff.mp (j 0).isLt)
      | ⟨1, _⟩ => rfl
      | ⟨2, _⟩ => rfl⟩
  refine (output_after m c t A H x l).trans ?_
  rw [View.read_apply]
  show resultArr A _ = resultArr A _
  congr 1
  have hi := index7 t
  funext a
  apply Fin.ext
  match a with
  | ⟨0, _⟩ => show t.val / 256 = win0_7.index t 0 * 1 + 1 * 0; rw [hi.1]; omega
  | ⟨1, _⟩ => show _ = win0_7.index t 1 * 64 + 1 * x.val; rw [hi.2.1, Nat.one_mul]; exact (row_eq t x).symm
  | ⟨2, _⟩ => show l.val = win0_7.index t 2 * 1024 + 1 * l.val; rw [hi.2.2]; omega

omit H in
theorem xsize7 : ∀ t : Fin cfg0.N, win0_7.xsize (grid0.coords t) 0 = 1 ∧ win0_7.xsize (grid0.coords t) 1 = 64 ∧ win0_7.xsize (grid0.coords t) 2 = 1024 :=
  (by decide +kernel : ∀ t : Fin grid0.N, win0_7.xsize (grid0.coords t) 0 = 1 ∧ win0_7.xsize (grid0.coords t) 1 = 64 ∧ win0_7.xsize (grid0.coords t) 2 = 1024)

/-- The output array after the launch. -/
theorem final : (dats m 0 c).arrAt 7 cfg0.N = resultArr A :=
  (dats m 0 c).arrAt_eq_of_cover 7 (resultArr A) (fun t _ => flushed_eq m c t A H) fun i => by
    have h0 : (i 0 : Nat) < 2 := (i 0).isLt
    have h1 : (i 1 : Nat) < 16384 := (i 1).isLt
    have h2 : (i 2 : Nat) < 1024 := (i 2).isLt
    let q : ℕ := (i 1 : Nat) / 64 % 128
    let n : ℕ := 256 * (i 0 : Nat) + 128 * ((i 1 : Nat) / 8192) + if (i 0 : Nat) = 0 then q else 127 - q
    have hq : q < 128 := Nat.mod_lt _ (by decide)
    have hn : n < cfg0.N := by
      rw [show cfg0.N = 512 from N_0]
      show 256 * (i 0 : Nat) + 128 * ((i 1 : Nat) / 8192) + (if (i 0 : Nat) = 0 then q else 127 - q) < 512
      split <;> omega
    have hr : n / 256 = (i 0 : Nat) ∧ rowOf n = (i 1 : Nat) / 64 := by
      unfold rowOf
      show (256 * (i 0 : Nat) + 128 * ((i 1 : Nat) / 8192) + (if (i 0 : Nat) = 0 then q else 127 - q)) / 256 = (i 0 : Nat)
        ∧ 128 * ((256 * (i 0 : Nat) + 128 * ((i 1 : Nat) / 8192) + (if (i 0 : Nat) = 0 then q else 127 - q)) / 128 % 2)
          + (if (256 * (i 0 : Nat) + 128 * ((i 1 : Nat) / 8192) + (if (i 0 : Nat) = 0 then q else 127 - q)) / 256 = 0
            then (256 * (i 0 : Nat) + 128 * ((i 1 : Nat) / 8192) + (if (i 0 : Nat) = 0 then q else 127 - q)) % 128
            else 127 - (256 * (i 0 : Nat) + 128 * ((i 1 : Nat) / 8192) + (if (i 0 : Nat) = 0 then q else 127 - q)) % 128) = (i 1 : Nat) / 64
      have hq' : q = (i 1 : Nat) / 64 % 128 := rfl
      by_cases e : (i 0 : Nat) = 0
      · simp only [if_pos e]
        constructor
        · omega
        · rw [if_pos (by omega)]; omega
      · simp only [if_neg e]
        constructor
        · omega
        · rw [if_neg (by omega)]; omega
    refine ⟨⟨n, hn⟩, flush0_7 _, ?_⟩
    have hi := index7 ⟨n, hn⟩
    have hx := xsize7 ⟨n, hn⟩
    show i ∈ ((View.whole main_v0_0).slice (win0_7.rect ⟨n, hn⟩)).set
    rw [View.set_slice_whole, Rect.mem_set_unit]
    intro a
    match a with
    | ⟨0, _⟩ =>
      show win0_7.index ⟨n, hn⟩ 0 * 1 ≤ (i 0 : Nat) ∧ (i 0 : Nat) < win0_7.index ⟨n, hn⟩ 0 * 1 + win0_7.xsize (grid0.coords ⟨n, hn⟩) 0
      rw [hi.1, hx.1]; dsimp only; omega
    | ⟨1, _⟩ =>
      show win0_7.index ⟨n, hn⟩ 1 * 64 ≤ (i 1 : Nat) ∧ (i 1 : Nat) < win0_7.index ⟨n, hn⟩ 1 * 64 + win0_7.xsize (grid0.coords ⟨n, hn⟩) 1
      rw [hi.2.1, hx.2.1]; dsimp only; omega
    | ⟨2, _⟩ =>
      show win0_7.index ⟨n, hn⟩ 2 * 1024 ≤ (i 2 : Nat) ∧ (i 2 : Nat) < win0_7.index ⟨n, hn⟩ 2 * 1024 + win0_7.xsize (grid0.coords ⟨n, hn⟩) 2
      rw [hi.2.2, hx.2.2]; omega

end Wkv.Launch

end
-- ==== Proof.Wkv.Reading.lean ====
/-
  The reference's array operations read at an index: the tokens of the two directions laid out by step, the heads of a
  start state, one row of a per-step array, and one step of the scan.
-/
module

public import proofs.«01_k».proof.Proof.Gen.ReferenceIdeal.Run
public import proofs.«01_k».proof.Proof.Wkv.Words
public import Idealize.ShloMosaic.Lib.Pointwise
public import Idealize.ShloMosaic.Lib.IdealHost
public import Idealize.ShloMosaic.PureOps.Ideal.Laws

@[expose] public section

set_option maxRecDepth 65536

noncomputable section

namespace Wkv.Reading

open Cert.ReferenceIdeal Cert.ReferenceIdeal.Gen Idealize.ShloMosaic Idealize.ShloMosaic.TcCoe
open Wkv.Words

/-- One direction of an array. -/
def fwd (u : Vec Ideal S2x2x8192x16x64 .f32) : Vec Ideal S2x8192x16x64 .f32 :=
  shapeCast S2x8192x16x64 (extractStridedSlice S1x2x8192x16x64 ![0, 0, 0, 0, 0] u slices_S2x2x8192x16x64_S1x2x8192x16x64_0_0_0_0_0) shapeCasts_S1x2x8192x16x64_S2x8192x16x64
def bwd (u : Vec Ideal S2x2x8192x16x64 .f32) : Vec Ideal S2x8192x16x64 .f32 :=
  shapeCast S2x8192x16x64 (extractStridedSlice S1x2x8192x16x64 ![1, 0, 0, 0, 0] u slices_S2x2x8192x16x64_S1x2x8192x16x64_1_0_0_0_0) shapeCasts_S1x2x8192x16x64_S2x8192x16x64

/-- The two directions joined and laid out by step. -/
def joined (p q : Vec Ideal S2x8192x16x64 .f32) : Vec Ideal S8192x2x2x16x64 .f32 :=
  transpose S8192x2x2x16x64 [2, 0, 1, 3, 4] (concatenate S2x2x8192x16x64 0 [⟨S1x2x8192x16x64, broadcastInDim S1x2x8192x16x64 ![1, 2, 3, 4] bcast_S2x8192x16x64_S1x2x8192x16x64_1_2_3_4 p⟩, ⟨S1x2x8192x16x64, broadcastInDim S1x2x8192x16x64 ![1, 2, 3, 4] bcast_S2x8192x16x64_S1x2x8192x16x64_1_2_3_4 q⟩] concatenates_S1x2x8192x16x64_S1x2x8192x16x64_S2x2x8192x16x64_d0) transposes_S2x2x8192x16x64_S8192x2x2x16x64_2_0_1_3_4

/-- The tokens of both directions by step: direction 0 forwards, direction 1 backwards. -/
def tokens (u : Vec Ideal S2x2x8192x16x64 .f32) : Vec Ideal S8192x2x2x16x64 .f32 :=
  joined (fwd u) (Host.reverse [1] (bwd u))

/-- One array for both directions. -/
def both (u : Vec Ideal S16384x1024 .bf16) : Vec Ideal S2x16384x1024 .bf16 :=
  concatenate S2x16384x1024 0 [⟨S1x16384x1024, broadcastInDim S1x16384x1024 ![1, 2] bcast_S16384x1024_S1x16384x1024_1_2 u⟩, ⟨S1x16384x1024, broadcastInDim S1x16384x1024 ![1, 2] bcast_S16384x1024_S1x16384x1024_1_2 u⟩] concatenates_S1x16384x1024_S1x16384x1024_S2x16384x1024_d0

/-- The batches, and the heads of the channels. -/
def heads (u : Vec Ideal S2x16384x1024 .f32) : Vec Ideal S2x2x8192x16x64 .f32 := shapeCast _ u shapeCasts_S2x16384x1024_S2x2x8192x16x64

/-- The wider format, and the decays from their logarithms. -/
def wide {s : Shape} (u : FVec Ideal s .bf16) : FVec Ideal s .f32 := extf .f32 u bitsLt_bf16_f32
def decay (u : FVec Ideal S8192x2x2x16x64 .f32) : FVec Ideal S8192x2x2x16x64 .f32 := Host.exp u

/-- The sixteen heads' states: the diagonal blocks of each state array. -/
def blocks (u : Vec Ideal S2x2x4x256x256 .f32) : Vec Ideal S2x2x4x4x64x4x64 .f32 :=
  select (cmpi .eq (iotaInDim S2x2x4x4x64x4x64 32 3) (iotaInDim S2x2x4x4x64x4x64 32 5)) (shapeCast S2x2x4x4x64x4x64 u shapeCasts_S2x2x4x256x256_S2x2x4x4x64x4x64) (broadcastInDim S2x2x4x4x64x4x64 ![] bcast_S_S2x2x4x4x64x4x64 (constant (F := Ideal) S_ .f32 0x00000000#32))
def summed (u : FVec Ideal S2x2x4x4x64x4x64 .f32) : FVec Ideal S2x2x16x64x64 .f32 :=
  shapeCast S2x2x16x64x64 (Host.reduceAdd u (constant S_ .f32 0x00000000#32) reducesTo_S2x2x4x4x64x4x64_S2x2x4x4x64x64_d5 h_S_) shapeCasts_S2x2x4x4x64x64_S2x2x16x64x64
def start (u : Vec Ideal S2x2x4x256x256 .f32) : Vec Ideal S2x2x16x64x64 .f32 := summed (blocks u)

/-- The start of a slice: step `t`, whole in the other axes. -/
def starts (t : IVec S_ 32) : Fin 5 → Int := fun k =>
  BitVec.toInt ((![t, constantI S_ 32 0#32, constantI S_ 32 0#32, constantI S_ 32 0#32, constantI S_ 32 0#32] : Fin 5 → IVec S_ 32) k
    (Shape.Idx.first h_S_))

/-- Step `t`'s part of an array. -/
def row (W : Vec Ideal S8192x2x2x16x64 .f32) (t : IVec S_ 32) : Vec Ideal S2x2x16x64 .f32 :=
  shapeCast S2x2x16x64 (Host.dynamicSlice S1x2x2x16x64 W (starts t) sliceFits_S8192x2x2x16x64_S1x2x2x16x64)
    shapeCasts_S1x2x2x16x64_S2x2x16x64

/-- One value for each key channel, the same in all rows of a state. -/
def lanesOf (w : Vec Ideal S2x2x16x64 .f32) : Vec Ideal S2x2x16x64x64 .f32 :=
  (broadcastInDim S2x2x16x64x64 ![0, 1, 2, 3, 4] bcast_S2x2x16x1x64_S2x2x16x64x64_0_1_2_3_4
                      (broadcastInDim S2x2x16x1x64 ![0, 1, 2, 4] bcast_S2x2x16x64_S2x2x16x1x64_0_1_2_4 w))
/-- One value for each row of a state. -/
def rowsOf (w : Vec Ideal S2x2x16x64 .f32) : Vec Ideal S2x2x16x64x64 .f32 :=
            broadcastInDim S2x2x16x64x64 ![0, 1, 2, 3, 4] bcast_S2x2x16x64x1_S2x2x16x64x64_0_1_2_3_4
              (broadcastInDim S2x2x16x64x1 ![0, 1, 2, 3] bcast_S2x2x16x64_S2x2x16x64x1_0_1_2_3 w)
/-- The state's rows summed against a vector over the key channels. -/
def readOf (s : FVec Ideal S2x2x16x64x64 .f32) (w : FVec Ideal S2x2x16x64 .f32) : FVec Ideal S2x2x16x64 .f32 :=
  Host.reduceAdd (mulf s (lanesOf w)) (constant S_ .f32 0x00000000#32) reducesTo_S2x2x16x64x64_S2x2x16x64_d4 h_S_
/-- One step of the scan. -/
def stepOf (s : FVec Ideal S2x2x16x64x64 .f32) (w k v kk kka : FVec Ideal S2x2x16x64 .f32) : FVec Ideal S2x2x16x64x64 .f32 :=
  addf (subf (mulf s (lanesOf w)) (mulf (rowsOf (readOf s kk)) (lanesOf kka))) (mulf (rowsOf v) (lanesOf k))
/-- Step `t`'s part of an array replaced. -/
def put (Y : Vec Ideal S8192x2x2x16x64 .f32) (y : Vec Ideal S2x2x16x64 .f32) (t : IVec S_ 32) : Vec Ideal S8192x2x2x16x64 .f32 :=
  Host.dynamicUpdateSlice Y (broadcastInDim S1x2x2x16x64 ![1, 2, 3, 4] bcast_S2x2x16x64_S1x2x2x16x64_1_2_3_4 y) (starts t)
    updateFits_S8192x2x2x16x64_S1x2x2x16x64

/-- The result of the loop's reads: by direction, token and channel. -/
def batches (Y : Vec Ideal S8192x2x2x16x64 .f32) : Vec Ideal S2x2x8192x16x64 .f32 :=
  transpose S2x2x8192x16x64 [1, 2, 0, 3, 4] Y transposes_S8192x2x2x16x64_S2x2x8192x16x64_1_2_0_3_4
def stacked (p q : Vec Ideal S2x8192x16x64 .f32) : Vec Ideal S2x2x8192x16x64 .f32 :=
  concatenate S2x2x8192x16x64 0 [⟨S1x2x8192x16x64, broadcastInDim S1x2x8192x16x64 ![1, 2, 3, 4] bcast_S2x8192x16x64_S1x2x8192x16x64_1_2_3_4 p⟩, ⟨S1x2x8192x16x64, broadcastInDim S1x2x8192x16x64 ![1, 2, 3, 4] bcast_S2x8192x16x64_S1x2x8192x16x64_1_2_3_4 q⟩] concatenates_S1x2x8192x16x64_S1x2x8192x16x64_S2x2x8192x16x64_d0
def flat (u : FVec Ideal S2x2x8192x16x64 .f32) : FVec Ideal S2x16384x1024 .bf16 :=
  truncf .bf16 (shapeCast S2x16384x1024 u shapeCasts_S2x2x8192x16x64_S2x16384x1024) bitsLt_bf16_f32
def answer (Y : Vec Ideal S8192x2x2x16x64 .f32) : Vec Ideal S2x16384x1024 .bf16 :=
  flat (stacked (fwd (batches Y)) (Host.reverse [1] (bwd (batches Y))))

theorem tokens_apply (u : Vec Ideal S2x2x8192x16x64 .f32) (n : Fin 8192) (d b : Fin 2) (H : Fin 16) (k : Fin 64) :
    tokens u (ix5 n d b H k) = u (ix5 d b (if d = 0 then n else n.rev) H k) := by
  pointwise [tokens, joined, fwd, bwd]
  fin_cases d
  · simp
  · simp

theorem both_apply (u : Vec Ideal S16384x1024 .bf16) (d : Fin 2) (x : Fin 16384) (l : Fin 1024) :
    both u (ix3 d x l) = u (ix2 x l) := by
  pointwise [both]
  split <;> rfl

theorem heads_apply (u : Vec Ideal S2x16384x1024 .f32) (n : Fin 8192) (d b : Fin 2) (H : Fin 16) (k : Fin 64) :
    heads u (ix5 d b n H k) = u (ix3 d ⟨b.val * 8192 + n.val, by omega⟩ ⟨H.val * 64 + k.val, by omega⟩) := by
  pointwise [heads]

theorem stacked_apply (u : Vec Ideal S2x2x8192x16x64 .f32) (n : Fin 8192) (d b : Fin 2) (H : Fin 16) (k : Fin 64) :
    stacked (fwd u) (Host.reverse [1] (bwd u)) (ix5 d b n H k) = u (ix5 d b (if d = 0 then n else n.rev) H k) := by
  pointwise [stacked, fwd, bwd]
  fin_cases d
  · simp
  · simp

theorem flat_apply (u : FVec Ideal S2x2x8192x16x64 .f32) (d : Fin 2) (x : Fin 16384) (l : Fin 1024) :
    flat u (ix3 d x l)
      = u (ix5 d ⟨x.val / 8192, by omega⟩ ⟨x.val % 8192, by omega⟩ ⟨l.val / 64, by omega⟩ ⟨l.val % 64, by omega⟩) := by
  pointwise [flat]

theorem answer_apply (Y : Vec Ideal S8192x2x2x16x64 .f32) (d : Fin 2) (x : Fin 16384) (l : Fin 1024) :
    answer Y (ix3 d x l) = Y (ix5 (if d = 0 then ⟨x.val % 8192, by omega⟩ else Fin.rev ⟨x.val % 8192, by omega⟩) d
      ⟨x.val / 8192, by omega⟩ ⟨l.val / 64, by omega⟩ ⟨l.val % 64, by omega⟩) := by
  unfold answer
  rw [flat_apply, stacked_apply]
  pointwise [batches]

/-- The mask of the diagonal blocks at one entry. -/
theorem mask_apply (u : Vec Ideal S2x2x4x256x256 .f32) (d b : Fin 2) (g p q : Fin 4) (i k : Fin 64) :
    blocks u (ix7 d b g p i q k)
      = if p = q then u (ix5 d b g (lane p i) (lane q k)) else (0 : EReal) := by
  pointwise [blocks]
  have e : (⟨p.val * 64 + i.val, by omega⟩ : Fin 256) = lane p i := Fin.ext (by show p.val * 64 + i.val = 64 * p.val + i.val; omega)
  have f : (⟨q.val * 64 + k.val, by omega⟩ : Fin 256) = lane q k := Fin.ext (by show q.val * 64 + k.val = 64 * q.val + k.val; omega)
  rw [e, f]
  by_cases h : p = q
  · subst h
    rw [if_pos rfl]
    have : IntOp.cmpi .eq (BitVec.ofNat 32 p.val) (BitVec.ofNat 32 p.val) = 1#1 := by
      show BitVec.ofBool _ = _
      simp
    rw [this]
    rfl
  · rw [if_neg h]
    have : ∀ p q : Fin 4, ¬p = q → IntOp.cmpi .eq (BitVec.ofNat 32 p.val) (BitVec.ofNat 32 q.val) = 0#1 := by decide
    rw [this p q h]
    rfl

theorem start_apply (u : Vec Ideal S2x2x4x256x256 .f32) (d b : Fin 2) (H : Fin 16) (i k : Fin 64) :
    start u (ix5 d b H i k)
      = u (ix5 d b ⟨H.val / 4, by omega⟩ (lane ⟨H.val % 4, by omega⟩ i) (lane ⟨H.val % 4, by omega⟩ k)) := by
  pointwise [start, summed]
  have h : Shape.Reduces S2x2x4x4x64x4x64 [5] S2x2x4x4x64x64 := by decide
  rw [Ideal.hostReduceAdd_single _ h]
  have e : ∀ q : Fin 4, h.lift (ix6 d b ⟨H.val / 4, by omega⟩ ⟨H.val % 4, by omega⟩ i k) q
      = ix7 d b ⟨H.val / 4, by omega⟩ ⟨H.val % 4, by omega⟩ i q k := fun q => by
    funext a
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  show (0 : EReal) + ∑ q : Fin 4, _ = _
  rw [zero_add]
  rw [Finset.sum_congr rfl fun q _ => (congrArg _ (e q)).trans (mask_apply u d b _ _ q i k)]
  rw [Finset.sum_ite_eq]
  simp

theorem starts_zero (n : Fin 8192) (h) : Host.clampedStart S8192x2x2x16x64 S1x2x2x16x64 h (starts (fun _ => BitVec.ofNat 32 n.val)) 0 = n.val :=
  Host.clampedStart_of_le h _ _ n.val (by
    show BitVec.toInt (BitVec.ofNat 32 n.val) = _
    rw [BitVec.toInt_eq_toNat_of_lt (by rw [BitVec.toNat_ofNat]; omega), BitVec.toNat_ofNat]
    omega) (by show n.val + 1 ≤ 8192; omega)
theorem starts_one (t : IVec S_ 32) (h) : Host.clampedStart S8192x2x2x16x64 S1x2x2x16x64 h (starts t) 1 = 0 :=
  Host.clampedStart_of_le h _ _ 0 rfl (by show 0 + 2 ≤ 2; omega)
theorem starts_two (t : IVec S_ 32) (h) : Host.clampedStart S8192x2x2x16x64 S1x2x2x16x64 h (starts t) 2 = 0 :=
  Host.clampedStart_of_le h _ _ 0 rfl (by show 0 + 2 ≤ 2; omega)
theorem starts_three (t : IVec S_ 32) (h) : Host.clampedStart S8192x2x2x16x64 S1x2x2x16x64 h (starts t) 3 = 0 :=
  Host.clampedStart_of_le h _ _ 0 rfl (by show 0 + 16 ≤ 16; omega)
theorem starts_four (t : IVec S_ 32) (h) : Host.clampedStart S8192x2x2x16x64 S1x2x2x16x64 h (starts t) 4 = 0 :=
  Host.clampedStart_of_le h _ _ 0 rfl (by show 0 + 64 ≤ 64; omega)

theorem row_apply (W : Vec Ideal S8192x2x2x16x64 .f32) (n : Fin 8192) (d b : Fin 2) (H : Fin 16) (i : Fin 64) :
    row W (fun _ => BitVec.ofNat 32 n.val) (ix4 d b H i) = W (ix5 n d b H i) := by
  pointwise [row]
  simp only [starts_zero, starts_one, starts_two, starts_three, starts_four, Nat.zero_add, Fin.eta]

theorem put_apply (Y : Vec Ideal S8192x2x2x16x64 .f32) (y : Vec Ideal S2x2x16x64 .f32) (t n : Fin 8192) (d b : Fin 2) (H : Fin 16) (i : Fin 64) :
    put Y y (fun _ => BitVec.ofNat 32 t.val) (ix5 n d b H i) = if n = t then y (ix4 d b H i) else Y (ix5 n d b H i) := by
  pointwise [put]
  simp only [starts_zero, starts_one, starts_two, starts_three, starts_four, Nat.zero_le, and_true, Nat.sub_zero, Fin.eta]
  by_cases e : n = t
  · subst e
    rw [if_pos rfl]
    simp
  · rw [if_neg e, dif_neg]
    intro h
    exact e (Fin.ext (by omega))

theorem readOf_apply (s : Vec Ideal S2x2x16x64x64 .f32) (w : Vec Ideal S2x2x16x64 .f32) (d b : Fin 2) (H : Fin 16) (i : Fin 64) :
    readOf s w (ix4 d b H i) = ∑ x : Fin 64, (s (ix5 d b H i x) * w (ix4 d b H x) : EReal) := by
  pointwise [readOf, lanesOf]

theorem stepOf_apply (s : Vec Ideal S2x2x16x64x64 .f32) (w k v kk kka : Vec Ideal S2x2x16x64 .f32)  (d b : Fin 2) (H : Fin 16) (i j : Fin 64) :
    stepOf s w k v kk kka (ix5 d b H i j)
      = ((s (ix5 d b H i j) * w (ix4 d b H j) - (∑ x : Fin 64, (s (ix5 d b H i x) * kk (ix4 d b H x) : EReal)) * kka (ix4 d b H j)
        + v (ix4 d b H i) * k (ix4 d b H j) : EReal)) := by
  pointwise [stepOf, readOf, rowsOf, lanesOf]

end Wkv.Reading

end
-- ==== Proof.Wkv.Entry.lean ====
/-
  What the reference's loop starts from: its operands before the first step, from the arguments, read off one stretch of
  operations after another.
-/
module

public import proofs.«01_k».proof.Proof.Wkv.Reading

@[expose] public section

set_option maxRecDepth 65536
set_option maxHeartbeats 400000

noncomputable section

namespace Wkv.Entry

open Cert.ReferenceIdeal Cert.ReferenceIdeal.Gen Cert.ReferenceIdeal.Value Idealize.ShloMosaic Idealize.ShloMosaic.TcCoe
open Idealize.ShloMosaic.StableHlo
open Wkv.Reading

/-! A stretch leaves what it does not write. -/

variable {r : Ref sig .tc} (V : Valuation τ sig (Elt Ideal))

theorem keep0 (h : r ∉ hostOps0_W) : after hostOps0 V (Proc.devRef .tc r) = V (Proc.devRef .tc r) :=
  after_of_writes_sub hostOps0 V hostOps0_writes h
theorem keep1 (h : r ∉ hostOps0_1_W) : after hostOps0_1 V (Proc.devRef .tc r) = V (Proc.devRef .tc r) :=
  after_of_writes_sub hostOps0_1 V hostOps0_1_writes h
theorem keep2 (h : r ∉ hostOps0_2_W) : after hostOps0_2 V (Proc.devRef .tc r) = V (Proc.devRef .tc r) :=
  after_of_writes_sub hostOps0_2 V hostOps0_2_writes h
theorem keep3 (h : r ∉ hostOps0_3_W) : after hostOps0_3 V (Proc.devRef .tc r) = V (Proc.devRef .tc r) :=
  after_of_writes_sub hostOps0_3 V hostOps0_3_writes h
theorem keep4 (h : r ∉ hostOps0_4_W) : after hostOps0_4 V (Proc.devRef .tc r) = V (Proc.devRef .tc r) :=
  after_of_writes_sub hostOps0_4 V hostOps0_4_writes h
theorem keep5 (h : r ∉ hostOps0_5_W) : after hostOps0_5 V (Proc.devRef .tc r) = V (Proc.devRef .tc r) :=
  after_of_writes_sub hostOps0_5 V hostOps0_5_writes h
theorem keep6 (h : r ∉ hostOps0_6_W) : after hostOps0_6 V (Proc.devRef .tc r) = V (Proc.devRef .tc r) :=
  after_of_writes_sub hostOps0_6 V hostOps0_6_writes h
theorem keep7 (h : r ∉ hostOps0_7_W) : after hostOps0_7 V (Proc.devRef .tc r) = V (Proc.devRef .tc r) :=
  after_of_writes_sub hostOps0_7 V hostOps0_7_writes h
theorem keep8 (h : r ∉ hostOps0_8_W) : after hostOps0_8 V (Proc.devRef .tc r) = V (Proc.devRef .tc r) :=
  after_of_writes_sub hostOps0_8 V hostOps0_8_writes h
theorem keep9 (h : r ∉ hostOps0_9_W) : after hostOps0_9 V (Proc.devRef .tc r) = V (Proc.devRef .tc r) :=
  after_of_writes_sub hostOps0_9 V hostOps0_9_writes h
theorem keep10 (h : r ∉ hostOps0_10_W) : after hostOps0_10 V (Proc.devRef .tc r) = V (Proc.devRef .tc r) :=
  after_of_writes_sub hostOps0_10 V hostOps0_10_writes h
theorem keep11 (h : r ∉ hostOps0_11_W) : after hostOps0_11 V (Proc.devRef .tc r) = V (Proc.devRef .tc r) :=
  after_of_writes_sub hostOps0_11 V hostOps0_11_writes h
theorem keep12 (h : r ∉ hostOps0_12_W) : after hostOps0_12 V (Proc.devRef .tc r) = V (Proc.devRef .tc r) :=
  after_of_writes_sub hostOps0_12 V hostOps0_12_writes h
theorem keep13 (h : r ∉ hostOps0_13_W) : after hostOps0_13 V (Proc.devRef .tc r) = V (Proc.devRef .tc r) :=
  after_of_writes_sub hostOps0_13 V hostOps0_13_writes h
theorem keep14 (h : r ∉ hostOps0_14_W) : after hostOps0_14 V (Proc.devRef .tc r) = V (Proc.devRef .tc r) :=
  after_of_writes_sub hostOps0_14 V hostOps0_14_writes h

/-! What a stretch writes. -/

theorem w_v4 : after hostOps0_1 V (Proc.devRef .tc main_v4) = select (V (Proc.devRef .tc main_v3)) (V (Proc.devRef .tc main_v0)) (broadcastInDim S2x2x4x4x64x4x64 ![] bcast_S_S2x2x4x4x64x4x64 (V (Proc.devRef .tc main_cst))) := by
  after_results_entrywise []

theorem w_v6 : after hostOps0_2 V (Proc.devRef .tc main_v6) = summed (V (Proc.devRef .tc main_v4)) := by
  after_results_entrywise []

theorem w_v9 : after hostOps0_2 V (Proc.devRef .tc main_v9) = fwd (heads (V (Proc.devRef .tc main_arg0))) := by
  after_results_entrywise []

theorem w_v11 : after hostOps0_2 V (Proc.devRef .tc main_v11) = bwd (heads (V (Proc.devRef .tc main_arg0))) := by
  after_results_entrywise []

theorem w_v12 : after hostOps0_3 V (Proc.devRef .tc main_v12) = Host.reverse [1] (V (Proc.devRef .tc main_v11)) := by
  after_results_entrywise []

theorem w_v24 : after hostOps0_5 V (Proc.devRef .tc main_v24) = Host.reverse [1] (V (Proc.devRef .tc main_v23)) := by
  after_results_entrywise []

theorem w_v38 : after hostOps0_7 V (Proc.devRef .tc main_v38) = Host.reverse [1] (V (Proc.devRef .tc main_v37)) := by
  after_results_entrywise []

theorem w_v52 : after hostOps0_9 V (Proc.devRef .tc main_v52) = Host.reverse [1] (V (Proc.devRef .tc main_v51)) := by
  after_results_entrywise []

theorem w_v63 : after hostOps0_11 V (Proc.devRef .tc main_v63) = Host.reverse [1] (V (Proc.devRef .tc main_v62)) := by
  after_results_entrywise []

theorem w_v77 : after hostOps0_13 V (Proc.devRef .tc main_v77) = Host.reverse [1] (V (Proc.devRef .tc main_v76)) := by
  after_results_entrywise []

theorem w_v17 : after hostOps0_4 V (Proc.devRef .tc main_v17) = decay (joined (V (Proc.devRef .tc main_v9)) (V (Proc.devRef .tc main_v12))) := by
  after_results_entrywise []

theorem w_v21 : after hostOps0_4 V (Proc.devRef .tc main_v21) = fwd (heads (wide (V (Proc.devRef .tc main_arg1)))) := by
  after_results_entrywise []

theorem w_v23 : after hostOps0_4 V (Proc.devRef .tc main_v23) = bwd (heads (wide (V (Proc.devRef .tc main_arg1)))) := by
  after_results_entrywise []

theorem w_v35 : after hostOps0_6 V (Proc.devRef .tc main_v35) = fwd (heads (wide (both (V (Proc.devRef .tc main_arg4))))) := by
  after_results_entrywise []

theorem w_v37 : after hostOps0_6 V (Proc.devRef .tc main_v37) = bwd (heads (wide (both (V (Proc.devRef .tc main_arg4))))) := by
  after_results_entrywise []

theorem w_v49 : after hostOps0_8 V (Proc.devRef .tc main_v49) = fwd (heads (wide (both (V (Proc.devRef .tc main_arg3))))) := by
  after_results_entrywise []

theorem w_v51 : after hostOps0_8 V (Proc.devRef .tc main_v51) = bwd (heads (wide (both (V (Proc.devRef .tc main_arg3))))) := by
  after_results_entrywise []

theorem w_v60 : after hostOps0_10 V (Proc.devRef .tc main_v60) = fwd (heads (wide (V (Proc.devRef .tc main_arg2)))) := by
  after_results_entrywise []

theorem w_v62 : after hostOps0_10 V (Proc.devRef .tc main_v62) = bwd (heads (wide (V (Proc.devRef .tc main_arg2)))) := by
  after_results_entrywise []

theorem w_v74 : after hostOps0_12 V (Proc.devRef .tc main_v74) = fwd (heads (wide (both (V (Proc.devRef .tc main_arg5))))) := by
  after_results_entrywise []

theorem w_v76 : after hostOps0_12 V (Proc.devRef .tc main_v76) = bwd (heads (wide (both (V (Proc.devRef .tc main_arg5))))) := by
  after_results_entrywise []

theorem w_v28 : after hostOps0_6 V (Proc.devRef .tc main_v28) = joined (V (Proc.devRef .tc main_v21)) (V (Proc.devRef .tc main_v24)) := by
  after_results_entrywise []

theorem w_v42 : after hostOps0_8 V (Proc.devRef .tc main_v42) = joined (V (Proc.devRef .tc main_v35)) (V (Proc.devRef .tc main_v38)) := by
  after_results_entrywise []

theorem w_v56 : after hostOps0_10 V (Proc.devRef .tc main_v56) = joined (V (Proc.devRef .tc main_v49)) (V (Proc.devRef .tc main_v52)) := by
  after_results_entrywise []

theorem w_v67 : after hostOps0_12 V (Proc.devRef .tc main_v67) = joined (V (Proc.devRef .tc main_v60)) (V (Proc.devRef .tc main_v63)) := by
  after_results_entrywise []

theorem w_v83_5 : after hostOps0_14 V (Proc.devRef .tc main_v83_5) = joined (V (Proc.devRef .tc main_v74)) (V (Proc.devRef .tc main_v77)) := by
  after_results_entrywise []

theorem w_v83_0 : after hostOps0_14 V (Proc.devRef .tc main_v83_0) = (V (Proc.devRef .tc main_v17)) := by
  after_results_entrywise []

theorem w_v83_1 : after hostOps0_14 V (Proc.devRef .tc main_v83_1) = (V (Proc.devRef .tc main_v28)) := by
  after_results_entrywise []

theorem w_v83_2 : after hostOps0_14 V (Proc.devRef .tc main_v83_2) = (V (Proc.devRef .tc main_v42)) := by
  after_results_entrywise []

theorem w_v83_3 : after hostOps0_14 V (Proc.devRef .tc main_v83_3) = (V (Proc.devRef .tc main_v56)) := by
  after_results_entrywise []

theorem w_v83_4 : after hostOps0_14 V (Proc.devRef .tc main_v83_4) = (V (Proc.devRef .tc main_v67)) := by
  after_results_entrywise []

theorem w_v83_7 : after hostOps0_14 V (Proc.devRef .tc main_v83_7) = (V (Proc.devRef .tc main_v6)) := by
  after_results_entrywise []

/-! The whole of it. -/

variable (m : (ℓ : Loc nD τ sig) → Buf (Elt Ideal) ℓ) (c : Dev nD)

/-- The loop's operands before the first step: the decays, the keys, the values, the removal keys, their scaled form and
the receptances by step, and the start states. -/
theorem entry0 : entryContents preI m c (Proc.devRef .tc main_v83_0) = decay (tokens (heads (m ((c : Thread nD τ).loc main_arg0)))) := by
  simp only [entryContents, afterL_cons, afterL_nil]
  rw [w_v83_0, keep13, keep12, keep11, keep10, keep9, keep8, keep7, keep6, keep5, w_v17, keep3, w_v9, w_v12, w_v11, keep1, keep0]
  · rfl
  all_goals decide +kernel

theorem entry1 : entryContents preI m c (Proc.devRef .tc main_v83_1) = tokens (heads (wide (m ((c : Thread nD τ).loc main_arg1)))) := by
  simp only [entryContents, afterL_cons, afterL_nil]
  rw [w_v83_1, keep13, keep12, keep11, keep10, keep9, keep8, keep7, w_v28, keep5, w_v21, w_v24, w_v23, keep3, keep2, keep1, keep0]
  · rfl
  all_goals decide +kernel

theorem entry2 : entryContents preI m c (Proc.devRef .tc main_v83_2) = tokens (heads (wide (both (m ((c : Thread nD τ).loc main_arg4))))) := by
  simp only [entryContents, afterL_cons, afterL_nil]
  rw [w_v83_2, keep13, keep12, keep11, keep10, keep9, w_v42, keep7, w_v35, w_v38, w_v37, keep5, keep4, keep3, keep2, keep1, keep0]
  · rfl
  all_goals decide +kernel

theorem entry3 : entryContents preI m c (Proc.devRef .tc main_v83_3) = tokens (heads (wide (both (m ((c : Thread nD τ).loc main_arg3))))) := by
  simp only [entryContents, afterL_cons, afterL_nil]
  rw [w_v83_3, keep13, keep12, keep11, w_v56, keep9, w_v49, w_v52, w_v51, keep7, keep6, keep5, keep4, keep3, keep2, keep1, keep0]
  · rfl
  all_goals decide +kernel

theorem entry4 : entryContents preI m c (Proc.devRef .tc main_v83_4) = tokens (heads (wide (m ((c : Thread nD τ).loc main_arg2)))) := by
  simp only [entryContents, afterL_cons, afterL_nil]
  rw [w_v83_4, keep13, w_v67, keep11, w_v60, w_v63, w_v62, keep9, keep8, keep7, keep6, keep5, keep4, keep3, keep2, keep1, keep0]
  · rfl
  all_goals decide +kernel

theorem entry5 : entryContents preI m c (Proc.devRef .tc main_v83_5) = tokens (heads (wide (both (m ((c : Thread nD τ).loc main_arg5))))) := by
  simp only [entryContents, afterL_cons, afterL_nil]
  rw [w_v83_5, keep13, w_v74, w_v77, w_v76, keep11, keep10, keep9, keep8, keep7, keep6, keep5, keep4, keep3, keep2, keep1, keep0]
  · rfl
  all_goals decide +kernel

theorem entry7 : entryContents preI m c (Proc.devRef .tc main_v83_7) = start (m ((c : Thread nD τ).loc main_arg6)) := by
  simp only [entryContents, afterL_cons, afterL_nil]
  rw [w_v83_7, keep13, keep12, keep11, keep10, keep9, keep8, keep7, keep6, keep5, keep4, keep3, w_v6, w_v4]
  · rfl
  all_goals decide +kernel

end Wkv.Entry

end
-- ==== Proof.Wkv.Scan.lean ====
/-
  The reference's loop: after `k` steps it holds each row of each head's state after `k` steps of the rule, and for
  every step before `k` what the receptances read of it; its result after the last step is the model's.
-/
module

public import proofs.«01_k».proof.Proof.Wkv.Entry
public import proofs.«01_k».proof.Proof.Wkv.Launch

@[expose] public section

set_option maxRecDepth 65536
set_option maxHeartbeats 400000

noncomputable section

namespace Wkv.Scan

open Cert.ReferenceIdeal Cert.ReferenceIdeal.Gen Cert.ReferenceIdeal.Value Idealize.ShloMosaic Idealize.ShloMosaic.TcCoe
open Idealize.ShloMosaic.StableHlo
open Wkv.Words Wkv.Blocks Wkv.Model Wkv.Launch Wkv.Reading Wkv.Entry

variable (A : Args)

/-- An array of one real for each direction and token, and one for each token, laid out by step. -/
def steps3 (X : S2x16384x1024.Idx → ℝ) : Vec Ideal S8192x2x2x16x64 .f32 := fun j =>
  ((X (ix3 (j 1) (tok (j 1) (j 2) (j 0).val) (lane16 (j 3) (j 4))) : ℝ) : EReal)
def steps2 (X : S16384x1024.Idx → ℝ) : Vec Ideal S8192x2x2x16x64 .f32 := fun j =>
  ((X (ix2 (tok (j 1) (j 2) (j 0).val) (lane16 (j 3) (j 4))) : ℝ) : EReal)

/-- All heads' states after `k` steps, and what the receptances read of them. -/
def states (k : ℕ) : Vec Ideal S2x2x16x64x64 .f32 := fun j => ((glob A (j 0) (j 1) (j 2) (j 3) k (j 4) : ℝ) : EReal)
def reads (n : ℕ) : Vec Ideal S2x2x16x64 .f32 := fun j =>
  ((∑ x, glob A (j 0) (j 1) (j 2) (j 3) (n + 1) x * A.r (ix2 (tok (j 0) (j 1) n) (lane16 (j 2) x)) : ℝ) : EReal)

theorem tok_eq (d b : Fin 2) (n : Fin 8192) (h) :
    (⟨b.val * 8192 + (if d = 0 then n else n.rev).val, h⟩ : Fin 16384) = tok d b n.val := by
  have h8 : n.val % 8192 = n.val := Nat.mod_eq_of_lt n.isLt
  apply Fin.ext
  show b.val * 8192 + (if d = 0 then n else n.rev).val = 8192 * b.val + if d = 0 then n.val % 8192 else 8191 - n.val % 8192
  split
  · omega
  · rw [Fin.val_rev]; omega

theorem lane_eq (H : Fin 16) (k : Fin 64) (h) : (⟨H.val * 64 + k.val, h⟩ : Fin 1024) = lane16 H k :=
  Fin.ext (by show H.val * 64 + k.val = 64 * H.val + k.val; omega)

theorem tokens_heads (u : Vec Ideal S2x16384x1024 .f32) (X : S2x16384x1024.Idx → ℝ) (hu : ∀ j, u j = ((X j : ℝ) : EReal)) :
    tokens (heads u) = steps3 X := by
  funext j
  idx_vars j
  rw [tokens_apply, heads_apply, tok_eq, lane_eq, hu]
  rfl

theorem tokens_heads_both (u : Vec Ideal S16384x1024 .bf16) (X : S16384x1024.Idx → ℝ) (hu : ∀ j, u j = ((X j : ℝ) : EReal)) :
    tokens (heads (wide (both u))) = steps2 X := by
  rw [tokens_heads _ (fun j => X (ix2 (j 1) (j 2))) fun j => by
    idx_vars j
    exact (both_apply u _ _ _).trans (hu _)]
  rfl

theorem exp_steps3 (X : S2x16384x1024.Idx → ℝ) : decay (steps3 X) = steps3 fun j => Real.exp (X j) := rfl

theorem start_states (u : Vec Ideal S2x2x4x256x256 .f32) (hu : ∀ j, u j = ((A.s0 j : ℝ) : EReal)) : start u = states A 0 := by
  funext j
  idx_vars j
  rw [start_apply, hu]
  rfl

/-- One step of the loop takes the states after `k` steps to the states after `k + 1`. -/
theorem step_states (k : Fin 8192) :
    stepOf (states A k.val) (row (steps3 fun j => Real.exp (A.lw j)) fun _ => BitVec.ofNat 32 k.val)
        (row (steps3 A.kd) fun _ => BitVec.ofNat 32 k.val) (row (steps2 A.v) fun _ => BitVec.ofNat 32 k.val)
        (row (steps2 A.kk) fun _ => BitVec.ofNat 32 k.val) (row (steps3 A.kka) fun _ => BitVec.ofNat 32 k.val)
      = states A (k.val + 1) := by
  funext j
  idx_vars j
  rw [stepOf_apply]
  simp only [Reading.row_apply]
  show ((_ : ℝ) : EReal) * ((_ : ℝ) : EReal) - (∑ x : Fin 64, ((_ : ℝ) : EReal) * ((_ : ℝ) : EReal)) * ((_ : ℝ) : EReal)
    + ((_ : ℝ) : EReal) * ((_ : ℝ) : EReal) = ((_ : ℝ) : EReal)
  simp only [← EReal.coe_mul, coe_sum, ← EReal.coe_sub, ← EReal.coe_add]
  rfl

theorem read_states (k : Fin 8192) :
    readOf (states A (k.val + 1)) (row (steps2 A.r) fun _ => BitVec.ofNat 32 k.val) = reads A k.val := by
  funext j
  idx_vars j
  rw [readOf_apply]
  simp only [Reading.row_apply]
  show (∑ x : Fin 64, ((_ : ℝ) : EReal) * ((_ : ℝ) : EReal)) = ((_ : ℝ) : EReal)
  simp only [← EReal.coe_mul, coe_sum]
  rfl

/-- What the loop holds before step `k`. -/
structure Inv (V : Valuation τ sig (Elt Ideal)) (k : ℕ) : Prop where
  h0 : V (Proc.devRef .tc main_v83_0) = steps3 fun j => Real.exp (A.lw j)
  h1 : V (Proc.devRef .tc main_v83_1) = steps3 A.kd
  h2 : V (Proc.devRef .tc main_v83_2) = steps2 A.v
  h3 : V (Proc.devRef .tc main_v83_3) = steps2 A.kk
  h4 : V (Proc.devRef .tc main_v83_4) = steps3 A.kka
  h5 : V (Proc.devRef .tc main_v83_5) = steps2 A.r
  h6 : V (Proc.devRef .tc main_v83_6) = fun _ => (BitVec.ofNat 32 k : BitVec 32)
  h7 : V (Proc.devRef .tc main_v83_7) = states A k
  h8 : ∀ (n : Fin 8192) (d b : Fin 2) (H : Fin 16) (i : Fin 64), n.val < k →
    (show Vec Ideal S8192x2x2x16x64 .f32 from V (Proc.devRef .tc main_v83_8)) (ix5 n d b H i) = reads A n.val (ix4 d b H i)

theorem step6 (V : Valuation τ sig (Elt Ideal)) :
    step_main_v83_6 V = addi (show IVec S_ 32 from V (Proc.devRef .tc main_v83_6)) (constantI S_ 32 1#32) := rfl

theorem step7 (V : Valuation τ sig (Elt Ideal)) : step_main_v83_7 V =
    stepOf (V (Proc.devRef .tc main_v83_7)) (row (V (Proc.devRef .tc main_v83_0)) (V (Proc.devRef .tc main_v83_6)))
      (row (V (Proc.devRef .tc main_v83_1)) (V (Proc.devRef .tc main_v83_6)))
      (row (V (Proc.devRef .tc main_v83_2)) (V (Proc.devRef .tc main_v83_6)))
      (row (V (Proc.devRef .tc main_v83_3)) (V (Proc.devRef .tc main_v83_6)))
      (row (V (Proc.devRef .tc main_v83_4)) (V (Proc.devRef .tc main_v83_6))) := rfl

theorem step8 (V : Valuation τ sig (Elt Ideal)) : step_main_v83_8 V =
    put (V (Proc.devRef .tc main_v83_8))
      (readOf (step_main_v83_7 V) (row (V (Proc.devRef .tc main_v83_5)) (V (Proc.devRef .tc main_v83_6))))
      (V (Proc.devRef .tc main_v83_6)) := by
  unfold step_main_v83_8 step_main_v83_7 put readOf Reading.row starts lanesOf
  rfl

theorem Inv.step {V : Valuation τ sig (Elt Ideal)} (k : Fin 8192) (h : Inv A V k.val) : Inv A (STEP V) (k.val + 1) := by
  have e7 : step_main_v83_7 V = states A (k.val + 1) := by
    rw [step7, h.h0, h.h1, h.h2, h.h3, h.h4, h.h6, h.h7]
    exact step_states A k
  have e8 : step_main_v83_8 V = put (V (Proc.devRef .tc main_v83_8)) (reads A k.val) fun _ => BitVec.ofNat 32 k.val := by
    rw [step8, e7, h.h5, h.h6]
    exact congrArg (fun y => put _ y _) (read_states A k)
  exact
    { h0 := (STEP_main_v83_0 V).trans h.h0
      h1 := (STEP_main_v83_1 V).trans h.h1
      h2 := (STEP_main_v83_2 V).trans h.h2
      h3 := (STEP_main_v83_3 V).trans h.h3
      h4 := (STEP_main_v83_4 V).trans h.h4
      h5 := (STEP_main_v83_5 V).trans h.h5
      h6 := by
        rw [STEP_main_v83_6, step6, h.h6]
        funext j
        show BitVec.ofNat 32 k.val + 1#32 = BitVec.ofNat 32 (k.val + 1)
        rw [BitVec.ofNat_add]
      h7 := (STEP_main_v83_7 V).trans e7
      h8 := fun n d b H i hn => by
        rw [STEP_main_v83_8, e8]
        show put _ _ _ _ = _
        rw [put_apply]
        by_cases e : n = k
        · rw [if_pos e, e]
        · rw [if_neg e]
          exact h.h8 n d b H i (by have : n.val ≠ k.val := fun h => e (Fin.ext h); omega) }

variable (m : (ℓ : Loc nD τ sig) → Buf (Elt Ideal) ℓ) (c : Dev nD)
variable (Hd : Holds A (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)))

include Hd in
theorem inv_entry : Inv A (entryContents preI m c) 0 where
  h0 := by
    rw [entry0, tokens_heads _ A.lw Hd.lw]
    exact exp_steps3 A.lw
  h1 := by rw [entry1, tokens_heads (wide _) A.kd Hd.kd]
  h2 := by rw [entry2, tokens_heads_both _ A.v Hd.v]
  h3 := by rw [entry3, tokens_heads_both _ A.kk Hd.kk]
  h4 := by rw [entry4, tokens_heads (wide _) A.kka Hd.kka]
  h5 := by rw [entry5, tokens_heads_both _ A.r Hd.r]
  h6 := ctr_entry m c
  h7 := by rw [entry7, start_states A _ Hd.s0]
  h8 := fun n d b H i hn => absurd hn (Nat.not_lt_zero _)

include Hd in
theorem inv : ∀ k : ℕ, k ≤ 8192 → Inv A (STEP^[k] (entryContents preI m c)) k
  | 0, _ => inv_entry A m c Hd
  | k + 1, hk => by
    rw [Function.iterate_succ_apply']
    exact (inv k (by omega)).step A ⟨k, hk⟩

theorem out_eq (V : Valuation τ sig (Elt Ideal)) : out_main_v94 V = answer (V (Proc.devRef .tc main_v83_8)) := rfl

theorem tok_stepOf (d : Fin 2) (x : Fin 16384) : tok d ⟨x.val / 8192, by omega⟩ (Wkv.Model.stepOf d x) = x := by
  apply Fin.ext
  unfold tok Wkv.Model.stepOf
  show 8192 * (x.val / 8192) + (if d = 0 then _ else _) = x.val
  split <;> omega

/-- What the model's result says at one entry, by the reads of the entry's own step. -/
theorem result_reads (d : Fin 2) (x : Fin 16384) (l : Fin 1024) (n : Fin 8192) (hn : n.val = Wkv.Model.stepOf d x) :
    reads A n.val (ix4 d ⟨x.val / 8192, by omega⟩ ⟨l.val / 64, by omega⟩ ⟨l.val % 64, by omega⟩) = resultArr A (ix3 d x l) := by
  rw [hn]
  show ((_ : ℝ) : EReal) = ((_ : ℝ) : EReal)
  refine congrArg _ ?_
  show ∑ k, _ * A.r (ix2 (tok d ⟨x.val / 8192, by omega⟩ (Wkv.Model.stepOf d x)) _) = _
  rw [tok_stepOf]
  rfl

include Hd in
/-- The reference's result is the model's. -/
theorem result_eq : out_main_v94 (STEP^[8192] (entryContents preI m c)) = resultArr A := by
  have h := inv A m c Hd 8192 le_rfl
  generalize STEP^[8192] (entryContents preI m c) = V at h ⊢
  rw [out_eq]
  funext j
  obtain ⟨d, x, l, rfl⟩ : ∃ (d : Fin 2) (x : Fin 16384) (l : Fin 1024), j = ix3 d x l :=
    ⟨j 0, j 1, j 2, by idx_vars j⟩
  refine (answer_apply _ d x l).trans ((h.h8 _ _ _ _ _ (Fin.isLt _)).trans (result_reads A d x l _ ?_))
  unfold Wkv.Model.stepOf
  split
  · rfl
  · rw [Fin.val_rev]
    show 8192 - (x.val % 8192 + 1) = 8191 - x.val % 8192
    omega

end Wkv.Scan

end
-- ==== Proof.Wkv.Finite.lean ====
/-
  The precondition read: every argument is finite, so it holds real numbers, and the start states are zero beside the
  four heads on the diagonal of each array.
-/
module

public import proofs.«01_k».proof.Pre_finite_heads
public import proofs.«01_k».proof.Proof.Wkv.Launch
public import Idealize.ShloMosaic.Lib.ReduceAll
public import Idealize.ShloMosaic.Lib.WordArith
public import Idealize.ShloMosaic.Lib.Pointwise

@[expose] public section

set_option maxRecDepth 65536
set_option maxHeartbeats 400000

noncomputable section

namespace Wkv.Finite

open Idealize.ShloMosaic Idealize.ShloMosaic.TcCoe
open Cert.Pre_finite_heads
open Wkv.Words Wkv.Model Wkv.Launch

/-- The side conditions of the precondition's operations. -/
theorem facts : Cert.Pre_finite_heads.Facts where
  shapeCasts_S2x2x4x256x256_S2x2x4x4x64x4x64 := by decide
  bcast_S_S2x2x4x4x64x4x64 := by decide
  reducesTo_S2x2x4x4x64x4x64_S_d0_1_2_3_4_5_6 := by decide
  h_S_ := by decide
  bcast_S_S2x16384x1024 := by decide
  reducesTo_S2x16384x1024_S_d0_1_2 := by decide
  bitsLt_bf16_f32 := by decide
  bcast_S_S16384x1024 := by decide
  reducesTo_S16384x1024_S_d0_1 := by decide
  bcast_S_S2x2x4x256x256 := by decide
  reducesTo_S2x2x4x256x256_S_d0_1_2_3_4 := by decide

instance : Subsingleton S_.Idx := ⟨fun a b => funext fun i => i.elim0⟩

/-- A conjunction of bits is one when both are. -/
theorem both {s : Shape} (p q : IVec s 1) (j : s.Idx) : andi p q j = 1#1 ↔ p j = 1#1 ∧ q j = 1#1 := IntOp.andi_eq_one

theorem bit_true : ∀ b : Bool, BitVec.ofBool b = 1#1 → b = true := by decide

/-- A value between the two infinities is a real number. -/
theorem real_of_between (x : EReal) (h1 : ⊥ < x) (h2 : x < ⊤) : x = ((x.toReal : ℝ) : EReal) :=
  (EReal.coe_toReal h2.ne h1.ne').symm

theorem finite_apply {s : Shape} {z : Shape} (x : FVec Ideal s .f32) (dims) (hb hb' : z.BroadcastsInDim s dims) (j : s.Idx)
    (h : andi (cmpf .ogt x (broadcastInDim s dims hb (constant z .f32 0xFF800000#32)))
      (cmpf .olt x (broadcastInDim s dims hb' (constant z .f32 0x7F800000#32))) j = 1#1) :
    x j = (((x j : EReal).toReal : ℝ) : EReal) := by
  rw [both] at h
  obtain ⟨h1, h2⟩ := h
  have b1 : Ideal.ofBits .f32 0xFF800000#32 = ⊥ := by simp [Ideal.ofBits, Ideal.ieee]
  have b2 : Ideal.ofBits .f32 0x7F800000#32 = ⊤ := by simp [Ideal.ofBits, Ideal.ieee]
  replace h1 : BitVec.ofBool (decide (Ideal.ofBits .f32 0xFF800000#32 < (x j : EReal))) = 1#1 := h1
  replace h2 : BitVec.ofBool (decide ((x j : EReal) < Ideal.ofBits .f32 0x7F800000#32)) = 1#1 := h2
  have l1 := of_decide_eq_true (bit_true _ h1)
  have l2 := of_decide_eq_true (bit_true _ h2)
  exact real_of_between _ (b1 ▸ l1) (b2 ▸ l2)

/-- An array that every entry of was found finite holds the real parts of its entries. -/
theorem finite_all {s : Shape} (x : FVec Ideal s .f32) {dims} {hb hb' : S_.BroadcastsInDim s dims} {axes : List (Fin s.rank)}
    {hr : s.ReducesTo axes S_} {hu : 0 < S_.numel} {o : S_.Idx}
    (h : Host.reduce IntOp.andi (andi (cmpf .ogt x (broadcastInDim s dims hb (constant S_ .f32 0xFF800000#32)))
      (cmpf .olt x (broadcastInDim s dims hb' (constant S_ .f32 0x7F800000#32)))) (constantI S_ 1 1#1) hr hu o = 1#1) (j : s.Idx) :
    x j = (((x j : EReal).toReal : ℝ) : EReal) :=
  finite_apply x dims hb hb' j (Host.reduce_andi_all _ _ hr hu o h j)

/-- An entry of a state array beside the four heads is zero. -/
theorem off_apply [hP : Cert.Pre_finite_heads.Facts] (a6 : FVec Ideal S2x2x4x256x256 .f32) (d b : Fin 2) (g p q : Fin 4) (i k : Fin 64)
    (hpq : p ≠ q)
    (h : ori (cmpi .eq (iotaInDim S2x2x4x4x64x4x64 32 3) (iotaInDim S2x2x4x4x64x4x64 32 5))
      (cmpf .oeq (shapeCast S2x2x4x4x64x4x64 a6 hP.shapeCasts_S2x2x4x256x256_S2x2x4x4x64x4x64)
        (broadcastInDim S2x2x4x4x64x4x64 ![] hP.bcast_S_S2x2x4x4x64x4x64 (constant S_ .f32 0x00000000#32)))
      (ix7 d b g p i q k) = 1#1) :
    a6 (ix5 d b g (lane p i) (lane q k)) = (0 : EReal) := by
  have hc : ∀ p q : Fin 4, p ≠ q → IntOp.cmpi .eq (BitVec.ofNat 32 p.val) (BitVec.ofNat 32 q.val) = 0#1 := by decide
  have e : (⟨p.val * 64 + i.val, by omega⟩ : Fin 256) = lane p i := Fin.ext (by show p.val * 64 + i.val = 64 * p.val + i.val; omega)
  have f : (⟨q.val * 64 + k.val, by omega⟩ : Fin 256) = lane q k := Fin.ext (by show q.val * 64 + k.val = 64 * q.val + k.val; omega)
  revert h
  pointwise
  rw [e, f, hc p q hpq]
  intro h
  by_contra hne
  rw [decide_eq_false hne] at h
  exact absurd h (by decide)

/-- What the precondition gives: the arguments hold real arrays, and the states are zero beside their heads. -/
theorem holds [hP : Cert.Pre_finite_heads.Facts] (a0 : FVec Ideal S2x16384x1024 .f32) (a1 a2 : FVec Ideal S2x16384x1024 .bf16)
    (a3 a4 a5 : FVec Ideal S16384x1024 .bf16) (a6 : FVec Ideal S2x2x4x256x256 .f32)
    (h : fn (F := Ideal) a0 a1 a2 a3 a4 a5 a6 = constantI S_ 1 1#1) :
    Holds ⟨fun j => (a0 j : EReal).toReal, fun j => (a1 j : EReal).toReal, fun j => (a2 j : EReal).toReal,
      fun j => (a3 j : EReal).toReal, fun j => (a4 j : EReal).toReal, fun j => (a5 j : EReal).toReal,
      fun j => (a6 j : EReal).toReal⟩ a0 a1 a2 a3 a4 a5 a6 := by
  have h' : fn (F := Ideal) a0 a1 a2 a3 a4 a5 a6 (Shape.Idx.first hP.h_S_) = 1#1 := by rw [h]; rfl
  unfold fn fn_part1 fn_part2 fn_part3 at h'
  dsimp only at h'
  simp only [both] at h'
  obtain ⟨⟨⟨⟨⟨⟨⟨h0, h1⟩, h2⟩, h3⟩, h4⟩, h5⟩, h6⟩, h7⟩ := h'
  exact
    { lw := finite_all a0 h0
      kd := finite_all (extf .f32 a1 hP.bitsLt_bf16_f32) h1
      kka := finite_all (extf .f32 a2 hP.bitsLt_bf16_f32) h2
      kk := finite_all (extf .f32 a3 hP.bitsLt_bf16_f32) h3
      v := finite_all (extf .f32 a4 hP.bitsLt_bf16_f32) h4
      r := finite_all (extf .f32 a5 hP.bitsLt_bf16_f32) h5
      s0 := finite_all a6 h6
      off := fun d b g i j hij => by
        have e := off_apply a6 d b g (hd i) (hd j) (ch i) (ch j) hij (Host.reduce_andi_all _ _ _ _ _ h7 _)
        rw [lane_hd_ch, lane_hd_ch] at e
        show (a6 (ix5 d b g i j) : EReal).toReal = 0
        rw [e]
        rfl }

end Wkv.Finite

end
-- ==== Proof.Projection.Entry.lean ====
/-
  The value of the two projections, entry by entry: a row divided by its root mean square, scaled and shifted by its
  batch's vectors, against one column of the weights.
-/
module

public import Idealize.ShloMosaic.PureOps.Ideal.Laws
public import Idealize.ShloMosaic.Lib.Pointwise
public import Idealize.ShloMosaic.Lib.Pipeline.ReadBack
public import Idealize.ShloMosaic.Lib.Pipeline.ValueKit

@[expose] public section

noncomputable section

namespace Projection

open Idealize.ShloMosaic

/-- Entry `k` of a normalized row, scaled and shifted: `1149239296` and `897988541` are the words of 1024 and of the
    small number added under the root. -/
def modulated (x a b : Fin 1024 → EReal) (k : Fin 1024) : EReal :=
  x k * Ideal.rsqrt (Ideal.div (∑ l, x l * x l) (Ideal.ofBits FTy.f32 1149239296#32) + Ideal.ofBits FTy.f32 897988541#32)
    * a k + b k

/-- One entry of a projection. -/
def entry (x a b w : Fin 1024 → EReal) : EReal := ∑ k, modulated x a b k * w k

/-- Pieces whose only store is the whole block leave that store's value. -/
theorem canon_whole {Val : EltTy → Type} [∀ e, Nonempty (Val e)] {r c : ℕ} {e : EltTy}
    (inb : ∀ a, (![0, 0] : Fin 2 → ℕ) a + (⟨2, ![r, c]⟩ : Shape).size a ≤ (⟨2, ![r, c]⟩ : Shape).size a)
    (Z : (⟨2, ![r, c]⟩ : Shape).Idx → Val e) :
    View.canon [⟨Rect.unit (s := ⟨2, ![r, c]⟩) ![0, 0] (⟨2, ![r, c]⟩ : Shape).size inb, Z⟩] = Z := by
  have he : ∀ y : (⟨2, ![r, c]⟩ : Shape).Idx, (Rect.unit (s := ⟨2, ![r, c]⟩) ![0, 0] (⟨2, ![r, c]⟩ : Shape).size inb).emb y = y := by
    intro y
    funext a
    apply Fin.ext
    refine (Rect.idx_unit_val (s := ⟨2, ![r, c]⟩) ![0, 0] _ inb y a).trans ?_
    match a with
    | ⟨0, _⟩ => exact Nat.zero_add _
    | ⟨1, _⟩ => exact Nat.zero_add _
  funext y
  refine View.canon_append_of_piecesOf Z [] [⟨Rect.unit (s := ⟨2, ![r, c]⟩) ![0, 0] (⟨2, ![r, c]⟩ : Shape).size inb, Z⟩]
    ⟨fun x => congrArg Z (he x).symm, trivial⟩ y ⟨_, List.mem_singleton.mpr rfl, ?_⟩
  show y ∈ (Rect.unit (s := ⟨2, ![r, c]⟩) ![0, 0] (⟨2, ![r, c]⟩ : Shape).size inb).set
  rw [Rect.mem_set_unit]
  intro a
  match a with
  | ⟨0, _⟩ => exact ⟨Nat.zero_le _, lt_of_lt_of_eq (y 0).isLt (Nat.zero_add _).symm⟩
  | ⟨1, _⟩ => exact ⟨Nat.zero_le _, lt_of_lt_of_eq (y 1).isLt (Nat.zero_add _).symm⟩

/-- A load of a whole block reads the block. -/
theorem load_whole2 {Val : EltTy → Type} {r c : ℕ} {e : EltTy} (x : (⟨2, ![r, c]⟩ : Shape).Idx → Val e)
    (inb : ∀ a, (![0, 0] : Fin 2 → ℕ) a + (![r, c] : Fin 2 → ℕ) a ≤ (⟨2, ![r, c]⟩ : Shape).size a) :
    View.ld x (Rect.unit (s := ⟨2, ![r, c]⟩) ![0, 0] ![r, c] inb) = x := by
  funext j
  refine View.ld_unit_apply_of x _ _ inb j _ fun a => ?_
  match a with
  | ⟨0, _⟩ => exact (Nat.zero_add _).symm
  | ⟨1, _⟩ => exact (Nat.zero_add _).symm
theorem load_whole3 {Val : EltTy → Type} {b r c : ℕ} {e : EltTy} (x : (⟨3, ![b, r, c]⟩ : Shape).Idx → Val e)
    (inb : ∀ a, (![0, 0, 0] : Fin 3 → ℕ) a + (![b, r, c] : Fin 3 → ℕ) a ≤ (⟨3, ![b, r, c]⟩ : Shape).size a) :
    View.ld x (Rect.unit (s := ⟨3, ![b, r, c]⟩) ![0, 0, 0] ![b, r, c] inb) = x := by
  funext j
  refine View.ld_unit_apply_of x _ _ inb j _ fun a => ?_
  match a with
  | ⟨0, _⟩ => exact (Nat.zero_add _).symm
  | ⟨1, _⟩ => exact (Nat.zero_add _).symm
  | ⟨2, _⟩ => exact (Nat.zero_add _).symm

end Projection

end
-- ==== Proof.Projection.Gate.lean ====
/-
  The wide projection (5120 columns, blocks of 512 rows by 1024 columns): each grid point keeps its row block normalized
  in a buffer and writes one block of the product, and the blocks make up the array of `entry`s.
-/
module

public import proofs.«01_k».proof.Proof.Projection.Entry
public import proofs.«01_k».proof.Proof.Gen.GateProjectionIdeal.Value
public import Idealize.ShloMosaic.Lib.Pipeline.Value

@[expose] public section

set_option maxRecDepth 65536

noncomputable section

namespace Projection.Gate

open Cert.GateProjectionIdeal Cert.GateProjectionIdeal.Gen Cert.GateProjectionIdeal.Value Idealize.ShloMosaic Idealize.ShloMosaic.TcCoe
open Idealize.ShloMosaic.Pipeline (Dat)

/-! ## One grid point -/

section point

variable (c : Dev nD) (i : grid0.Coords)
    (a2 : Memref sig .tc .vmem S512x1024 .f32) (h2 : a2.IsWhole) (a3 : Memref sig .tc .vmem S1x1x1024 .f32) (h3 : a3.IsWhole)
    (a4 : Memref sig .tc .vmem S1x1x1024 .f32) (h4 : a4.IsWhole) (a5 : Memref sig .tc .vmem S1024x1024 .bf16) (h5 : a5.IsWhole)
    (a6 : Memref sig .tc .vmem S512x1024 .bf16) (h6 : a6.IsWhole) (a7 : Memref sig .tc .vmem S512x1024 .bf16) (h7 : a7.IsWhole)
    (x0 : Vec Ideal S512x1024 .f32) (x1 x2 : Vec Ideal S1x1x1024 .f32) (x3 : Vec Ideal S1024x1024 .bf16) (xs : Vec Ideal S512x1024 .bf16)

/-- The first point of a row block stores the rows normalized, scaled and shifted. -/
theorem stateA (hc : cond0_0 i) :
    sout0_A_0 c i a2 h2 a3 h3 a4 h4 a5 h5 a6 h6 a7 h7 hc x0 x1 x2 x3 = k0_pay1 x0 x1 x2 := by
  unfold sout0_A_0
  rw [View.read_writes_eq_canon _ _ _ (scover0_A_0 c i a2 h2 a3 h3 a4 h4 a5 h5 a6 h6 a7 h7 hc x0 x1 x2 x3)]
  have e : (kernelRun0_A c i a2 h2 a3 h3 a4 h4 a5 h5 a6 h6 a7 h7 hc x0 x1 x2 x3).2.1
      = [⟨Rect.unit (s := S512x1024) ![0, 0] S512x1024.size inb_S512x1024_S512x1024_0_0, k0_pay1
          (View.readAt (Elt Ideal) a2.view (Rect.unit (s := S512x1024) ![0, 0] S512x1024.size inb_S512x1024_S512x1024_0_0).toLoadRect (h2.unread x0))
          (View.readAt (Elt Ideal) a3.view (Rect.unit (s := S1x1x1024) ![0, 0, 0] S1x1x1024.size inb_S1x1x1024_S1x1x1024_0_0_0).toLoadRect (h3.unread x1))
          (View.readAt (Elt Ideal) a4.view (Rect.unit (s := S1x1x1024) ![0, 0, 0] S1x1x1024.size inb_S1x1x1024_S1x1x1024_0_0_0).toLoadRect (h4.unread x2))⟩] := by
    unfold kernelRun0_A
    dsimp only
    rfl
  rw [e]
  refine (canon_whole _ _).trans ?_
  simp only [View.readAt_eq_ld, h2.read_unread, h3.read_unread, h4.read_unread]
  exact congr (congrArg₂ k0_pay1 (load_whole2 x0 _) (load_whole3 x1 _)) (load_whole3 x2 _)

/-- The block a first point writes. -/
theorem outputA (hc : cond0_0 i) :
    out0_A_4 c i a2 h2 a3 h3 a4 h4 a5 h5 a6 h6 a7 h7 hc x0 x1 x2 x3 = k0_pay2 (k0_pay1 x0 x1 x2) x3 := by
  unfold out0_A_4
  rw [View.read_writes_eq_canon _ _ _ (cover0_A_4 c i a2 h2 a3 h3 a4 h4 a5 h5 a6 h6 a7 h7 hc x0 x1 x2 x3)]
  have e : (kernelRun0_A c i a2 h2 a3 h3 a4 h4 a5 h5 a6 h6 a7 h7 hc x0 x1 x2 x3).1
      = [⟨Rect.unit (s := S512x1024) ![0, 0] S512x1024.size inb_S512x1024_S512x1024_0_0, k0_pay2
          (a7.view.readCov (kernelRun0_A c i a2 h2 a3 h3 a4 h4 a5 h5 a6 h6 a7 h7 hc x0 x1 x2 x3).2.1 (Rect.unit (s := S512x1024) ![0, 0] S512x1024.size inb_S512x1024_S512x1024_0_0).toLoadRect)
          (View.readAt (Elt Ideal) a5.view (Rect.unit (s := S1024x1024) ![0, 0] S1024x1024.size inb_S1024x1024_S1024x1024_0_0).toLoadRect (h5.unread x3))⟩] := by
    unfold kernelRun0_A
    dsimp only
    rfl
  rw [e]
  refine (canon_whole _ _).trans ?_
  have e' : (kernelRun0_A c i a2 h2 a3 h3 a4 h4 a5 h5 a6 h6 a7 h7 hc x0 x1 x2 x3).2.1
      = [⟨Rect.unit (s := S512x1024) ![0, 0] S512x1024.size inb_S512x1024_S512x1024_0_0, k0_pay1
          (View.readAt (Elt Ideal) a2.view (Rect.unit (s := S512x1024) ![0, 0] S512x1024.size inb_S512x1024_S512x1024_0_0).toLoadRect (h2.unread x0))
          (View.readAt (Elt Ideal) a3.view (Rect.unit (s := S1x1x1024) ![0, 0, 0] S1x1x1024.size inb_S1x1x1024_S1x1x1024_0_0_0).toLoadRect (h3.unread x1))
          (View.readAt (Elt Ideal) a4.view (Rect.unit (s := S1x1x1024) ![0, 0, 0] S1x1x1024.size inb_S1x1x1024_S1x1x1024_0_0_0).toLoadRect (h4.unread x2))⟩] := by
    unfold kernelRun0_A
    dsimp only
    rfl
  rw [e', View.readCov_fill]
  simp only [View.readAt_eq_ld, h2.read_unread, h3.read_unread, h4.read_unread, h5.read_unread]
  exact congrArg₂ k0_pay2 ((load_whole2 _ _).trans (congr (congrArg₂ k0_pay1 (load_whole2 x0 _) (load_whole3 x1 _)) (load_whole3 x2 _)))
    (load_whole2 x3 _)
  intro a
  match a with
  | ⟨0, _⟩ => rfl
  | ⟨1, _⟩ => rfl

/-- The block a later point writes, from the rows kept. -/
theorem outputB (hc : ¬cond0_0 i) :
    out0_B_4 c i a2 h2 a3 h3 a4 h4 a5 h5 a6 h6 a7 h7 hc x0 x1 x2 x3 xs = k0_pay2 xs x3 := by
  unfold out0_B_4
  rw [View.read_writes_eq_canon _ _ _ (cover0_B_4 c i a2 h2 a3 h3 a4 h4 a5 h5 a6 h6 a7 h7 hc x0 x1 x2 x3 xs)]
  have e : (kernelRun0_B c i a2 h2 a3 h3 a4 h4 a5 h5 a6 h6 a7 h7 hc x0 x1 x2 x3 xs).1
      = [⟨Rect.unit (s := S512x1024) ![0, 0] S512x1024.size inb_S512x1024_S512x1024_0_0, k0_pay2
          (View.readAt (Elt Ideal) a7.view (Rect.unit (s := S512x1024) ![0, 0] S512x1024.size inb_S512x1024_S512x1024_0_0).toLoadRect (h7.unread xs))
          (View.readAt (Elt Ideal) a5.view (Rect.unit (s := S1024x1024) ![0, 0] S1024x1024.size inb_S1024x1024_S1024x1024_0_0).toLoadRect (h5.unread x3))⟩] := by
    unfold kernelRun0_B
    dsimp only
  rw [e]
  refine (canon_whole _ _).trans ?_
  simp only [View.readAt_eq_ld, h5.read_unread, h7.read_unread]
  exact congrArg₂ k0_pay2 (load_whole2 xs _) (load_whole2 x3 _)

/-- The rows stored, read at an entry. -/
theorem rows_apply (r : Fin 512) (k : Fin 1024) : k0_pay1 x0 x1 x2 (ix2 r k)
    = modulated (fun l => x0 (ix2 r l)) (fun l => x1 (ix3 0 0 l)) (fun l => x2 (ix3 0 0 l)) k := by
  pointwise [k0_pay1]
  rfl

/-- The product written, read at an entry. -/
theorem product_apply (r : Fin 512) (j : Fin 1024) : k0_pay2 xs x3 (ix2 r j) = ∑ k : Fin 1024, xs (ix2 r k) * x3 (ix2 k j) := by
  pointwise [k0_pay2]

end point

/-! ## The blocks the points read -/

variable (m : (ℓ : Loc nD τ sig) → Buf (Elt Ideal) ℓ) (c : Dev nD) (t : Fin cfg0.N)

/-- Where each window's block lies at a point. -/
theorem index0 : ∀ t : Fin cfg0.N, win0_0.index t 0 = t.val / 5 ∧ win0_0.index t 1 = 0 :=
  (by decide +kernel : ∀ t : Fin grid0.N, win0_0.index t 0 = t.val / 5 ∧ win0_0.index t 1 = 0)
theorem index1 : ∀ t : Fin cfg0.N, win0_1.index t 0 = t.val / 80 ∧ win0_1.index t 1 = 0 ∧ win0_1.index t 2 = 0 :=
  (by decide +kernel : ∀ t : Fin grid0.N, win0_1.index t 0 = t.val / 80 ∧ win0_1.index t 1 = 0 ∧ win0_1.index t 2 = 0)
theorem index2 : ∀ t : Fin cfg0.N, win0_2.index t 0 = t.val / 80 ∧ win0_2.index t 1 = 0 ∧ win0_2.index t 2 = 0 :=
  (by decide +kernel : ∀ t : Fin grid0.N, win0_2.index t 0 = t.val / 80 ∧ win0_2.index t 1 = 0 ∧ win0_2.index t 2 = 0)
theorem index3 : ∀ t : Fin cfg0.N, win0_3.index t 0 = 0 ∧ win0_3.index t 1 = t.val % 5 :=
  (by decide +kernel : ∀ t : Fin grid0.N, win0_3.index t 0 = 0 ∧ win0_3.index t 1 = t.val % 5)
theorem index4 : ∀ t : Fin cfg0.N, win0_4.index t 0 = t.val / 5 ∧ win0_4.index t 1 = t.val % 5 :=
  (by decide +kernel : ∀ t : Fin grid0.N, win0_4.index t 0 = t.val / 5 ∧ win0_4.index t 1 = t.val % 5)

/-- The row, the batch and the column that a point's block has at an offset. -/
def rowOf (n : ℕ) (hn : n < cfg0.N) (r : Fin 512) : Fin 16384 := ⟨n / 5 * 512 + r.val, by have := lt_of_lt_of_eq hn N_0; omega⟩
def colOf (n : ℕ) (j : Fin 1024) : Fin 5120 := ⟨n % 5 * 1024 + j.val, by omega⟩
def batchOf (x : Fin 16384) : Fin 2 := ⟨x.val / 8192, by omega⟩

/-- The input blocks, read at an entry: the rows, the scale, the shift and the weights. -/
theorem block0 (r : Fin 512) (k : Fin 1024) : (iblk m c 0 t : Vec Ideal S512x1024 .f32) (ix2 r k)
    = m ((c : Thread nD τ).loc main_arg0) (ix2 (rowOf t.val t.isLt r) k) := by
  unfold iblk
  rw [View.read_apply]
  show V m c main_arg0 _ = _
  unfold V
  congr 1
  have hi := index0 t
  funext a
  apply Fin.ext
  match a with
  | ⟨0, _⟩ => show win0_0.index t 0 * 512 + 1 * r.val = t.val / 5 * 512 + r.val; rw [hi.1]; omega
  | ⟨1, _⟩ => show win0_0.index t 1 * 1024 + 1 * k.val = k.val; rw [hi.2]; omega
theorem block1 (r : Fin 512) (k : Fin 1024) : (iblk m c 1 t : Vec Ideal S1x1x1024 .f32) (ix3 0 0 k)
    = m ((c : Thread nD τ).loc main_arg1) (ix3 (batchOf (rowOf t.val t.isLt r)) 0 k) := by
  unfold iblk
  rw [View.read_apply]
  show V m c main_arg1 _ = _
  unfold V
  congr 1
  have hi := index1 t
  funext a
  apply Fin.ext
  match a with
  | ⟨0, _⟩ => show win0_1.index t 0 * 1 + 1 * 0 = (t.val / 5 * 512 + r.val) / 8192; rw [hi.1]; omega
  | ⟨1, _⟩ => show win0_1.index t 1 * 1 + 1 * 0 = 0; rw [hi.2.1]
  | ⟨2, _⟩ => show win0_1.index t 2 * 1024 + 1 * k.val = k.val; rw [hi.2.2]; omega
theorem block2 (r : Fin 512) (k : Fin 1024) : (iblk m c 2 t : Vec Ideal S1x1x1024 .f32) (ix3 0 0 k)
    = m ((c : Thread nD τ).loc main_arg2) (ix3 (batchOf (rowOf t.val t.isLt r)) 0 k) := by
  unfold iblk
  rw [View.read_apply]
  show V m c main_arg2 _ = _
  unfold V
  congr 1
  have hi := index2 t
  funext a
  apply Fin.ext
  match a with
  | ⟨0, _⟩ => show win0_2.index t 0 * 1 + 1 * 0 = (t.val / 5 * 512 + r.val) / 8192; rw [hi.1]; omega
  | ⟨1, _⟩ => show win0_2.index t 1 * 1 + 1 * 0 = 0; rw [hi.2.1]
  | ⟨2, _⟩ => show win0_2.index t 2 * 1024 + 1 * k.val = k.val; rw [hi.2.2]; omega
theorem block3 (k : Fin 1024) (j : Fin 1024) : (iblk m c 3 t : Vec Ideal S1024x1024 .bf16) (ix2 k j)
    = m ((c : Thread nD τ).loc main_arg3) (ix2 k (colOf t.val j)) := by
  unfold iblk
  rw [View.read_apply]
  show V m c main_arg3 _ = _
  unfold V
  congr 1
  have hi := index3 t
  funext a
  apply Fin.ext
  match a with
  | ⟨0, _⟩ => show win0_3.index t 0 * 1024 + 1 * k.val = k.val; rw [hi.1]; omega
  | ⟨1, _⟩ => show win0_3.index t 1 * 1024 + 1 * j.val = t.val % 5 * 1024 + j.val; rw [hi.2]; omega

/-! ## The launch -/

/-- Row `x` of the rows normalized, scaled and shifted, at entry `k`. -/
def rows (x : Fin 16384) (k : Fin 1024) : EReal :=
  modulated (fun l => m ((c : Thread nD τ).loc main_arg0) (ix2 x l)) (fun l => m ((c : Thread nD τ).loc main_arg1) (ix3 (batchOf x) 0 l))
    (fun l => m ((c : Thread nD τ).loc main_arg2) (ix3 (batchOf x) 0 l)) k

/-- The projection of the arguments. -/
def result (x0 : Vec Ideal S16384x1024 .f32) (x1 x2 : Vec Ideal S2x1x1024 .f32) (x3 : Vec Ideal S1024x5120 .bf16) : Vec Ideal S16384x5120 .bf16 :=
  fun i => entry (fun l => x0 (ix2 (i 0) l)) (fun l => x1 (ix3 (batchOf (i 0)) 0 l)) (fun l => x2 (ix3 (batchOf (i 0)) 0 l))
    (fun k => x3 (ix2 k (i 1)))

/-- The projection of what the arguments hold in memory. -/
def resultArr : Vec Ideal S16384x5120 .bf16 :=
  result (m ((c : Thread nD τ).loc main_arg0)) (m ((c : Thread nD τ).loc main_arg1)) (m ((c : Thread nD τ).loc main_arg2)) (m ((c : Thread nD τ).loc main_arg3))

/-- The rows a first point stores are its row block's. -/
theorem fresh (r : Fin 512) (k : Fin 1024) :
    k0_pay1 (iblk m c 0 t : Vec Ideal S512x1024 .f32) (iblk m c 1 t : Vec Ideal S1x1x1024 .f32) (iblk m c 2 t : Vec Ideal S1x1x1024 .f32) (ix2 r k)
      = rows m c (rowOf t.val t.isLt r) k := by
  refine (rows_apply _ _ _ r k).trans ?_
  unfold rows
  rw [funext fun l => block0 m c t r l, funext fun l => block1 m c t r l, funext fun l => block2 m c t r l]

/-- What a point leaves in the buffer of normalized rows. -/
theorem kept : ∀ (n : ℕ) (hn : n < cfg0.N) (r : Fin 512) (k : Fin 1024),
    ((outsAt0 m c n hn).2 : Vec Ideal S512x1024 .bf16) (ix2 r k) = rows m c (rowOf n hn r) k := by
  intro n
  induction n with
  | zero =>
    intro hn r k
    rw [outsAt0_A m c ⟨0, hn⟩ rfl]
    dsimp only
    rw [stateA]
    exact fresh m c ⟨0, hn⟩ r k
  | succ n ih =>
    intro hn r k
    by_cases h0 : (n + 1) % 5 = 0
    · rw [outsAt0_A m c ⟨n + 1, hn⟩ h0]
      dsimp only
      rw [stateA]
      exact fresh m c ⟨n + 1, hn⟩ r k
    · rw [outsAt0_B m c ⟨n + 1, hn⟩ h0]
      refine (ih (Nat.lt_of_succ_lt hn) r k).trans ?_
      congr 1
      apply Fin.ext
      show n / 5 * 512 + r.val = (n + 1) / 5 * 512 + r.val
      omega

/-- The block a point writes. -/
theorem output_after (r : Fin 512) (j : Fin 1024) : ((outsAt0 m c t.val t.isLt).1 : Vec Ideal S512x1024 .bf16) (ix2 r j)
    = resultArr m c (ix2 (rowOf t.val t.isLt r) (colOf t.val j)) := by
  have key : ∀ xs : Vec Ideal S512x1024 .bf16, (∀ k, xs (ix2 r k) = rows m c (rowOf t.val t.isLt r) k) →
      k0_pay2 xs (iblk m c 3 t : Vec Ideal S1024x1024 .bf16) (ix2 r j) = resultArr m c (ix2 (rowOf t.val t.isLt r) (colOf t.val j)) := by
    intro xs h
    refine (product_apply _ _ r j).trans ?_
    show _ = ∑ k : Fin 1024, rows m c (rowOf t.val t.isLt r) k * m ((c : Thread nD τ).loc main_arg3) (ix2 k (colOf t.val j))
    exact Finset.sum_congr rfl fun k _ => congrArg₂ (· * ·) (h k) (block3 m c t k j)
  by_cases h0 : t.val % 5 = 0
  · rw [outsAt0_A m c t h0]
    dsimp only
    rw [outputA]
    exact key _ fun k => fresh m c t r k
  · rw [outsAt0_B m c t h0]
    dsimp only
    rw [outputB]
    refine key _ fun k => (kept m c (t.val - 1) (Nat.lt_of_le_of_lt (Nat.sub_le _ _) t.isLt) r k).trans ?_
    congr 1
    apply Fin.ext
    show (t.val - 1) / 5 * 512 + r.val = t.val / 5 * 512 + r.val
    omega

/-- What a point writes back is its block of the result. -/
theorem flushed_eq : (dats m 0 c).flushed 4 t = ((cfg0.win 4).blk t).view.read (Elt Ideal) (resultArr m c) := by
  rw [flushed4]
  funext j
  obtain ⟨r, l, rfl⟩ : ∃ (r : Fin 512) (l : Fin 1024), j = ix2 r l :=
    ⟨j 0, j 1, funext fun a => match a with
      | ⟨0, _⟩ => rfl
      | ⟨1, _⟩ => rfl⟩
  refine (output_after m c t r l).trans ?_
  rw [View.read_apply]
  show resultArr m c _ = resultArr m c _
  congr 1
  have hi := index4 t
  funext a
  apply Fin.ext
  match a with
  | ⟨0, _⟩ => show t.val / 5 * 512 + r.val = win0_4.index t 0 * 512 + 1 * r.val; rw [hi.1]; omega
  | ⟨1, _⟩ => show t.val % 5 * 1024 + l.val = win0_4.index t 1 * 1024 + 1 * l.val; rw [hi.2]; omega

/-- The output array after the launch. -/
theorem final : (dats m 0 c).arrAt 4 cfg0.N = resultArr m c :=
  (dats m 0 c).arrAt_eq_of_cover 4 (resultArr m c) (fun t _ => flushed_eq m c t) fun i => (covered_iff4 i).2 (by
    have h0 : (i 0).val < 16384 := (i 0).isLt
    have h1 : (i 1).val < 5120 := (i 1).isLt
    omega)

end Projection.Gate

end
-- ==== Proof.Projection.State.lean ====
/-
  The narrow projection (3584 columns, blocks of 512 rows by 512 columns): each grid point keeps its row block normalized
  in a buffer and writes one block of the product, and the blocks make up the array of `entry`s.
-/
module

public import proofs.«01_k».proof.Proof.Projection.Entry
public import proofs.«01_k».proof.Proof.Gen.StateProjectionIdeal.Value
public import Idealize.ShloMosaic.Lib.Pipeline.Value

@[expose] public section

set_option maxRecDepth 65536

noncomputable section

namespace Projection.State

open Cert.StateProjectionIdeal Cert.StateProjectionIdeal.Gen Cert.StateProjectionIdeal.Value Idealize.ShloMosaic Idealize.ShloMosaic.TcCoe
open Idealize.ShloMosaic.Pipeline (Dat)

/-! ## One grid point -/

section point

variable (c : Dev nD) (i : grid0.Coords)
    (a2 : Memref sig .tc .vmem S512x1024 .f32) (h2 : a2.IsWhole) (a3 : Memref sig .tc .vmem S1x1x1024 .f32) (h3 : a3.IsWhole)
    (a4 : Memref sig .tc .vmem S1x1x1024 .f32) (h4 : a4.IsWhole) (a5 : Memref sig .tc .vmem S1024x512 .bf16) (h5 : a5.IsWhole)
    (a6 : Memref sig .tc .vmem S512x512 .bf16) (h6 : a6.IsWhole) (a7 : Memref sig .tc .vmem S512x1024 .bf16) (h7 : a7.IsWhole)
    (x0 : Vec Ideal S512x1024 .f32) (x1 x2 : Vec Ideal S1x1x1024 .f32) (x3 : Vec Ideal S1024x512 .bf16) (xs : Vec Ideal S512x1024 .bf16)

/-- The first point of a row block stores the rows normalized, scaled and shifted. -/
theorem stateA (hc : cond0_0 i) :
    sout0_A_0 c i a2 h2 a3 h3 a4 h4 a5 h5 a6 h6 a7 h7 hc x0 x1 x2 x3 = k0_pay1 x0 x1 x2 := by
  unfold sout0_A_0
  rw [View.read_writes_eq_canon _ _ _ (scover0_A_0 c i a2 h2 a3 h3 a4 h4 a5 h5 a6 h6 a7 h7 hc x0 x1 x2 x3)]
  have e : (kernelRun0_A c i a2 h2 a3 h3 a4 h4 a5 h5 a6 h6 a7 h7 hc x0 x1 x2 x3).2.1
      = [⟨Rect.unit (s := S512x1024) ![0, 0] S512x1024.size inb_S512x1024_S512x1024_0_0, k0_pay1
          (View.readAt (Elt Ideal) a2.view (Rect.unit (s := S512x1024) ![0, 0] S512x1024.size inb_S512x1024_S512x1024_0_0).toLoadRect (h2.unread x0))
          (View.readAt (Elt Ideal) a3.view (Rect.unit (s := S1x1x1024) ![0, 0, 0] S1x1x1024.size inb_S1x1x1024_S1x1x1024_0_0_0).toLoadRect (h3.unread x1))
          (View.readAt (Elt Ideal) a4.view (Rect.unit (s := S1x1x1024) ![0, 0, 0] S1x1x1024.size inb_S1x1x1024_S1x1x1024_0_0_0).toLoadRect (h4.unread x2))⟩] := by
    unfold kernelRun0_A
    dsimp only
    rfl
  rw [e]
  refine (canon_whole _ _).trans ?_
  simp only [View.readAt_eq_ld, h2.read_unread, h3.read_unread, h4.read_unread]
  exact congr (congrArg₂ k0_pay1 (load_whole2 x0 _) (load_whole3 x1 _)) (load_whole3 x2 _)

/-- The block a first point writes. -/
theorem outputA (hc : cond0_0 i) :
    out0_A_4 c i a2 h2 a3 h3 a4 h4 a5 h5 a6 h6 a7 h7 hc x0 x1 x2 x3 = k0_pay2 (k0_pay1 x0 x1 x2) x3 := by
  unfold out0_A_4
  rw [View.read_writes_eq_canon _ _ _ (cover0_A_4 c i a2 h2 a3 h3 a4 h4 a5 h5 a6 h6 a7 h7 hc x0 x1 x2 x3)]
  have e : (kernelRun0_A c i a2 h2 a3 h3 a4 h4 a5 h5 a6 h6 a7 h7 hc x0 x1 x2 x3).1
      = [⟨Rect.unit (s := S512x512) ![0, 0] S512x512.size inb_S512x512_S512x512_0_0, k0_pay2
          (a7.view.readCov (kernelRun0_A c i a2 h2 a3 h3 a4 h4 a5 h5 a6 h6 a7 h7 hc x0 x1 x2 x3).2.1 (Rect.unit (s := S512x1024) ![0, 0] S512x1024.size inb_S512x1024_S512x1024_0_0).toLoadRect)
          (View.readAt (Elt Ideal) a5.view (Rect.unit (s := S1024x512) ![0, 0] S1024x512.size inb_S1024x512_S1024x512_0_0).toLoadRect (h5.unread x3))⟩] := by
    unfold kernelRun0_A
    dsimp only
    rfl
  rw [e]
  refine (canon_whole _ _).trans ?_
  have e' : (kernelRun0_A c i a2 h2 a3 h3 a4 h4 a5 h5 a6 h6 a7 h7 hc x0 x1 x2 x3).2.1
      = [⟨Rect.unit (s := S512x1024) ![0, 0] S512x1024.size inb_S512x1024_S512x1024_0_0, k0_pay1
          (View.readAt (Elt Ideal) a2.view (Rect.unit (s := S512x1024) ![0, 0] S512x1024.size inb_S512x1024_S512x1024_0_0).toLoadRect (h2.unread x0))
          (View.readAt (Elt Ideal) a3.view (Rect.unit (s := S1x1x1024) ![0, 0, 0] S1x1x1024.size inb_S1x1x1024_S1x1x1024_0_0_0).toLoadRect (h3.unread x1))
          (View.readAt (Elt Ideal) a4.view (Rect.unit (s := S1x1x1024) ![0, 0, 0] S1x1x1024.size inb_S1x1x1024_S1x1x1024_0_0_0).toLoadRect (h4.unread x2))⟩] := by
    unfold kernelRun0_A
    dsimp only
    rfl
  rw [e', View.readCov_fill]
  simp only [View.readAt_eq_ld, h2.read_unread, h3.read_unread, h4.read_unread, h5.read_unread]
  exact congrArg₂ k0_pay2 ((load_whole2 _ _).trans (congr (congrArg₂ k0_pay1 (load_whole2 x0 _) (load_whole3 x1 _)) (load_whole3 x2 _)))
    (load_whole2 x3 _)
  intro a
  match a with
  | ⟨0, _⟩ => rfl
  | ⟨1, _⟩ => rfl

/-- The block a later point writes, from the rows kept. -/
theorem outputB (hc : ¬cond0_0 i) :
    out0_B_4 c i a2 h2 a3 h3 a4 h4 a5 h5 a6 h6 a7 h7 hc x0 x1 x2 x3 xs = k0_pay2 xs x3 := by
  unfold out0_B_4
  rw [View.read_writes_eq_canon _ _ _ (cover0_B_4 c i a2 h2 a3 h3 a4 h4 a5 h5 a6 h6 a7 h7 hc x0 x1 x2 x3 xs)]
  have e : (kernelRun0_B c i a2 h2 a3 h3 a4 h4 a5 h5 a6 h6 a7 h7 hc x0 x1 x2 x3 xs).1
      = [⟨Rect.unit (s := S512x512) ![0, 0] S512x512.size inb_S512x512_S512x512_0_0, k0_pay2
          (View.readAt (Elt Ideal) a7.view (Rect.unit (s := S512x1024) ![0, 0] S512x1024.size inb_S512x1024_S512x1024_0_0).toLoadRect (h7.unread xs))
          (View.readAt (Elt Ideal) a5.view (Rect.unit (s := S1024x512) ![0, 0] S1024x512.size inb_S1024x512_S1024x512_0_0).toLoadRect (h5.unread x3))⟩] := by
    unfold kernelRun0_B
    dsimp only
  rw [e]
  refine (canon_whole _ _).trans ?_
  simp only [View.readAt_eq_ld, h5.read_unread, h7.read_unread]
  exact congrArg₂ k0_pay2 (load_whole2 xs _) (load_whole2 x3 _)

/-- The rows stored, read at an entry. -/
theorem rows_apply (r : Fin 512) (k : Fin 1024) : k0_pay1 x0 x1 x2 (ix2 r k)
    = modulated (fun l => x0 (ix2 r l)) (fun l => x1 (ix3 0 0 l)) (fun l => x2 (ix3 0 0 l)) k := by
  pointwise [k0_pay1]
  rfl

/-- The product written, read at an entry. -/
theorem product_apply (r : Fin 512) (j : Fin 512) : k0_pay2 xs x3 (ix2 r j) = ∑ k : Fin 1024, xs (ix2 r k) * x3 (ix2 k j) := by
  pointwise [k0_pay2]

end point

/-! ## The blocks the points read -/

variable (m : (ℓ : Loc nD τ sig) → Buf (Elt Ideal) ℓ) (c : Dev nD) (t : Fin cfg0.N)

/-- Where each window's block lies at a point. -/
theorem index0 : ∀ t : Fin cfg0.N, win0_0.index t 0 = t.val / 7 ∧ win0_0.index t 1 = 0 :=
  (by decide +kernel : ∀ t : Fin grid0.N, win0_0.index t 0 = t.val / 7 ∧ win0_0.index t 1 = 0)
theorem index1 : ∀ t : Fin cfg0.N, win0_1.index t 0 = t.val / 112 ∧ win0_1.index t 1 = 0 ∧ win0_1.index t 2 = 0 :=
  (by decide +kernel : ∀ t : Fin grid0.N, win0_1.index t 0 = t.val / 112 ∧ win0_1.index t 1 = 0 ∧ win0_1.index t 2 = 0)
theorem index2 : ∀ t : Fin cfg0.N, win0_2.index t 0 = t.val / 112 ∧ win0_2.index t 1 = 0 ∧ win0_2.index t 2 = 0 :=
  (by decide +kernel : ∀ t : Fin grid0.N, win0_2.index t 0 = t.val / 112 ∧ win0_2.index t 1 = 0 ∧ win0_2.index t 2 = 0)
theorem index3 : ∀ t : Fin cfg0.N, win0_3.index t 0 = 0 ∧ win0_3.index t 1 = t.val % 7 :=
  (by decide +kernel : ∀ t : Fin grid0.N, win0_3.index t 0 = 0 ∧ win0_3.index t 1 = t.val % 7)
theorem index4 : ∀ t : Fin cfg0.N, win0_4.index t 0 = t.val / 7 ∧ win0_4.index t 1 = t.val % 7 :=
  (by decide +kernel : ∀ t : Fin grid0.N, win0_4.index t 0 = t.val / 7 ∧ win0_4.index t 1 = t.val % 7)

/-- The row, the batch and the column that a point's block has at an offset. -/
def rowOf (n : ℕ) (hn : n < cfg0.N) (r : Fin 512) : Fin 16384 := ⟨n / 7 * 512 + r.val, by have := lt_of_lt_of_eq hn N_0; omega⟩
def colOf (n : ℕ) (j : Fin 512) : Fin 3584 := ⟨n % 7 * 512 + j.val, by omega⟩
def batchOf (x : Fin 16384) : Fin 2 := ⟨x.val / 8192, by omega⟩

/-- The input blocks, read at an entry: the rows, the scale, the shift and the weights. -/
theorem block0 (r : Fin 512) (k : Fin 1024) : (iblk m c 0 t : Vec Ideal S512x1024 .f32) (ix2 r k)
    = m ((c : Thread nD τ).loc main_arg0) (ix2 (rowOf t.val t.isLt r) k) := by
  unfold iblk
  rw [View.read_apply]
  show V m c main_arg0 _ = _
  unfold V
  congr 1
  have hi := index0 t
  funext a
  apply Fin.ext
  match a with
  | ⟨0, _⟩ => show win0_0.index t 0 * 512 + 1 * r.val = t.val / 7 * 512 + r.val; rw [hi.1]; omega
  | ⟨1, _⟩ => show win0_0.index t 1 * 1024 + 1 * k.val = k.val; rw [hi.2]; omega
theorem block1 (r : Fin 512) (k : Fin 1024) : (iblk m c 1 t : Vec Ideal S1x1x1024 .f32) (ix3 0 0 k)
    = m ((c : Thread nD τ).loc main_arg1) (ix3 (batchOf (rowOf t.val t.isLt r)) 0 k) := by
  unfold iblk
  rw [View.read_apply]
  show V m c main_arg1 _ = _
  unfold V
  congr 1
  have hi := index1 t
  funext a
  apply Fin.ext
  match a with
  | ⟨0, _⟩ => show win0_1.index t 0 * 1 + 1 * 0 = (t.val / 7 * 512 + r.val) / 8192; rw [hi.1]; omega
  | ⟨1, _⟩ => show win0_1.index t 1 * 1 + 1 * 0 = 0; rw [hi.2.1]
  | ⟨2, _⟩ => show win0_1.index t 2 * 1024 + 1 * k.val = k.val; rw [hi.2.2]; omega
theorem block2 (r : Fin 512) (k : Fin 1024) : (iblk m c 2 t : Vec Ideal S1x1x1024 .f32) (ix3 0 0 k)
    = m ((c : Thread nD τ).loc main_arg2) (ix3 (batchOf (rowOf t.val t.isLt r)) 0 k) := by
  unfold iblk
  rw [View.read_apply]
  show V m c main_arg2 _ = _
  unfold V
  congr 1
  have hi := index2 t
  funext a
  apply Fin.ext
  match a with
  | ⟨0, _⟩ => show win0_2.index t 0 * 1 + 1 * 0 = (t.val / 7 * 512 + r.val) / 8192; rw [hi.1]; omega
  | ⟨1, _⟩ => show win0_2.index t 1 * 1 + 1 * 0 = 0; rw [hi.2.1]
  | ⟨2, _⟩ => show win0_2.index t 2 * 1024 + 1 * k.val = k.val; rw [hi.2.2]; omega
theorem block3 (k : Fin 1024) (j : Fin 512) : (iblk m c 3 t : Vec Ideal S1024x512 .bf16) (ix2 k j)
    = m ((c : Thread nD τ).loc main_arg3) (ix2 k (colOf t.val j)) := by
  unfold iblk
  rw [View.read_apply]
  show V m c main_arg3 _ = _
  unfold V
  congr 1
  have hi := index3 t
  funext a
  apply Fin.ext
  match a with
  | ⟨0, _⟩ => show win0_3.index t 0 * 1024 + 1 * k.val = k.val; rw [hi.1]; omega
  | ⟨1, _⟩ => show win0_3.index t 1 * 512 + 1 * j.val = t.val % 7 * 512 + j.val; rw [hi.2]; omega

/-! ## The launch -/

/-- Row `x` of the rows normalized, scaled and shifted, at entry `k`. -/
def rows (x : Fin 16384) (k : Fin 1024) : EReal :=
  modulated (fun l => m ((c : Thread nD τ).loc main_arg0) (ix2 x l)) (fun l => m ((c : Thread nD τ).loc main_arg1) (ix3 (batchOf x) 0 l))
    (fun l => m ((c : Thread nD τ).loc main_arg2) (ix3 (batchOf x) 0 l)) k

/-- The projection of the arguments. -/
def result (x0 : Vec Ideal S16384x1024 .f32) (x1 x2 : Vec Ideal S2x1x1024 .f32) (x3 : Vec Ideal S1024x3584 .bf16) : Vec Ideal S16384x3584 .bf16 :=
  fun i => entry (fun l => x0 (ix2 (i 0) l)) (fun l => x1 (ix3 (batchOf (i 0)) 0 l)) (fun l => x2 (ix3 (batchOf (i 0)) 0 l))
    (fun k => x3 (ix2 k (i 1)))

/-- The projection of what the arguments hold in memory. -/
def resultArr : Vec Ideal S16384x3584 .bf16 :=
  result (m ((c : Thread nD τ).loc main_arg0)) (m ((c : Thread nD τ).loc main_arg1)) (m ((c : Thread nD τ).loc main_arg2)) (m ((c : Thread nD τ).loc main_arg3))

/-- The rows a first point stores are its row block's. -/
theorem fresh (r : Fin 512) (k : Fin 1024) :
    k0_pay1 (iblk m c 0 t : Vec Ideal S512x1024 .f32) (iblk m c 1 t : Vec Ideal S1x1x1024 .f32) (iblk m c 2 t : Vec Ideal S1x1x1024 .f32) (ix2 r k)
      = rows m c (rowOf t.val t.isLt r) k := by
  refine (rows_apply _ _ _ r k).trans ?_
  unfold rows
  rw [funext fun l => block0 m c t r l, funext fun l => block1 m c t r l, funext fun l => block2 m c t r l]

/-- What a point leaves in the buffer of normalized rows. -/
theorem kept : ∀ (n : ℕ) (hn : n < cfg0.N) (r : Fin 512) (k : Fin 1024),
    ((outsAt0 m c n hn).2 : Vec Ideal S512x1024 .bf16) (ix2 r k) = rows m c (rowOf n hn r) k := by
  intro n
  induction n with
  | zero =>
    intro hn r k
    rw [outsAt0_A m c ⟨0, hn⟩ rfl]
    dsimp only
    rw [stateA]
    exact fresh m c ⟨0, hn⟩ r k
  | succ n ih =>
    intro hn r k
    by_cases h0 : (n + 1) % 7 = 0
    · rw [outsAt0_A m c ⟨n + 1, hn⟩ h0]
      dsimp only
      rw [stateA]
      exact fresh m c ⟨n + 1, hn⟩ r k
    · rw [outsAt0_B m c ⟨n + 1, hn⟩ h0]
      refine (ih (Nat.lt_of_succ_lt hn) r k).trans ?_
      congr 1
      apply Fin.ext
      show n / 7 * 512 + r.val = (n + 1) / 7 * 512 + r.val
      omega

/-- The block a point writes. -/
theorem output_after (r : Fin 512) (j : Fin 512) : ((outsAt0 m c t.val t.isLt).1 : Vec Ideal S512x512 .bf16) (ix2 r j)
    = resultArr m c (ix2 (rowOf t.val t.isLt r) (colOf t.val j)) := by
  have key : ∀ xs : Vec Ideal S512x1024 .bf16, (∀ k, xs (ix2 r k) = rows m c (rowOf t.val t.isLt r) k) →
      k0_pay2 xs (iblk m c 3 t : Vec Ideal S1024x512 .bf16) (ix2 r j) = resultArr m c (ix2 (rowOf t.val t.isLt r) (colOf t.val j)) := by
    intro xs h
    refine (product_apply _ _ r j).trans ?_
    show _ = ∑ k : Fin 1024, rows m c (rowOf t.val t.isLt r) k * m ((c : Thread nD τ).loc main_arg3) (ix2 k (colOf t.val j))
    exact Finset.sum_congr rfl fun k _ => congrArg₂ (· * ·) (h k) (block3 m c t k j)
  by_cases h0 : t.val % 7 = 0
  · rw [outsAt0_A m c t h0]
    dsimp only
    rw [outputA]
    exact key _ fun k => fresh m c t r k
  · rw [outsAt0_B m c t h0]
    dsimp only
    rw [outputB]
    refine key _ fun k => (kept m c (t.val - 1) (Nat.lt_of_le_of_lt (Nat.sub_le _ _) t.isLt) r k).trans ?_
    congr 1
    apply Fin.ext
    show (t.val - 1) / 7 * 512 + r.val = t.val / 7 * 512 + r.val
    omega

/-- What a point writes back is its block of the result. -/
theorem flushed_eq : (dats m 0 c).flushed 4 t = ((cfg0.win 4).blk t).view.read (Elt Ideal) (resultArr m c) := by
  rw [flushed4]
  funext j
  obtain ⟨r, l, rfl⟩ : ∃ (r : Fin 512) (l : Fin 512), j = ix2 r l :=
    ⟨j 0, j 1, funext fun a => match a with
      | ⟨0, _⟩ => rfl
      | ⟨1, _⟩ => rfl⟩
  refine (output_after m c t r l).trans ?_
  rw [View.read_apply]
  show resultArr m c _ = resultArr m c _
  congr 1
  have hi := index4 t
  funext a
  apply Fin.ext
  match a with
  | ⟨0, _⟩ => show t.val / 7 * 512 + r.val = win0_4.index t 0 * 512 + 1 * r.val; rw [hi.1]; omega
  | ⟨1, _⟩ => show t.val % 7 * 512 + l.val = win0_4.index t 1 * 512 + 1 * l.val; rw [hi.2]; omega

/-- The output array after the launch. -/
theorem final : (dats m 0 c).arrAt 4 cfg0.N = resultArr m c :=
  (dats m 0 c).arrAt_eq_of_cover 4 (resultArr m c) (fun t _ => flushed_eq m c t) fun i => (covered_iff4 i).2 (by
    have h0 : (i 0).val < 16384 := (i 0).isLt
    have h1 : (i 1).val < 3584 := (i 1).isLt
    omega)

end Projection.State

end
-- ==== Proof.Projection.GateReading.lean ====
/-
  The plain form of the wide projection, read entry by entry.
-/
module

public import proofs.«01_k».proof.Proof.Projection.Entry
public import proofs.«01_k».proof.Proof.Gen.GateReferenceIdeal.Run
public import Idealize.ShloMosaic.Lib.IdealHost

@[expose] public section

set_option maxRecDepth 65536

noncomputable section

namespace Projection.GateReading

open Cert.GateReferenceIdeal Cert.GateReferenceIdeal.Gen Idealize.ShloMosaic Idealize.ShloMosaic.TcCoe

/-- The rows by batch. -/
def batched (x : Vec Ideal S16384x1024 .f32) : FVec Ideal S2x8192x1024 .f32 := shapeCast _ x shapeCasts_S16384x1024_S2x8192x1024
/-- One over each row's root mean square. -/
def scale (x : FVec Ideal S2x8192x1024 .f32) : FVec Ideal S2x8192x1024 .f32 :=
  broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))
/-- A batch's vector at all its rows. -/
def perBatch (a : Vec Ideal S2x1x1024 .f32) : FVec Ideal S2x8192x1024 .f32 := broadcastInDim S2x8192x1024 ![0, 1, 2] bcast_S2x1x1024_S2x8192x1024_0_1_2 a
/-- The rows normalized, scaled and shifted. -/
def rows (x : FVec Ideal S2x8192x1024 .f32) (a b : Vec Ideal S2x1x1024 .f32) : FVec Ideal S2x8192x1024 .f32 :=
  addf (mulf (mulf x (scale x)) (perBatch a)) (perBatch b)
/-- The product with the weights. -/
def product (h : FVec Ideal S2x8192x1024 .f32) (w : FVec Ideal S1024x5120 .bf16) : FVec Ideal S16384x5120 .bf16 :=
  truncf .bf16 (shapeCast _ (Host.dotGeneral dot_S2x8192x1024_S1024x5120_S2x8192x5120_2_0_01_1_n_n none h (extf .f32 w bitsLt_bf16_f32)) shapeCasts_S2x8192x5120_S16384x5120) bitsLt_bf16_f32

theorem batched_apply (x : Vec Ideal S16384x1024 .f32) (p : Fin 2) (r : Fin 8192) (k : Fin 1024) :
    batched x (ix3 p r k) = x (ix2 ⟨p.val * 8192 + r.val, by omega⟩ k) := by
  pointwise [batched]
theorem scale_apply (x : FVec Ideal S2x8192x1024 .f32) (p : Fin 2) (r : Fin 8192) (k : Fin 1024) :
    scale x (ix3 p r k) = Ideal.rsqrt (Ideal.div (∑ l : Fin 1024, x (ix3 p r l) * x (ix3 p r l)) (Ideal.ofBits FTy.f32 1149239296#32)
      + Ideal.ofBits FTy.f32 897988541#32) := by
  pointwise [scale]
theorem perBatch_apply (a : Vec Ideal S2x1x1024 .f32) (p : Fin 2) (r : Fin 8192) (k : Fin 1024) :
    perBatch a (ix3 p r k) = a (ix3 p 0 k) := by
  pointwise [perBatch]
theorem product_apply (h : FVec Ideal S2x8192x1024 .f32) (w : FVec Ideal S1024x5120 .bf16) (r : Fin 16384) (j : Fin 5120) :
    product h w (ix2 r j) = ∑ k : Fin 1024, h (ix3 ⟨r.val / 8192, by omega⟩ ⟨r.val % 8192, by omega⟩ k) * w (ix2 k j) := by
  pointwise [product]

/-- The plain form is the array of entries. -/
theorem whole (x : Vec Ideal S16384x1024 .f32) (a b : Vec Ideal S2x1x1024 .f32) (w : Vec Ideal S1024x5120 .bf16) (r : Fin 16384) (j : Fin 5120) :
    product (rows (batched x) a b) w (ix2 r j)
      = entry (fun l => x (ix2 r l)) (fun l => a (ix3 ⟨r.val / 8192, by omega⟩ 0 l)) (fun l => b (ix3 ⟨r.val / 8192, by omega⟩ 0 l)) (fun k => w (ix2 k j)) := by
  refine (product_apply _ _ r j).trans ?_
  unfold entry
  refine Finset.sum_congr rfl fun k _ => congrArg (· * _) ?_
  show batched x _ * scale (batched x) _ * perBatch a _ + perBatch b _ = _
  rw [scale_apply, perBatch_apply, perBatch_apply]
  unfold modulated
  have e : ∀ l : Fin 1024, batched x (ix3 ⟨r.val / 8192, by omega⟩ ⟨r.val % 8192, by omega⟩ l) = x (ix2 r l) := fun l => by
    refine (batched_apply x _ _ l).trans (congrArg (fun q => x (ix2 q l)) (Fin.ext ?_))
    show r.val / 8192 * 8192 + r.val % 8192 = r.val
    omega
  rw [e k, Finset.sum_congr rfl fun l _ => congrArg₂ (· * ·) (e l) (e l)]

/-- The array that both sides compute. -/
def result (x : Vec Ideal S16384x1024 .f32) (a b : Vec Ideal S2x1x1024 .f32) (w : Vec Ideal S1024x5120 .bf16) : Vec Ideal S16384x5120 .bf16 :=
  fun i => entry (fun l => x (ix2 (i 0) l)) (fun l => a (ix3 ⟨(i 0).val / 8192, by have : (i 0).val < 16384 := (i 0).isLt; omega⟩ 0 l))
    (fun l => b (ix3 ⟨(i 0).val / 8192, by have : (i 0).val < 16384 := (i 0).isLt; omega⟩ 0 l)) (fun k => w (ix2 k (i 1)))

/-- The plain form is that array. -/
theorem whole_eq (x : Vec Ideal S16384x1024 .f32) (a b : Vec Ideal S2x1x1024 .f32) (w : Vec Ideal S1024x5120 .bf16) :
    product (rows (batched x) a b) w = result x a b w := by
  funext i
  obtain ⟨r, j, rfl⟩ : ∃ (r : Fin 16384) (j : Fin 5120), i = ix2 r j :=
    ⟨i 0, i 1, funext fun q => match q with
      | ⟨0, _⟩ => rfl
      | ⟨1, _⟩ => rfl⟩
  exact whole x a b w r j

end Projection.GateReading

end
-- ==== Proof.Projection.StateReading.lean ====
/-
  The plain form of the narrow projection, read entry by entry.
-/
module

public import proofs.«01_k».proof.Proof.Projection.Entry
public import proofs.«01_k».proof.Proof.Gen.StateReferenceIdeal.Run
public import Idealize.ShloMosaic.Lib.IdealHost

@[expose] public section

set_option maxRecDepth 65536

noncomputable section

namespace Projection.StateReading

open Cert.StateReferenceIdeal Cert.StateReferenceIdeal.Gen Idealize.ShloMosaic Idealize.ShloMosaic.TcCoe

/-- The rows by batch. -/
def batched (x : Vec Ideal S16384x1024 .f32) : FVec Ideal S2x8192x1024 .f32 := shapeCast _ x shapeCasts_S16384x1024_S2x8192x1024
/-- One over each row's root mean square. -/
def scale (x : FVec Ideal S2x8192x1024 .f32) : FVec Ideal S2x8192x1024 .f32 :=
  broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))
/-- A batch's vector at all its rows. -/
def perBatch (a : Vec Ideal S2x1x1024 .f32) : FVec Ideal S2x8192x1024 .f32 := broadcastInDim S2x8192x1024 ![0, 1, 2] bcast_S2x1x1024_S2x8192x1024_0_1_2 a
/-- The rows normalized, scaled and shifted. -/
def rows (x : FVec Ideal S2x8192x1024 .f32) (a b : Vec Ideal S2x1x1024 .f32) : FVec Ideal S2x8192x1024 .f32 :=
  addf (mulf (mulf x (scale x)) (perBatch a)) (perBatch b)
/-- The product with the weights. -/
def product (h : FVec Ideal S2x8192x1024 .f32) (w : FVec Ideal S1024x3584 .bf16) : FVec Ideal S16384x3584 .bf16 :=
  truncf .bf16 (shapeCast _ (Host.dotGeneral dot_S2x8192x1024_S1024x3584_S2x8192x3584_2_0_01_1_n_n none h (extf .f32 w bitsLt_bf16_f32)) shapeCasts_S2x8192x3584_S16384x3584) bitsLt_bf16_f32

theorem batched_apply (x : Vec Ideal S16384x1024 .f32) (p : Fin 2) (r : Fin 8192) (k : Fin 1024) :
    batched x (ix3 p r k) = x (ix2 ⟨p.val * 8192 + r.val, by omega⟩ k) := by
  pointwise [batched]
theorem scale_apply (x : FVec Ideal S2x8192x1024 .f32) (p : Fin 2) (r : Fin 8192) (k : Fin 1024) :
    scale x (ix3 p r k) = Ideal.rsqrt (Ideal.div (∑ l : Fin 1024, x (ix3 p r l) * x (ix3 p r l)) (Ideal.ofBits FTy.f32 1149239296#32)
      + Ideal.ofBits FTy.f32 897988541#32) := by
  pointwise [scale]
theorem perBatch_apply (a : Vec Ideal S2x1x1024 .f32) (p : Fin 2) (r : Fin 8192) (k : Fin 1024) :
    perBatch a (ix3 p r k) = a (ix3 p 0 k) := by
  pointwise [perBatch]
theorem product_apply (h : FVec Ideal S2x8192x1024 .f32) (w : FVec Ideal S1024x3584 .bf16) (r : Fin 16384) (j : Fin 3584) :
    product h w (ix2 r j) = ∑ k : Fin 1024, h (ix3 ⟨r.val / 8192, by omega⟩ ⟨r.val % 8192, by omega⟩ k) * w (ix2 k j) := by
  pointwise [product]

/-- The plain form is the array of entries. -/
theorem whole (x : Vec Ideal S16384x1024 .f32) (a b : Vec Ideal S2x1x1024 .f32) (w : Vec Ideal S1024x3584 .bf16) (r : Fin 16384) (j : Fin 3584) :
    product (rows (batched x) a b) w (ix2 r j)
      = entry (fun l => x (ix2 r l)) (fun l => a (ix3 ⟨r.val / 8192, by omega⟩ 0 l)) (fun l => b (ix3 ⟨r.val / 8192, by omega⟩ 0 l)) (fun k => w (ix2 k j)) := by
  refine (product_apply _ _ r j).trans ?_
  unfold entry
  refine Finset.sum_congr rfl fun k _ => congrArg (· * _) ?_
  show batched x _ * scale (batched x) _ * perBatch a _ + perBatch b _ = _
  rw [scale_apply, perBatch_apply, perBatch_apply]
  unfold modulated
  have e : ∀ l : Fin 1024, batched x (ix3 ⟨r.val / 8192, by omega⟩ ⟨r.val % 8192, by omega⟩ l) = x (ix2 r l) := fun l => by
    refine (batched_apply x _ _ l).trans (congrArg (fun q => x (ix2 q l)) (Fin.ext ?_))
    show r.val / 8192 * 8192 + r.val % 8192 = r.val
    omega
  rw [e k, Finset.sum_congr rfl fun l _ => congrArg₂ (· * ·) (e l) (e l)]

/-- The array that both sides compute. -/
def result (x : Vec Ideal S16384x1024 .f32) (a b : Vec Ideal S2x1x1024 .f32) (w : Vec Ideal S1024x3584 .bf16) : Vec Ideal S16384x3584 .bf16 :=
  fun i => entry (fun l => x (ix2 (i 0) l)) (fun l => a (ix3 ⟨(i 0).val / 8192, by have : (i 0).val < 16384 := (i 0).isLt; omega⟩ 0 l))
    (fun l => b (ix3 ⟨(i 0).val / 8192, by have : (i 0).val < 16384 := (i 0).isLt; omega⟩ 0 l)) (fun k => w (ix2 k (i 1)))

/-- The plain form is that array. -/
theorem whole_eq (x : Vec Ideal S16384x1024 .f32) (a b : Vec Ideal S2x1x1024 .f32) (w : Vec Ideal S1024x3584 .bf16) :
    product (rows (batched x) a b) w = result x a b w := by
  funext i
  obtain ⟨r, j, rfl⟩ : ∃ (r : Fin 16384) (j : Fin 3584), i = ix2 r j :=
    ⟨i 0, i 1, funext fun q => match q with
      | ⟨0, _⟩ => rfl
      | ⟨1, _⟩ => rfl⟩
  exact whole x a b w r j

end Projection.StateReading

end
-- ==== Proof.Experts.Frame.lean ====
/-
  The launch of the program as compiled: its arguments end unchanged and it runs to the end, whatever the points write.
-/
module

public import proofs.«01_k».proof.Proof.Gen.Experts
public import proofs.«01_k».proof.Proof.Gen.Experts.Launch
public import proofs.«01_k».proof.Proof.Gen.Experts.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 65536

noncomputable section

namespace Experts.Compiled

open Cert.Experts Cert.Experts.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

/-- The kernel's resources. -/
abbrev Res (F : FTy → Type) [BitOps F] : Type := MT nD τ sig Unit (Elt F) ℕ (UR sig nD τ) ℕ

/-- The two tables as the body is handed them: the experts of the blocks, and how many blocks are used. -/
abbrev table0 : Memref sig .tc .smem S288 .i32 := Memref.whole main_arg0
abbrev table1 : Memref sig .tc .smem S1 .i32 := Memref.whole main_arg1

/-- A table's contents on a core, and the table held at half the full share. -/
abbrev TableBuf (c : Dev nD) {S : Shape} {e : EltTy} (M : Memref sig .tc .smem S e) : Type := Buf (Elt F) (M.view.loc (c : Thread nD τ))
abbrev tableHeld (c : Dev nD) {S : Shape} {e : EltTy} (M : Memref sig .tc .smem S e) (f : TableBuf (F := F) c M) : sProp (Res F) :=
  M.view.loc (c : Thread nD τ) ↦{fullShare.right} f

/-- The words a point reads: its own expert, the expert of the point before, and the number of blocks used. -/
abbrev expertAt (c : Dev nD) (xt : TableBuf (F := F) c table0) (i : grid0.Coords) : BitVec 32 :=
  table0.view.readAt (Elt F) (Rect.unit (s := S288) (k0_off1 i) S1.size (k0_off1_inb i)).toLoadRect xt (Shape.Idx.first (numel1_S1.symm ▸ Nat.one_pos))
abbrev expertBefore (c : Dev nD) (xt : TableBuf (F := F) c table0) (i : grid0.Coords) : BitVec 32 :=
  table0.view.readAt (Elt F) (Rect.unit (s := S288) (k0_off2 i) S1.size (k0_off2_inb i)).toLoadRect xt (Shape.Idx.first (numel1_S1.symm ▸ Nat.one_pos))
abbrev blocksUsed (c : Dev nD) (xt : TableBuf (F := F) c table1) : BitVec 32 :=
  table1.view.readAt (Elt F) (Rect.unit (s := S1) ![0] S1.size inb_S1_S1_0).toLoadRect xt (Shape.Idx.first (numel1_S1.symm ▸ Nat.one_pos))

/-- The condition under which a point stores its weights: it is the first, or its expert is not the one before's. -/
abbrev changed (i : grid0.Coords) (before own : BitVec 32) : Prop :=
  Scalar.cmpi .ne (Scalar.extui (Scalar.ori (Scalar.cmpi .eq (BitVec.ofNat 32 (i 0).val) 0#32) (Scalar.cmpi .ne own before))) 0#32 = 1#1

set_option maxHeartbeats 4000000 in
/-- The body of a point. -/
theorem run (c : Dev nD) (i : grid0.Coords) (arg3 : Memref sig .tc .vmem S512x512 .bf16) (harg3 : arg3.IsWhole)
    (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole)
    (arg8 : Memref sig .tc .vmem S512x512 .bf16) (harg8 : arg8.IsWhole) (arg9 : Memref sig .tc .vmem S1024x2048 .bf16) (harg9 : arg9.IsWhole)
    (arg10 : Memref sig .tc .vmem S1024x1024 .bf16) (harg10 : arg10.IsWhole)
    (x0 : Vec F S512x512 .bf16) (x1 : Vec F S1x1024x2048 .f32) (x2 : Vec F S1x1x2048 .f32) (x3 : Vec F S1x1024x1024 .f32) (x4 : Vec F S1x1x1024 .f32)
    (xt0 : TableBuf (F := F) c table0) (xt1 : TableBuf (F := F) c table1)
    (E : Set ℕ) (K : PUnit → sProp (Res F)) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (∃ d, owns (c : Thread nD τ) arg9 fullShare d) ∗ (∃ d, owns (c : Thread nD τ) arg10 fullShare d) ∗ tableHeld c table0 xt0 ∗ tableHeld c table1 xt1
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ (∃ d, owns (c : Thread nD τ) arg8 fullShare d)
            ∗ (∃ d, owns (c : Thread nD τ) arg9 fullShare d) ∗ (∃ d, owns (c : Thread nD τ) arg10 fullShare d)
            ∗ tableHeld c table0 xt0 ∗ tableHeld c table1 xt1) -∗ K ⟨⟩))
      ⊢ wp frame (wpE (defs₀ (F := F)) Variants.none c none) E (cc0_experts i table0 (Memref.isWhole_whole _) table1 (Memref.isWhole_whole _)
          arg3 harg3 arg4 harg4 arg5 harg5 arg6 harg6 arg7 harg7 arg8 harg8 arg9 harg9 arg10 harg10) K := by
  simp only [cc0_experts_eq_skeleton]; unfold cc0_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, Hk⟩
  obtain rfl := harg3.eq_unread hf0; obtain rfl := harg4.eq_unread hf1; obtain rfl := harg5.eq_unread hf2; obtain rfl := harg6.eq_unread hf3; obtain rfl := harg7.eq_unread hf4
  by_cases hc0 : changed i (expertBefore c xt0 i) (expertAt c xt0 i)
  all_goals by_cases hc1 : k0_cond2 i (blocksUsed c xt1) = 1#1
  all_goals by_cases hc2 : k0_cond3 i (blocksUsed c xt1) = 1#1
  all_goals
    sl_exec (disch := first | sl_exact hc0 | sl_exact hc1 | sl_exact hc2)
    sl_step
    iapply Hk
    isplitl [H0]
    · iexists _; isplitr
      · ipureintro; exact hf0
      · iexact H0
    isplitl [H1]
    · iexists _; isplitr
      · ipureintro; exact hf1
      · iexact H1
    isplitl [H2]
    · iexists _; isplitr
      · ipureintro; exact hf2
      · iexact H2
    isplitl [H3]
    · iexists _; isplitr
      · ipureintro; exact hf3
      · iexact H3
    isplitl [H4]
    · iexists _; isplitr
      · ipureintro; exact hf4
      · iexact H4
    isplitl [H5]
    · iexists _; iexists _; isplitr; swap
      · iexact H5
      · ipureintro; rfl
    isplitl [HS0]
    · iexists _; iexists _; isplitr; swap
      · iexact HS0
      · ipureintro; rfl
    isplitl [HS1]
    · iexists _; iexists _; isplitr; swap
      · iexact HS1
      · ipureintro; rfl
    isplitl [HT0]
    · iexact HT0
    · iexact HT1

variable (m : (ℓ : Loc nD τ sig) → Buf (Elt F) ℓ)

/-! ## Up to the launch -/

/-- What a core's buffers hold when the launch is entered: the two biases are reshaped before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the two reshapes, then the launch. -/
theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub hostOps0_fresh main_chain

/-- A buffer that neither reshape writes is found as it was. -/
theorem V_arg (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- The tables as the launch finds them, and their condition: every point's expert is in the arrays. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables held: the one, and the other. -/
theorem tables_eq (c : Dev nD) : (Pipeline.ΦT pre0 (tbl m) c : sProp (Res F)) = iprop(tableHeld c table0 (tbl m 0) ∗ tableHeld c table1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The two weight buffers, held at some contents beside the generator's register. -/
abbrev weights0 : Memref sig .tc .vmem S1024x2048 .bf16 := Memref.whole cc0_scratch0
abbrev weights1 : Memref sig .tc .vmem S1024x1024 .bf16 := Memref.whole cc0_scratch1
theorem scratch_eq (c : Dev nD) :
    (Pipeline.ΦA spec0 c : sProp (Res F))
      = iprop(iprop((∃ d, owns (c : Thread nD τ) weights0 fullShare d) ∗ (∃ d, owns (c : Thread nD τ) weights1 fullShare d)) ∗ (∃ r, prngReg c r)) := by
  unfold Pipeline.ΦA; rw [scopedRest0_eq]; simp only [owns_whole]; try rfl

/-! ## What the points read and leave -/

variable (hO : Ok m) (c : Dev nD)

/-- A window's block at a point. -/
def iblk (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The output's window: nothing is said of what the points leave in it. -/
def forgotten : Fin 6 → Bool := fun w => w.val == 5

/-- The launch, point by point. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => Pipeline.Dat.unnamed (cfg := cfgM m hO) ⟨5, h⟩ t
  Φ _ := iprop(Pipeline.ΦA spec0 c ∗ Pipeline.ΦT pre0 (tbl m) c)
  q _ := fullShare
  owed _ := 0

theorem A_eq (w : Fin (cfgM m hO).W) : (dats m hO 0 c).A w = V m c (Pipeline.arrRef spec0 w) := by
  dsimp only [dats]

/-- Each input block is found as fetched. -/
theorem before0 (t : Fin (cfgM m hO).N) (d) : (dats m hO 0 c).before 0 t d = iblk m hO c 0 t :=
  ((dats m hO 0 c).before_in_eq_fetched 0 rfl (fun _ => rfl) (fun _ _ _ => rfl) (fun _ => rfl) t d).trans rfl
theorem before1 (t : Fin (cfgM m hO).N) (d) : (dats m hO 0 c).before 1 t d = iblk m hO c 1 t :=
  ((dats m hO 0 c).before_in_eq_fetched 1 rfl (fun _ => rfl) (fun _ _ _ => rfl) (fun _ => rfl) t d).trans rfl
theorem before2 (t : Fin (cfgM m hO).N) (d) : (dats m hO 0 c).before 2 t d = iblk m hO c 2 t :=
  ((dats m hO 0 c).before_in_eq_fetched 2 rfl (fun _ => rfl) (fun _ _ _ => rfl) (fun _ => rfl) t d).trans rfl
theorem before3 (t : Fin (cfgM m hO).N) (d) : (dats m hO 0 c).before 3 t d = iblk m hO c 3 t :=
  ((dats m hO 0 c).before_in_eq_fetched 3 rfl (fun _ => rfl) (fun _ _ _ => rfl) (fun _ => rfl) t d).trans rfl
theorem before4 (t : Fin (cfgM m hO).N) (d) : (dats m hO 0 c).before 4 t d = iblk m hO c 4 t :=
  ((dats m hO 0 c).before_in_eq_fetched 4 rfl (fun _ => rfl) (fun _ _ _ => rfl) (fun _ => rfl) t d).trans rfl

/-! ## The body at a point, and the launch -/

/-- The body as a point calls it. -/
abbrev bodyAt (t : Fin (cfgM m hO).N) : Prog (TpuEff nD τ sig (Elt F) Λ₀ .tc) PUnit :=
  cc0_experts (grid0.coords t) table0 (Memref.isWhole_whole _) table1 (Memref.isWhole_whole _)
    (spec0_0.stage ((cfgM m hO).slots t 0)) (hstage0_0 (((cfgM m hO).slots t 0).cast nbuf0_0))
    (spec0_1.stage ((cfgM m hO).slots t 1)) (hstage0_1 (((cfgM m hO).slots t 1).cast nbuf0_1))
    (spec0_2.stage ((cfgM m hO).slots t 2)) (hstage0_2 (((cfgM m hO).slots t 2).cast nbuf0_2))
    (spec0_3.stage ((cfgM m hO).slots t 3)) (hstage0_3 (((cfgM m hO).slots t 3).cast nbuf0_3))
    (spec0_4.stage ((cfgM m hO).slots t 4)) (hstage0_4 (((cfgM m hO).slots t 4).cast nbuf0_4))
    (spec0_5.stage ((cfgM m hO).slots t 5)) (hstage0_5 (((cfgM m hO).slots t 5).cast nbuf0_5))
    weights0 (Memref.isWhole_whole _) weights1 (Memref.isWhole_whole _)
theorem defs₀_row (t : Fin (cfgM m hO).N) :
    defs₀ (F := F) .tc (cfgM m hO).body ((cfgM m hO).bodyArgs t ((cfgM m hO).slots t)) = bodyAt m hO t := by
  unfold defs₀; rw [Defs.onTc_tc]

/-- What the body of a point is handed, and what it hands back. -/
def bodyPre (t : Fin (cfgM m hO).N) : sProp (Res F) :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare d))
def bodyPost (t : Fin (cfgM m hO).N) : sProp (Res F) :=
  iprop((dats m hO 0 c).Φ t.succ ∗ (dats m hO 0 c).owesAt () t.castSucc
    ∗ owns (c : Thread nD τ) (spec0_0.stage ((cfgM m hO).slots t 0)) fullShare (iblk m hO c 0 t)
    ∗ owns (c : Thread nD τ) (spec0_1.stage ((cfgM m hO).slots t 1)) fullShare (iblk m hO c 1 t)
    ∗ owns (c : Thread nD τ) (spec0_2.stage ((cfgM m hO).slots t 2)) fullShare (iblk m hO c 2 t)
    ∗ owns (c : Thread nD τ) (spec0_3.stage ((cfgM m hO).slots t 3)) fullShare (iblk m hO c 3 t)
    ∗ owns (c : Thread nD τ) (spec0_4.stage ((cfgM m hO).slots t 4)) fullShare (iblk m hO c 4 t)
    ∗ (∃ d, owns (c : Thread nD τ) (spec0_5.stage ((cfgM m hO).slots t 5)) fullShare d))

set_option maxHeartbeats 3200000 in
/-- The body of a point, as the launch calls it. -/
theorem sound (t : Fin (cfgM m hO).N) :
    bodyPre m hO c t ⊢ wp frame (wpE (defs₀ (F := F)) Variants.none c none) Set.univ (bodyAt m hO t) (fun _ => bodyPost m hO c t) := by
  unfold bodyPre bodyPost
  simp only [before0, before1, before2, before3, before4]
  rw [show (dats m hO 0 c).Φ t.succ = (dats m hO 0 c).Φ t.castSucc from rfl,
    show (dats m hO 0 c).Φ t.castSucc = iprop(Pipeline.ΦA spec0 c ∗ Pipeline.ΦT pre0 (tbl m) c) from rfl, tables_eq, scratch_eq]
  iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
  iapply (run c (grid0.coords t) _ _ _ _ _ _ _ _ _ _ _ _ _ _ _ _ (iblk m hO c 0 t) (iblk m hO c 1 t) (iblk m hO c 2 t) (iblk m hO c 3 t) (iblk m hO c 4 t) (tbl m 0) (tbl m 1) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  isplitl [HT1]; · iexact HT1
  iintro ⟨H0, H1, H2, H3, H4, H5, HS0, HS1, HT0, HT1⟩
  isplitl [HS0 HS1 Hg HT0 HT1]
  · isplitl [HS0 HS1 Hg]
    · isplitl [HS0 HS1]
      · isplitl [HS0]; · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- So at every point, as the launch asks. -/
theorem body_obligation : BodyObligation (dats (F := F) m hO 0 c) (defs₀ (F := F)) Variants.none () Set.univ forgotten := fun t => by
  rw [bigSep_W0, bigSep_W0, defs₀_row m hO]
  exact triple_restated (sound m hO c t) rfl .rfl fun _ => .rfl

variable (ρ : Dev nD → PrngReg)

set_option maxHeartbeats 3200000 in
set_option backward.isDefEq.respectTransparency.types false in
/-- The program ends with every input array and every other buffer as found, and every counter at zero. -/
theorem launched : θ_run defs (onTc (τ := τ) (main (F := F))) (s₀ m ρ) (fun r => Pipeline.RDat.FramePost ((Pipeline.pin pcfgs fun _ => adm m hO) 0) (fun c => (dats m hO 0 c).toRForget forgotten) (V m) r ∧ r.2.sem = fun _ => 0) :=
  Pipeline.θ_run_frameP_forget (Q' := _) pcfgs (fun _ => adm m hO) (dats m hO) (0 : Fin 1) launch0 defs₀ Variants.none forgotten m ρ main
    (hbody := fun c => (body_obligation m hO c).loose) (hshare := fun c => (dats m hO 0 c).share_full fun _ => rfl)
    (howed := fun _ _ => rfl) (V := V m) (hmain := hmain m) (hA := fun c w => A_eq m hO c w) (hpf := V_pre m) (hΦ := fun _ _ => rfl)

/-- Its arguments end unchanged, and every counter at zero. -/
theorem framed (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨((h.1 c).2 main_arg0 (by decide : main_arg0 ∈ Pipeline.restRefs sig spec0)).trans (V_arg m c _ (by decide) (by decide)),
      ((h.1 c).2 main_arg1 (by decide : main_arg1 ∈ Pipeline.restRefs sig spec0)).trans (V_arg m c _ (by decide) (by decide)),
      (Pipeline.RDat.FramePost.arr_in h.1 c 0 rfl).trans ((A_eq m hO c 0).trans (V_arg m c main_arg2 (by decide) (by decide))),
      (Pipeline.RDat.FramePost.arr_in h.1 c 1 rfl).trans ((A_eq m hO c 1).trans (V_arg m c main_arg3 (by decide) (by decide))),
      ((h.1 c).2 main_arg4 (by decide : main_arg4 ∈ Pipeline.restRefs sig spec0)).trans (V_arg m c _ (by decide) (by decide)),
      (Pipeline.RDat.FramePost.arr_in h.1 c 3 rfl).trans ((A_eq m hO c 3).trans (V_arg m c main_arg5 (by decide) (by decide))),
      ((h.1 c).2 main_arg6 (by decide : main_arg6 ∈ Pipeline.restRefs sig spec0)).trans (V_arg m c _ (by decide) (by decide))⟩, h.2⟩) (launched m hO ρ)

/-- Tables whose experts are in range are admitted. -/
theorem ok_of
    (h : ∀ j : S288.Idx, ((m (((0 : Dev nD) : Thread nD τ).loc main_arg0) : IVec S288 32) j).toNat < 32) : Ok m := by
  have h' : ∀ j : S288.Idx, ((tbl m 0 : IVec S288 32) j).toNat < 32 := fun j => by
    have e : tbl m 0 = m (((0 : Dev nD) : Thread nD τ).loc main_arg0) := V_arg m 0 main_arg0 (by decide) (by decide)
    rw [e]
    exact h j
  refine ⟨fun i => ⟨fun a => ?_, Or.inl rfl⟩, fun i => ⟨fun a => ?_, Or.inl rfl⟩, fun i => ⟨fun a => ?_, Or.inl rfl⟩, fun i => ⟨fun a => ?_, Or.inl rfl⟩⟩
  all_goals
    match a with
    | ⟨0, _⟩ => exact (Nat.mul_one _).le.trans (h' _)
    | ⟨1, _⟩ => exact (Nat.one_mul _).le
    | ⟨2, _⟩ => exact (Nat.one_mul _).le

end Experts.Compiled

end
-- ==== Proof.Experts.Entry.lean ====
/-
  The mathematics of one entry of the experts' output over the extended reals, read by both sides: a row taken through an
  expert's two matrices with the gate between them; and rows of a table of matrices picked by their numbers.
-/
module

public import Idealize.ShloMosaic.Lib.Pointwise
public import Idealize.ShloMosaic.Lib.Routing.Ops

@[expose] public section

set_option maxRecDepth 65536

noncomputable section

namespace Experts

open Idealize.ShloMosaic

/-- A row's product with a matrix, a bias added. -/
def affine {n : ℕ} (z : Fin 1024 → EReal) (w : Fin 1024 → Fin n → EReal) (b : Fin n → EReal) (j : Fin n) : EReal :=
  (∑ k : Fin 1024, z k * w k j) + b j

/-- The gated activation: the first half of the row, at most seven, is the gate; the second half, between minus seven and
    seven, is scaled by it. -/
def gated (h : Fin 2048 → EReal) (k : Fin 1024) : EReal :=
  let g := min (h ⟨k.val, by omega⟩) (Ideal.ofBits .f32 0x40E00000#32)
  let u := min (Ideal.ofBits .f32 0x40E00000#32) (max (Ideal.ofBits .f32 0xC0E00000#32) (h ⟨1024 + k.val, by omega⟩))
  (u + 1) * g * Ideal.div 1 (1 + Ideal.exp (-(Ideal.ofBits .f32 0x3FD9DB23#32 * g)))

/-- A row taken through an expert. -/
def through (z : Fin 1024 → EReal) (w : Fin 1024 → Fin 2048 → EReal) (b : Fin 2048 → EReal) (v : Fin 1024 → Fin 1024 → EReal)
    (d : Fin 1024 → EReal) : Fin 1024 → EReal :=
  affine (gated (affine z w b)) v d

/-- Row `r` of block `t` is a row of the array. -/
theorem row_lt (t : Fin 288) (r : Fin 512) : t.val * 512 + r.val < 147456 := by omega

/-- Two packed rows side by side: the odd one, then the even one. -/
def sideBySide (x : Fin 2 → Fin 512 → EReal) (k : Fin 1024) : EReal :=
  if h : k.val < 512 then x 1 ⟨k.val, h⟩ else x 0 ⟨k.val - 512, by omega⟩

/-- Where an entry of a packed row is found in the row unpacked: an even row's in the second half, an odd row's in the first. -/
def column (p : ℕ) (j : Fin 512) : Fin 1024 := ⟨(1 - p % 2) * 512 + j.val, by have := Nat.sub_le 1 (p % 2); omega⟩

/-- An entry of the output: row `r` of block `t`, whose pair is taken through the block's expert `e`, or zero from block `n` on. -/
def entryAt (e : Fin 32) (n : BitVec 32) (x : Vec Ideal ⟨2, ![147456, 512]⟩ .bf16) (w : Vec Ideal ⟨3, ![32, 1024, 2048]⟩ .f32) (b : Vec Ideal ⟨2, ![32, 2048]⟩ .f32)
    (v : Vec Ideal ⟨3, ![32, 1024, 1024]⟩ .f32) (d : Vec Ideal ⟨2, ![32, 1024]⟩ .f32) (t : Fin 288) (r j : Fin 512) : EReal :=
  if IntOp.cmpi .slt (BitVec.ofNat 32 t.val) n = 1#1 then
    through (sideBySide fun p k => x (ix2 ⟨t.val * 512 + (2 * (r.val / 2) + p.val), by omega⟩ k))
      (fun k j => w (ix3 e k j)) (fun j => b (ix2 e j)) (fun k j => v (ix3 e k j)) (fun j => d (ix2 e j)) (column r.val j)
  else 0

/-! ## Matrices of a table picked by number -/

/-- The gather that picks, for every entry of a column of numbers, a matrix of a table. -/
abbrev matrixDims (N R C n : ℕ) (wf : GatherDims.WF ⟨3, ![N, R, C]⟩ ⟨2, ![n, 1]⟩ ⟨3, ![n, R, C]⟩ [1, 2] [0] [] [0] [] 1 ![1, R, C]) :
    GatherDims ⟨3, ![N, R, C]⟩ ⟨2, ![n, 1]⟩ ⟨3, ![n, R, C]⟩ where
  offsetDims := [1, 2]
  collapsedSliceDims := [0]
  operandBatchingDims := []
  startIndicesBatchingDims := []
  startIndexMap := [0]
  indexVectorDim := 1
  sliceSizes := ![1, R, C]
  wf := wf

/-- Where the column holds the number of a matrix, the entry picked is that matrix's. -/
theorem gather_matrix {α : Type} {N R C n : ℕ} (wf : GatherDims.WF ⟨3, ![N, R, C]⟩ ⟨2, ![n, 1]⟩ ⟨3, ![n, R, C]⟩ [1, 2] [0] [] [0] [] 1 ![1, R, C])
    (x : (⟨3, ![N, R, C]⟩ : Shape).Idx → α) (idx : IVec ⟨2, ![n, 1]⟩ 32) (p : Fin n) (r : Fin R) (k : Fin C) (e : Fin N)
    (he : idx (ix2 p 0) = BitVec.ofNat 32 e.val) (hN : N < 2 ^ 31) :
    Host.gather (matrixDims N R C n wf) x idx (ix3 p r k) = x (ix3 e r k) := by
  unfold Host.gather
  refine congrArg x (funext fun a => Fin.ext ?_)
  show (matrixDims N R C n wf).start (ix3 p r k) idx a + (matrixDims N R C n wf).batchCoord (ix3 p r k) a
    + (matrixDims N R C n wf).offCoord (ix3 p r k) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, _⟩ : Fin 3) ∈ (matrixDims N R C n wf).startIndexMap from List.mem_singleton.mpr rfl)]
    have hs : (matrixDims N R C n wf).siIdx (ix3 p r k) ⟨List.idxOf (0 : Fin 3) (matrixDims N R C n wf).startIndexMap,
        List.idxOf_lt_length_iff.2 (List.mem_singleton.mpr rfl)⟩ = ix2 p 0 := by
      funext b; refine Fin.ext ?_
      match b with
      | ⟨0, _⟩ => rfl
      | ⟨1, _⟩ => rfl
    have hlt := e.isLt
    refine (congrArg (fun i => min (idx i).toInt.toNat (N - 1)) hs).trans ?_
    rw [he, StableHlo.Predicate.toInt_ofNat_small _ (by omega)]
    show min ((e.val : Int)).toNat (N - 1) = e.val
    omega
  | ⟨1, _⟩ => exact Nat.zero_add _
  | ⟨2, _⟩ => exact Nat.zero_add _

end Experts

end
-- ==== Proof.Experts.Block.lean ====
/-
  One grid point of the experts' launch over the extended reals: whatever the two weight buffers held before, if they held
  the point's own weights wherever the point does not store them anew, the point leaves its weights in them and writes its
  rows taken through the expert, or zeros where the block is not used.
-/
module

public import proofs.«01_k».proof.Proof.Projection.Entry
public import proofs.«01_k».proof.Proof.Gen.ExpertsIdeal
public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 65536

noncomputable section

namespace Experts

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The kernel's resources. -/
abbrev Res (F : FTy → Type) [FloatOps F] : Type := MT nD τ sig Unit (Elt F) ℕ (UR sig nD τ) ℕ

/-- The two tables as the body is handed them: the experts of the blocks, and how many blocks are used. -/
abbrev table0 : Memref sig .tc .smem S288 .i32 := Memref.whole main_arg0
abbrev table1 : Memref sig .tc .smem S1 .i32 := Memref.whole main_arg1

/-- A table's contents on a core, and the table held at half the full share. -/
abbrev TableBuf (c : Dev nD) {S : Shape} {e : EltTy} (M : Memref sig .tc .smem S e) : Type := Buf (Elt F) (M.view.loc (c : Thread nD τ))
abbrev tableHeld (c : Dev nD) {S : Shape} {e : EltTy} (M : Memref sig .tc .smem S e) (f : TableBuf (F := F) c M) : sProp (Res F) :=
  M.view.loc (c : Thread nD τ) ↦{fullShare.right} f

/-- The words a point reads: its own expert, the expert of the point before, and the number of blocks used. -/
abbrev expertAt (c : Dev nD) (xt : TableBuf (F := F) c table0) (i : grid0.Coords) : BitVec 32 :=
  table0.view.readAt (Elt F) (Rect.unit (s := S288) (k0_off1 i) S1.size (k0_off1_inb i)).toLoadRect xt (Shape.Idx.first (numel1_S1.symm ▸ Nat.one_pos))
abbrev expertBefore (c : Dev nD) (xt : TableBuf (F := F) c table0) (i : grid0.Coords) : BitVec 32 :=
  table0.view.readAt (Elt F) (Rect.unit (s := S288) (k0_off2 i) S1.size (k0_off2_inb i)).toLoadRect xt (Shape.Idx.first (numel1_S1.symm ▸ Nat.one_pos))
abbrev blocksUsed (c : Dev nD) (xt : TableBuf (F := F) c table1) : BitVec 32 :=
  table1.view.readAt (Elt F) (Rect.unit (s := S1) ![0] S1.size inb_S1_S1_0).toLoadRect xt (Shape.Idx.first (numel1_S1.symm ▸ Nat.one_pos))

/-- The condition under which a point stores its weights: it is the first, or its expert is not the one before's. -/
abbrev changed (i : grid0.Coords) (before own : BitVec 32) : Prop :=
  Scalar.cmpi .ne (Scalar.extui (Scalar.ori (Scalar.cmpi .eq (BitVec.ofNat 32 (i 0).val) 0#32) (Scalar.cmpi .ne own before))) 0#32 = 1#1

/-- A block is used or it is not: of the two conditions on the number of blocks one holds. -/
theorem used_or_not (i : grid0.Coords) (n : BitVec 32) : k0_cond2 i n = 1#1 ∧ ¬ k0_cond3 i n = 1#1 ∨ ¬ k0_cond2 i n = 1#1 ∧ k0_cond3 i n = 1#1 := by
  unfold k0_cond2 k0_cond3
  by_cases h : (BitVec.ofNat 32 (i 0).val).slt n = true
  · left
    simp [Scalar.cmpi, Scalar.extui, IntOp.cmpi, h, BitVec.sle_eq_not_slt]
  · right
    simp [Scalar.cmpi, Scalar.extui, IntOp.cmpi, h, BitVec.sle_eq_not_slt]

/-- A block stored whole is read back as stored. -/
theorem read_stored {r k : ℕ} {e : EltTy} (M : Memref sig .tc .vmem ⟨2, ![r, k]⟩ e) (f : M.view.ty.Contents (Elt F))
    (inb : ∀ a, (![0, 0] : Fin 2 → ℕ) a + (⟨2, ![r, k]⟩ : Shape).size a ≤ (⟨2, ![r, k]⟩ : Shape).size a) (Z : Vec F ⟨2, ![r, k]⟩ e) :
    M.view.read (Elt F) (M.view.writes (Elt F) f [⟨Rect.unit (s := ⟨2, ![r, k]⟩) ![0, 0] (⟨2, ![r, k]⟩ : Shape).size inb, Z⟩]) = Z := by
  refine (View.read_writes_eq_canon _ _ _ fun y => ⟨_, List.mem_singleton.mpr rfl, ?_⟩).trans (Projection.canon_whole inb Z)
  show y ∈ (Rect.unit (s := ⟨2, ![r, k]⟩) ![0, 0] (⟨2, ![r, k]⟩ : Shape).size inb).set
  rw [Rect.mem_set_unit]
  intro a
  match a with
  | ⟨0, _⟩ => exact ⟨Nat.zero_le _, lt_of_lt_of_eq (y 0).isLt (Nat.zero_add _).symm⟩
  | ⟨1, _⟩ => exact ⟨Nat.zero_le _, lt_of_lt_of_eq (y 1).isLt (Nat.zero_add _).symm⟩

/-- A load of a whole block: what the block holds; and after a store of the whole block, what was stored. -/
theorem load2 {r k : ℕ} {e : EltTy} {M : Memref sig .tc .vmem ⟨2, ![r, k]⟩ e} (hM : M.IsWhole) (x : Vec F ⟨2, ![r, k]⟩ e)
    (inb : ∀ a, (![0, 0] : Fin 2 → ℕ) a + (![r, k] : Fin 2 → ℕ) a ≤ (⟨2, ![r, k]⟩ : Shape).size a) :
    M.view.readAt (Elt F) (Rect.unit (s := ⟨2, ![r, k]⟩) ![0, 0] ![r, k] inb).toLoadRect (hM.unread x) = x :=
  (congrArg (fun z => View.ld z (Rect.unit (s := ⟨2, ![r, k]⟩) ![0, 0] ![r, k] inb)) (hM.read_unread x)).trans (Projection.load_whole2 x inb)
theorem load3 {b r k : ℕ} {e : EltTy} {M : Memref sig .tc .vmem ⟨3, ![b, r, k]⟩ e} (hM : M.IsWhole) (x : Vec F ⟨3, ![b, r, k]⟩ e)
    (inb : ∀ a, (![0, 0, 0] : Fin 3 → ℕ) a + (![b, r, k] : Fin 3 → ℕ) a ≤ (⟨3, ![b, r, k]⟩ : Shape).size a) :
    M.view.readAt (Elt F) (Rect.unit (s := ⟨3, ![b, r, k]⟩) ![0, 0, 0] ![b, r, k] inb).toLoadRect (hM.unread x) = x :=
  (congrArg (fun z => View.ld z (Rect.unit (s := ⟨3, ![b, r, k]⟩) ![0, 0, 0] ![b, r, k] inb)) (hM.read_unread x)).trans (Projection.load_whole3 x inb)
theorem load_stored {r k : ℕ} {e : EltTy} (M : Memref sig .tc .vmem ⟨2, ![r, k]⟩ e)
    (inb : ∀ a, (![0, 0] : Fin 2 → ℕ) a + (⟨2, ![r, k]⟩ : Shape).size a ≤ (⟨2, ![r, k]⟩ : Shape).size a) (Z : Vec F ⟨2, ![r, k]⟩ e) :
    M.view.readCov [⟨Rect.unit (s := ⟨2, ![r, k]⟩) ![0, 0] (⟨2, ![r, k]⟩ : Shape).size inb, Z⟩]
      (Rect.unit (s := ⟨2, ![r, k]⟩) ![0, 0] (⟨2, ![r, k]⟩ : Shape).size inb).toLoadRect = Z :=
  (congrArg (fun z => View.ld z (Rect.unit (s := ⟨2, ![r, k]⟩) ![0, 0] ![r, k] inb)) (read_stored M M.view.junk inb Z)).trans (Projection.load_whole2 Z inb)

/-- The products' block at equal loads. -/
theorem products_eq {x x' : Vec F S512x512 .bf16} {w w' : Vec F S1024x2048 .bf16} {b b' : Vec F S1x1x2048 .f32} {v v' : Vec F S1024x1024 .bf16}
    (hx : x = x') (hw : w = w') (hb : b = b') (hv : v = v') : k0_pay5 x w b v = k0_pay5 x' w' b' v' := by
  subst hx hw hb hv; rfl

/-- What a point writes. -/
def written (i : grid0.Coords) (n : BitVec 32) (x0 : Vec F S512x512 .bf16) (x1 : Vec F S1x1024x2048 .f32) (x2 : Vec F S1x1x2048 .f32)
    (x3 : Vec F S1x1024x1024 .f32) (x4 : Vec F S1x1x1024 .f32) : Vec F S512x512 .bf16 :=
  if k0_cond2 i n = 1#1 then k0_pay3 (k0_pay5 x0 (k0_pay1 x1) x2 (k0_pay2 x3)) x4 else k0_pay4

set_option maxHeartbeats 4000000 in
/-- The body of a point. -/
theorem run (c : Dev nD) (i : grid0.Coords) (arg3 : Memref sig .tc .vmem S512x512 .bf16) (harg3 : arg3.IsWhole)
    (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole)
    (arg8 : Memref sig .tc .vmem S512x512 .bf16) (harg8 : arg8.IsWhole) (arg9 : Memref sig .tc .vmem S1024x2048 .bf16) (harg9 : arg9.IsWhole)
    (arg10 : Memref sig .tc .vmem S1024x1024 .bf16) (harg10 : arg10.IsWhole)
    (x0 : Vec F S512x512 .bf16) (x1 : Vec F S1x1024x2048 .f32) (x2 : Vec F S1x1x2048 .f32) (x3 : Vec F S1x1024x1024 .f32) (x4 : Vec F S1x1x1024 .f32)
    (y0 : Vec F S1024x2048 .bf16) (y1 : Vec F S1024x1024 .bf16) (xt0 : TableBuf (F := F) c table0) (xt1 : TableBuf (F := F) c table1)
    (keeps : ¬ changed i (expertBefore c xt0 i) (expertAt c xt0 i) → y0 = k0_pay1 x1 ∧ y1 = k0_pay2 x3) (E : Set ℕ) (K : PUnit → sProp (Res F)) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ owns (c : Thread nD τ) arg9 fullShare y0 ∗ owns (c : Thread nD τ) arg10 fullShare y1 ∗ tableHeld c table0 xt0 ∗ tableHeld c table1 xt1
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (written i (blocksUsed c xt1) x0 x1 x2 x3 x4)
            ∗ owns (c : Thread nD τ) arg9 fullShare (k0_pay1 x1) ∗ owns (c : Thread nD τ) arg10 fullShare (k0_pay2 x3)
            ∗ tableHeld c table0 xt0 ∗ tableHeld c table1 xt1) -∗ K ⟨⟩))
      ⊢ wp frame (wpE (defs₀ (F := F)) Variants.none c none) E (cc0_experts i table0 (Memref.isWhole_whole _) table1 (Memref.isWhole_whole _)
          arg3 harg3 arg4 harg4 arg5 harg5 arg6 harg6 arg7 harg7 arg8 harg8 arg9 harg9 arg10 harg10) K := by
  simp only [cc0_experts_eq_skeleton]; unfold cc0_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4
  obtain rfl := harg9.eq_unread hs0; obtain rfl := harg10.eq_unread hs1
  by_cases hc0 : changed i (expertBefore c xt0 i) (expertAt c xt0 i)
  all_goals rcases used_or_not i (blocksUsed c xt1) with ⟨hc1, hc2⟩ | ⟨hc1, hc2⟩
  all_goals
    sl_exec (disch := first | sl_exact hc0 | sl_exact hc1 | sl_exact hc2)
    sl_step
    iapply Hk
    isplitl [H0]
    · iexists _; isplitr
      · ipureintro; exact hf0
      · iexact H0
    isplitl [H1]
    · iexists _; isplitr
      · ipureintro; exact hf1
      · iexact H1
    isplitl [H2]
    · iexists _; isplitr
      · ipureintro; exact hf2
      · iexact H2
    isplitl [H3]
    · iexists _; isplitr
      · ipureintro; exact hf3
      · iexact H3
    isplitl [H4]
    · iexists _; isplitr
      · ipureintro; exact hf4
      · iexact H4
    isplitl [H5]
    · iexists _; isplitr; swap
      · iexact H5
      · ipureintro
        refine (read_stored arg8 _ _ _).trans ?_
        unfold written
        first
          | rw [if_neg hc1]
          | rw [if_pos hc1]
            refine congr (congrArg k0_pay3 (products_eq (load2 harg3 _ _) ?_ (load3 harg5 _ _) ?_)) (load3 harg7 _ _)
            · first
                | exact (load_stored arg9 _ _).trans (congrArg k0_pay1 (load3 harg4 _ _))
                | exact (load2 harg9 _ _).trans (keeps hc0).1
            · first
                | exact (load_stored arg10 _ _).trans (congrArg k0_pay2 (load3 harg6 _ _))
                | exact (load2 harg10 _ _).trans (keeps hc0).2
    isplitl [HS0]
    · iexists _; isplitr; swap
      · iexact HS0
      · ipureintro
        first
          | exact (read_stored arg9 _ _ _).trans (congrArg k0_pay1 (load3 harg4 _ _))
          | exact hs0.trans (keeps hc0).1
    isplitl [HS1]
    · iexists _; isplitr; swap
      · iexact HS1
      · ipureintro
        first
          | exact (read_stored arg10 _ _ _).trans (congrArg k0_pay2 (load3 harg6 _ _))
          | exact hs1.trans (keeps hc0).2
    isplitl [HT0]
    · iexact HT0
    · iexact HT1

end Experts

end
-- ==== Proof.Experts.Launch.lean ====
/-
  The launch over the blocks: each point finds in its two weight buffers the weights of the expert of the point before,
  leaves its own expert's, and writes its block; the blocks make up the output array.
-/
module

public import proofs.«01_k».proof.Proof.Experts.Block

@[expose] public section

set_option maxRecDepth 65536

noncomputable section

namespace Experts

open Cert.ExpertsIdeal Cert.ExpertsIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ)

/-! ## Up to the launch -/

/-- What a core's buffers hold when the launch is entered: the two biases are reshaped before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the two reshapes, then the launch. -/
theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub hostOps0_fresh main_chain

/-- A buffer that neither reshape writes is found as it was. -/
theorem V_arg (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- The tables as the launch finds them, and their condition: every point's expert is in the arrays. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables held: the one, and the other. -/
theorem tables_eq (c : Dev nD) : (Pipeline.ΦT pre0 (tbl m) c : sProp (Res F)) = iprop(tableHeld c table0 (tbl m 0) ∗ tableHeld c table1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The two weight buffers, held at some contents beside the generator's register. -/
abbrev weights0 : Memref sig .tc .vmem S1024x2048 .bf16 := Memref.whole cc0_scratch0
abbrev weights1 : Memref sig .tc .vmem S1024x1024 .bf16 := Memref.whole cc0_scratch1
theorem scratch_eq (c : Dev nD) :
    (Pipeline.ΦA spec0 c : sProp (Res F))
      = iprop(iprop((∃ d, owns (c : Thread nD τ) weights0 fullShare d) ∗ (∃ d, owns (c : Thread nD τ) weights1 fullShare d)) ∗ (∃ r, prngReg c r)) := by
  unfold Pipeline.ΦA; rw [scopedRest0_eq]; simp only [owns_whole]; try rfl

/-! ## What the points read and leave -/

variable (hO : Ok m) (c : Dev nD)

/-- A window's block at a point. -/
def iblk (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- What a point leaves in its output block. -/
def left (t : Fin (cfgM m hO).N) : Vec F S512x512 .bf16 :=
  written (grid0.coords t) (blocksUsed c (tbl m 1)) (iblk m hO c 0 t) (iblk m hO c 1 t) (iblk m hO c 2 t) (iblk m hO c 3 t) (iblk m hO c 4 t)

/-- Before point `n` the weight buffers hold the weights of the point before. -/
def kept (n : ℕ) (d0 : Vec F S1024x2048 .bf16) (d1 : Vec F S1024x1024 .bf16) : Prop :=
  ∀ t : Fin (cfgM m hO).N, t.val + 1 = n → d0 = k0_pay1 (iblk m hO c 1 t) ∧ d1 = k0_pay2 (iblk m hO c 3 t)

/-- The launch, point by point. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => left m hO c t
  Φ n := iprop(((∃ d0, ∃ d1, ⌜kept m hO c n.val d0 d1⌝ ∗ owns (c : Thread nD τ) weights0 fullShare d0 ∗ owns (c : Thread nD τ) weights1 fullShare d1)
    ∗ (∃ r, prngReg c r)) ∗ Pipeline.ΦT pre0 (tbl m) c)
  q _ := fullShare
  owed _ := 0

theorem A_eq (w : Fin (cfgM m hO).W) : (dats m hO 0 c).A w = V m c (Pipeline.arrRef spec0 w) := by
  dsimp only [dats]

/-- Each input block is found as fetched. -/
theorem before0 (t : Fin (cfgM m hO).N) (d) : (dats m hO 0 c).before 0 t d = iblk m hO c 0 t :=
  ((dats m hO 0 c).before_in_eq_fetched 0 rfl (fun _ => rfl) (fun _ _ _ => rfl) (fun _ => rfl) t d).trans rfl
theorem before1 (t : Fin (cfgM m hO).N) (d) : (dats m hO 0 c).before 1 t d = iblk m hO c 1 t :=
  ((dats m hO 0 c).before_in_eq_fetched 1 rfl (fun _ => rfl) (fun _ _ _ => rfl) (fun _ => rfl) t d).trans rfl
theorem before2 (t : Fin (cfgM m hO).N) (d) : (dats m hO 0 c).before 2 t d = iblk m hO c 2 t :=
  ((dats m hO 0 c).before_in_eq_fetched 2 rfl (fun _ => rfl) (fun _ _ _ => rfl) (fun _ => rfl) t d).trans rfl
theorem before3 (t : Fin (cfgM m hO).N) (d) : (dats m hO 0 c).before 3 t d = iblk m hO c 3 t :=
  ((dats m hO 0 c).before_in_eq_fetched 3 rfl (fun _ => rfl) (fun _ _ _ => rfl) (fun _ => rfl) t d).trans rfl
theorem before4 (t : Fin (cfgM m hO).N) (d) : (dats m hO 0 c).before 4 t d = iblk m hO c 4 t :=
  ((dats m hO 0 c).before_in_eq_fetched 4 rfl (fun _ => rfl) (fun _ _ _ => rfl) (fun _ => rfl) t d).trans rfl

/-! ## The points' experts -/

/-- A point's coordinate, and where in the table it reads its own expert and the one before's. -/
theorem coord_eq : ∀ t : Fin grid0.N, (grid0.coords t 0).val = t.val := by decide +kernel
theorem off1_eq : ∀ t : Fin grid0.N, k0_off1 (grid0.coords t) 0 = t.val := by decide +kernel
theorem off2_eq : ∀ t : Fin grid0.N, k0_off2 (grid0.coords t) 0 = t.val - 1 := by decide +kernel

/-- The table's word of a point. -/
def word (t : Fin 288) : BitVec 32 := (tbl m 0 : IVec S288 32) (ix1 t)
theorem expertAt_eq (t : Fin grid0.N) (t' : Fin 288) (h : t'.val = t.val) : expertAt c (tbl m 0) (grid0.coords t) = word m t' := by
  refine congrArg (tbl m 0 : IVec S288 32) (funext fun a => Fin.ext ?_)
  match a with
  | ⟨0, _⟩ => show k0_off1 (grid0.coords t) 0 + 1 * 0 = t'.val; rw [off1_eq, h]; rfl
theorem expertBefore_eq (t : Fin grid0.N) (t' : Fin 288) (h : t'.val = t.val - 1) : expertBefore c (tbl m 0) (grid0.coords t) = word m t' := by
  refine congrArg (tbl m 0 : IVec S288 32) (funext fun a => Fin.ext ?_)
  match a with
  | ⟨0, _⟩ => show k0_off2 (grid0.coords t) 0 + 1 * 0 = t'.val; rw [off2_eq, h]; rfl

/-- The experts are in range. -/
theorem word_lt (hO : Ok m) (t : Fin 288) : (word m t).toNat < 32 := by
  obtain ⟨h, -⟩ := hO.1 (grid0.coords (t.cast N_0.symm))
  have e := expertAt_eq m 0 (t.cast N_0.symm) t rfl
  have h0 : ((expertAt 0 (tbl m 0) (grid0.coords (t.cast N_0.symm))).toNat + 1) * 1 ≤ 32 := h 0
  rw [e] at h0
  omega

/-- The expert of a point. -/
def expertOf (t : Fin (cfgM m hO).N) : Fin 32 := ⟨(word m (t.cast N_0)).toNat, word_lt m hO _⟩
theorem index_eq (t : Fin (cfgM m hO).N) (w : BitVec 32) (h : w = expertAt 0 (tbl m 0) (grid0.coords t)) : w.toNat = (expertOf m hO t).val := by
  show w.toNat = (word m (t.cast N_0)).toNat
  rw [h, expertAt_eq m 0 t (t.cast N_0) rfl]

/-- The weights of a point are its expert's. -/
theorem block1 (t : Fin (cfgM m hO).N) (r : Fin 1024) (k : Fin 2048) : (iblk m hO c 1 t : Vec F S1x1024x2048 .f32) (ix3 0 r k)
    = m ((c : Thread nD τ).loc main_arg3) (ix3 (expertOf m hO t) r k) := by
  unfold iblk
  show V m c main_arg3 _ = _
  rw [V_arg m c main_arg3 (by decide) (by decide)]
  congr 1
  funext a
  apply Fin.ext
  match a with
  | ⟨0, _⟩ => show cc0_transform_1 k0_off1_inb numel1_S1 (tbl m) (grid0.coords t) 0 * 1 + 1 * 0 = _; exact (Nat.mul_one _).trans (index_eq m hO t _ rfl)
  | ⟨1, _⟩ => show 0 * 1024 + 1 * r.val = r.val; omega
  | ⟨2, _⟩ => show 0 * 2048 + 1 * k.val = k.val; omega
theorem block3 (t : Fin (cfgM m hO).N) (r : Fin 1024) (k : Fin 1024) : (iblk m hO c 3 t : Vec F S1x1024x1024 .f32) (ix3 0 r k)
    = m ((c : Thread nD τ).loc main_arg5) (ix3 (expertOf m hO t) r k) := by
  unfold iblk
  show V m c main_arg5 _ = _
  rw [V_arg m c main_arg5 (by decide) (by decide)]
  congr 1
  funext a
  apply Fin.ext
  match a with
  | ⟨0, _⟩ => show cc0_transform_3 k0_off1_inb numel1_S1 (tbl m) (grid0.coords t) 0 * 1 + 1 * 0 = _; exact (Nat.mul_one _).trans (index_eq m hO t _ rfl)
  | ⟨1, _⟩ => show 0 * 1024 + 1 * r.val = r.val; omega
  | ⟨2, _⟩ => show 0 * 1024 + 1 * k.val = k.val; omega

/-- Points of one expert read the same weights. -/
theorem weights_eq (t s : Fin (cfgM m hO).N) (h : expertOf m hO t = expertOf m hO s) :
    iblk m hO c 1 t = iblk m hO c 1 s ∧ iblk m hO c 3 t = iblk m hO c 3 s := by
  have ix (a b : ℕ) (j : (⟨3, ![1, a, b]⟩ : Shape).Idx) : j = ix3 0 (j 1) (j 2) := by
    funext x
    match x with
    | ⟨0, _⟩ => exact Fin.ext (Nat.lt_one_iff.1 (j 0).isLt)
    | ⟨1, _⟩ => rfl
    | ⟨2, _⟩ => rfl
  constructor
  · show (iblk m hO c 1 t : Vec F S1x1024x2048 .f32) = (iblk m hO c 1 s : Vec F S1x1024x2048 .f32)
    funext j
    rw [ix 1024 2048 j]
    exact (block1 m hO c t _ _).trans ((congrArg (fun e => m ((c : Thread nD τ).loc main_arg3) (ix3 e _ _)) h).trans (block1 m hO c s _ _).symm)
  · show (iblk m hO c 3 t : Vec F S1x1024x1024 .f32) = (iblk m hO c 3 s : Vec F S1x1024x1024 .f32)
    funext j
    rw [ix 1024 1024 j]
    exact (block3 m hO c t _ _).trans ((congrArg (fun e => m ((c : Thread nD τ).loc main_arg5) (ix3 e _ _)) h).trans (block3 m hO c s _ _).symm)

/-- A point that stores no weights is not the first, and its expert is the one before's. -/
theorem unchanged_words (i : grid0.Coords) (u v : BitVec 32) (h : ¬ changed i u v) : (i 0).val ≠ 0 ∧ v = u := by
  unfold changed at h
  constructor
  · intro hi
    apply h
    simp only [Scalar.cmpi, Scalar.extui, Scalar.ori, IntOp.cmpi, IntOp.ori, hi]
    cases v != u <;> decide
  · by_contra hv
    apply h
    simp only [Scalar.cmpi, Scalar.extui, Scalar.ori, IntOp.cmpi, IntOp.ori, bne_iff_ne.2 hv]
    cases BitVec.ofNat 32 (i 0).val == 0#32 <;> decide

/-- So it finds its own weights kept. -/
theorem keeps (t : Fin (cfgM m hO).N) (d0 : Vec F S1024x2048 .bf16) (d1 : Vec F S1024x1024 .bf16) (hk : kept m hO c t.val d0 d1)
    (h : ¬ changed (grid0.coords t) (expertBefore c (tbl m 0) (grid0.coords t)) (expertAt c (tbl m 0) (grid0.coords t))) :
    d0 = k0_pay1 (iblk m hO c 1 t) ∧ d1 = k0_pay2 (iblk m hO c 3 t) := by
  obtain ⟨hi, hw⟩ := unchanged_words _ _ _ h
  have h0 : t.val ≠ 0 := fun e => hi ((coord_eq t).trans e)
  have hlt : t.val < 288 := lt_of_lt_of_eq t.isLt N_0
  let s : Fin (cfgM m hO).N := ⟨t.val - 1, lt_of_le_of_lt (Nat.sub_le _ _) t.isLt⟩
  have he : expertOf m hO t = expertOf m hO s := by
    apply Fin.ext
    show (word m _).toNat = (word m _).toNat
    rw [← expertAt_eq m c t (t.cast N_0) rfl, hw, expertBefore_eq m c t (s.cast N_0) rfl]
  obtain ⟨e1, e3⟩ := weights_eq m hO c t s he
  rw [e1, e3]
  exact hk s (Nat.sub_add_cancel (Nat.one_le_iff_ne_zero.2 h0))

/-! ## The body at a point, and the launch -/

/-- The body as a point calls it. -/
abbrev bodyAt (t : Fin (cfgM m hO).N) : Prog (TpuEff nD τ sig (Elt F) Λ₀ .tc) PUnit :=
  cc0_experts (grid0.coords t) table0 (Memref.isWhole_whole _) table1 (Memref.isWhole_whole _)
    (spec0_0.stage ((cfgM m hO).slots t 0)) (hstage0_0 (((cfgM m hO).slots t 0).cast nbuf0_0))
    (spec0_1.stage ((cfgM m hO).slots t 1)) (hstage0_1 (((cfgM m hO).slots t 1).cast nbuf0_1))
    (spec0_2.stage ((cfgM m hO).slots t 2)) (hstage0_2 (((cfgM m hO).slots t 2).cast nbuf0_2))
    (spec0_3.stage ((cfgM m hO).slots t 3)) (hstage0_3 (((cfgM m hO).slots t 3).cast nbuf0_3))
    (spec0_4.stage ((cfgM m hO).slots t 4)) (hstage0_4 (((cfgM m hO).slots t 4).cast nbuf0_4))
    (spec0_5.stage ((cfgM m hO).slots t 5)) (hstage0_5 (((cfgM m hO).slots t 5).cast nbuf0_5))
    weights0 (Memref.isWhole_whole _) weights1 (Memref.isWhole_whole _)
theorem defs₀_row (t : Fin (cfgM m hO).N) :
    defs₀ (F := F) .tc (cfgM m hO).body ((cfgM m hO).bodyArgs t ((cfgM m hO).slots t)) = bodyAt m hO t := by
  unfold defs₀; rw [Defs.onTc_tc]

/-- Every point writes its block back. -/
theorem flush5 : ∀ t : Fin (cfgM m hO).N, ((cfgM m hO).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- What the body of a point is handed, and what it hands back. -/
def bodyPre (t : Fin (cfgM m hO).N) : sProp (Res F) :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare ((dats m hO 0 c).before 5 t d)))
def bodyPost (t : Fin (cfgM m hO).N) : sProp (Res F) :=
  iprop((dats m hO 0 c).Φ t.succ ∗ (dats m hO 0 c).owesAt () t.castSucc
    ∗ owns (c : Thread nD τ) (spec0_0.stage ((cfgM m hO).slots t 0)) fullShare (iblk m hO c 0 t)
    ∗ owns (c : Thread nD τ) (spec0_1.stage ((cfgM m hO).slots t 1)) fullShare (iblk m hO c 1 t)
    ∗ owns (c : Thread nD τ) (spec0_2.stage ((cfgM m hO).slots t 2)) fullShare (iblk m hO c 2 t)
    ∗ owns (c : Thread nD τ) (spec0_3.stage ((cfgM m hO).slots t 3)) fullShare (iblk m hO c 3 t)
    ∗ owns (c : Thread nD τ) (spec0_4.stage ((cfgM m hO).slots t 4)) fullShare (iblk m hO c 4 t)
    ∗ owns (c : Thread nD τ) (spec0_5.stage ((cfgM m hO).slots t 5)) fullShare (left m hO c t))

set_option maxHeartbeats 3200000 in
/-- The body of a point, as the launch calls it. -/
theorem sound (t : Fin (cfgM m hO).N) :
    bodyPre m hO c t ⊢ wp frame (wpE (defs₀ (F := F)) Variants.none c none) Set.univ (bodyAt m hO t) (fun _ => bodyPost m hO c t) := by
  unfold bodyPre bodyPost
  simp only [before0, before1, before2, before3, before4]
  rw [show (dats m hO 0 c).Φ t.castSucc = iprop(((∃ d0, ∃ d1, ⌜kept m hO c t.val d0 d1⌝ ∗ owns (c : Thread nD τ) weights0 fullShare d0 ∗ owns (c : Thread nD τ) weights1 fullShare d1)
      ∗ (∃ r, prngReg c r)) ∗ Pipeline.ΦT pre0 (tbl m) c) from rfl,
    show (dats m hO 0 c).Φ t.succ = iprop(((∃ d0, ∃ d1, ⌜kept m hO c (t.val + 1) d0 d1⌝ ∗ owns (c : Thread nD τ) weights0 fullShare d0 ∗ owns (c : Thread nD τ) weights1 fullShare d1)
      ∗ (∃ r, prngReg c r)) ∗ Pipeline.ΦT pre0 (tbl m) c) from rfl, tables_eq]
  iintro ⟨⟨⟨⟨%y0, %y1, %hk, HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
  iapply (run c (grid0.coords t) _ _ _ _ _ _ _ _ _ _ _ _ _ _ _ _ (iblk m hO c 0 t) (iblk m hO c 1 t) (iblk m hO c 2 t) (iblk m hO c 3 t) (iblk m hO c 4 t)
    y0 y1 (tbl m 0) (tbl m 1) (keeps m hO c t y0 y1 hk) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  isplitl [HT1]; · iexact HT1
  iintro ⟨H0, H1, H2, H3, H4, H5, HS0, HS1, HT0, HT1⟩
  isplitl [HS0 HS1 Hg HT0 HT1]
  · isplitl [HS0 HS1 Hg]
    · isplitl [HS0 HS1]
      · iexists _; iexists _
        isplitr
        · ipureintro
          intro s hs
          obtain rfl : s = t := Fin.ext (Nat.succ.inj hs)
          exact ⟨rfl, rfl⟩
        isplitl [HS0]; · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

set_option maxHeartbeats 3200000 in
/-- So at every point, as the launch asks. -/
theorem body_obligation : BodyObligation (dats (F := F) m hO 0 c) (defs₀ (F := F)) Variants.none () Set.univ := fun t => by
  rw [bigSep_W0, bigSep_W0, defs₀_row m hO]
  refine triple_restated (sound m hO c t) rfl .rfl fun _ => ?_
  unfold bodyPost
  iintro ⟨HΦ, Ho, H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  have h5 := flush5 m hO t
  dsimp only
  split
  · split
    · rename_i hf
      exact absurd (h5.symm.trans hf) (by decide)
    · iexact H5
  · iexact H5

variable (ρ : Dev nD → PrngReg)

set_option maxHeartbeats 3200000 in
set_option backward.isDefEq.respectTransparency.types false in
/-- The program ends with every window's array as the points leave it, every other buffer as found, and every counter at zero. -/
theorem launched : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m) (hA := fun c w => A_eq m hO c w) (hpf := V_pre m)
    (hin := fun c => by
      show iprop(Pipeline.ΦA spec0 c ∗ Pipeline.ΦT pre0 (tbl m) c) ⊢ iprop(((∃ d0, ∃ d1, ⌜kept m hO c 0 d0 d1⌝ ∗ owns (c : Thread nD τ) weights0 fullShare d0 ∗ owns (c : Thread nD τ) weights1 fullShare d1)
        ∗ (∃ r, prngReg c r)) ∗ Pipeline.ΦT pre0 (tbl m) c)
      rw [scratch_eq]
      iintro ⟨⟨⟨⟨%d0, H0⟩, ⟨%d1, H1⟩⟩, Hg⟩, HT⟩
      isplitr [HT]
      · isplitr [Hg]
        · iexists d0; iexists d1
          isplitr
          · ipureintro
            exact fun s hs => absurd hs (Nat.succ_ne_zero _)
          isplitl [H0]; · iexact H0
          iexact H1
        iexact Hg
      iexact HT)
    (hout := fun c => by
      show iprop(((∃ d0, ∃ d1, ⌜kept m hO c (Fin.last (cfgM m hO).N).val d0 d1⌝ ∗ owns (c : Thread nD τ) weights0 fullShare d0 ∗ owns (c : Thread nD τ) weights1 fullShare d1)
        ∗ (∃ r, prngReg c r)) ∗ Pipeline.ΦT pre0 (tbl m) c) ⊢ Pipeline.ΦA spec0 c
      rw [scratch_eq]
      iintro ⟨⟨⟨%d0, %d1, -, H0, H1⟩, Hg⟩, -⟩
      isplitr [Hg]
      · isplitl [H0]
        · iexists _; iexact H0
        iexists _; iexact H1
      iexact Hg)

end Experts

end
-- ==== Proof.Experts.Value.lean ====
/-
  What the experts' launch leaves: each block it writes is the block of the one array of rows taken through their experts.
-/
module

public import proofs.«01_k».proof.Proof.Experts.Entry
public import proofs.«01_k».proof.Proof.Experts.Launch
public import Idealize.ShloMosaic.Lib.Pipeline.Value

@[expose] public section

set_option maxRecDepth 65536
set_option maxHeartbeats 1600000

noncomputable section

namespace Experts

open Cert.ExpertsIdeal Cert.ExpertsIdeal.Gen Idealize.ShloMosaic Idealize.ShloMosaic.TcCoe

/-! ## The block of a point at an entry -/

/-- The rows of a block, put together again from its pairs. -/
theorem interleaved_apply (lo hi : Vec Ideal S256x512 .bf16) (r : Fin 512) (k : Fin 512) :
    interleaveRows S512x512 lo hi bitcasts_S512x512_w16_S256x512_w32 (ix2 r k)
      = if r.val % 2 = 0 then lo (ix2 ⟨r.val / 2, by omega⟩ k) else hi (ix2 ⟨r.val / 2, by omega⟩ k) := by
  pointwise

theorem weights1_apply (x : Vec Ideal S1x1024x2048 .f32) (r : Fin 1024) (k : Fin 2048) : k0_pay1 (F := Ideal) x (ix2 r k) = x (ix3 0 r k) := by
  pointwise [k0_pay1]
theorem weights2_apply (x : Vec Ideal S1x1024x1024 .f32) (r : Fin 1024) (k : Fin 1024) : k0_pay2 (F := Ideal) x (ix2 r k) = x (ix3 0 r k) := by
  pointwise [k0_pay2]

/-- The stages of the body between its loads. -/
def side (x : Vec Ideal S512x512 .bf16) : FVec Ideal S256x1024 .bf16 :=
  truncf .bf16 (concatenate S256x1024 1 [⟨S256x512, extf .f32 (rowsOfParity 1 S256x512 x bitcasts_S512x512_w16_S256x512_w32) bitsLt_bf16_f32⟩,
    ⟨S256x512, extf .f32 (rowsOfParity 0 S256x512 x bitcasts_S512x512_w16_S256x512_w32) bitsLt_bf16_f32⟩] concatenates_S256x512_S256x512_S256x1024_d1) bitsLt_bf16_f32
def hidden (z : FVec Ideal S256x1024 .bf16) (w : FVec Ideal S1024x2048 .bf16) (b : Vec Ideal S1x1x2048 .f32) : FVec Ideal S256x2048 .f32 :=
  addf (matmul dot_S256x1024_S1024x2048_S256x2048_1_0_0_1_n_n none z w (constant S256x2048 .f32 0x00000000#32))
    (broadcastTo S256x2048 (shapeCast S1x2048 b shapeCasts_S1x1x2048_S1x2048) broadcasts_S1x2048_S256x2048)
def gateOf (h : FVec Ideal S256x2048 .f32) : FVec Ideal S256x1024 .f32 :=
  minimumf (extractStridedSlice S256x1024 ![0, 0] h slices_S256x2048_o0_0_S256x1024) (broadcast S256x1024 (Scalar.ofBits .f32 0x40E00000#32))
def active (h : FVec Ideal S256x2048 .f32) : FVec Ideal S256x1024 .bf16 :=
  truncf .bf16 (mulf (mulf (addf (minimumf (broadcast S256x1024 (Scalar.ofBits .f32 0x40E00000#32)) (maximumf (broadcast S256x1024 (Scalar.ofBits .f32 0xC0E00000#32))
      (extractStridedSlice S256x1024 ![0, 1024] h slices_S256x2048_o0_1024_S256x1024))) (broadcast S256x1024 (Scalar.ofBits .f32 0x3F800000#32))) (gateOf h))
    (divf (broadcast S256x1024 (Scalar.ofBits .f32 0x3F800000#32)) (addf (broadcast S256x1024 (Scalar.ofBits .f32 0x3F800000#32))
      (exp (subf (broadcast S256x1024 (Scalar.ofBits .f32 0x00000000#32)) (mulf (broadcast S256x1024 (Scalar.ofBits .f32 0x3FD9DB23#32)) (gateOf h))))))) bitsLt_bf16_f32
def outer (g : FVec Ideal S256x1024 .bf16) (v : FVec Ideal S1024x1024 .bf16) : FVec Ideal S256x1024 .f32 :=
  matmul dot_S256x1024_S1024x1024_S256x1024_1_0_0_1_n_n none g v (constant S256x1024 .f32 0x00000000#32)
def biased (y : FVec Ideal S256x1024 .f32) (d : Vec Ideal S1x1x1024 .f32) : FVec Ideal S256x1024 .f32 :=
  addf y (broadcastTo S256x1024 (shapeCast S1x1024 d shapeCasts_S1x1x1024_S1x1024) broadcasts_S1x1024_S256x1024)
def half1 (y : FVec Ideal S256x1024 .f32) : Vec Ideal S256x512 .bf16 :=
  truncf .bf16 (extf .f32 (truncf .bf16 (extractStridedSlice S256x512 ![0, 0] y slices_S256x1024_o0_0_S256x512) bitsLt_bf16_f32) bitsLt_bf16_f32)
def half2 (y : FVec Ideal S256x1024 .f32) : Vec Ideal S256x512 .bf16 :=
  truncf .bf16 (extf .f32 (truncf .bf16 (extractStridedSlice S256x512 ![0, 512] y slices_S256x1024_o0_512_S256x512) bitsLt_bf16_f32) bitsLt_bf16_f32)

theorem stages5 (x : Vec Ideal S512x512 .bf16) (w : FVec Ideal S1024x2048 .bf16) (b : Vec Ideal S1x1x2048 .f32) (v : FVec Ideal S1024x1024 .bf16) :
    k0_pay5 x w b v = outer (active (hidden (side x) w b)) v := rfl
theorem stages3 (y : FVec Ideal S256x1024 .f32) (d : Vec Ideal S1x1x1024 .f32) :
    k0_pay3 y d = interleaveRows S512x512 (half2 (biased y d)) (half1 (biased y d)) bitcasts_S512x512_w16_S256x512_w32 := rfl

theorem side_apply (x : Vec Ideal S512x512 .bf16) (q : Fin 256) (k : Fin 1024) :
    side x (ix2 q k) = sideBySide (fun p k => x (ix2 ⟨2 * q.val + p.val, by omega⟩ k)) k := by
  pointwise [side]
  rfl
theorem hidden_apply (z : FVec Ideal S256x1024 .bf16) (w : FVec Ideal S1024x2048 .bf16) (b : Vec Ideal S1x1x2048 .f32) (q : Fin 256) (j : Fin 2048) :
    hidden z w b (ix2 q j) = affine (fun k => z (ix2 q k)) (fun k j => w (ix2 k j)) (fun j => b (ix3 0 0 j)) j := by
  pointwise [hidden]
  rfl
theorem active_apply (h : FVec Ideal S256x2048 .f32) (q : Fin 256) (k : Fin 1024) : active h (ix2 q k) = gated (fun j => h (ix2 q j)) k := by
  pointwise [active, gateOf]
  rw [zero_sub]
  rfl
theorem outer_apply (g : FVec Ideal S256x1024 .bf16) (v : FVec Ideal S1024x1024 .bf16) (d : Vec Ideal S1x1x1024 .f32) (q : Fin 256) (j : Fin 1024) :
    biased (outer g v) d (ix2 q j) = affine (fun k => g (ix2 q k)) (fun k j => v (ix2 k j)) (fun j => d (ix3 0 0 j)) j := by
  pointwise [outer, biased]
  rfl
theorem half1_apply (y : FVec Ideal S256x1024 .f32) (q : Fin 256) (k : Fin 512) : half1 y (ix2 q k) = y (ix2 q ⟨k.val, by omega⟩) := by
  pointwise [half1]
theorem half2_apply (y : FVec Ideal S256x1024 .f32) (q : Fin 256) (k : Fin 512) : half2 y (ix2 q k) = y (ix2 q ⟨512 + k.val, by omega⟩) := by
  pointwise [half2]

/-- What a point writes, at an entry. -/
theorem written_apply (i : grid0.Coords) (n : BitVec 32) (x0 : Vec Ideal S512x512 .bf16) (x1 : Vec Ideal S1x1024x2048 .f32) (x2 : Vec Ideal S1x1x2048 .f32)
    (x3 : Vec Ideal S1x1024x1024 .f32) (x4 : Vec Ideal S1x1x1024 .f32) (r j : Fin 512) :
    written i n x0 x1 x2 x3 x4 (ix2 r j) = if IntOp.cmpi .slt (BitVec.ofNat 32 (i 0).val) n = 1#1 then
        through (sideBySide fun p k => x0 (ix2 ⟨2 * (r.val / 2) + p.val, by omega⟩ k)) (fun k j => x1 (ix3 0 k j)) (fun j => x2 (ix3 0 0 j))
          (fun k j => x3 (ix3 0 k j)) (fun j => x4 (ix3 0 0 j)) (column r.val j)
      else (0 : EReal) := by
  have hu : k0_cond2 i n = 1#1 ↔ IntOp.cmpi .slt (BitVec.ofNat 32 (i 0).val) n = 1#1 := by
    unfold k0_cond2
    have : ∀ b : BitVec 1, Scalar.cmpi .ne (Scalar.extui b : BitVec 32) 0#32 = 1#1 ↔ b = 1#1 := by decide
    exact this _
  have ho : ∀ (q : Fin 256) (l : Fin 1024), biased (k0_pay5 x0 (k0_pay1 x1) x2 (k0_pay2 x3)) x4 (ix2 q l)
      = through (sideBySide fun p k => x0 (ix2 ⟨2 * q.val + p.val, by omega⟩ k)) (fun k j => x1 (ix3 0 k j)) (fun j => x2 (ix3 0 0 j))
          (fun k j => x3 (ix3 0 k j)) (fun j => x4 (ix3 0 0 j)) l := fun q l => by
    rw [stages5, outer_apply]
    unfold through affine
    refine congrArg (· + _) (Finset.sum_congr rfl fun k _ => congrArg₂ (· * ·) ?_ (weights2_apply x3 k l))
    refine (active_apply _ q k).trans (congrArg (gated · k) (funext fun a => ?_))
    refine (hidden_apply _ _ _ q a).trans ?_
    unfold affine
    exact congrArg (· + _) (Finset.sum_congr rfl fun k _ => congrArg₂ (· * ·) (side_apply x0 q k) (weights1_apply x1 k a))
  unfold written
  by_cases h : k0_cond2 i n = 1#1
  · rw [if_pos h, if_pos (hu.1 h), stages3, interleaved_apply]
    split
    · next hr =>
      refine ((half2_apply _ _ j).trans (ho _ _)).trans (congrArg (through _ _ _ _ _) (Fin.ext ?_))
      show 512 + j.val = (1 - r.val % 2) * 512 + j.val
      omega
    · next hr =>
      refine ((half1_apply _ _ j).trans (ho _ _)).trans (congrArg (through _ _ _ _ _) (Fin.ext ?_))
      show j.val = (1 - r.val % 2) * 512 + j.val
      have : 1 - r.val % 2 = 0 := by omega
      rw [this]; omega
  · rw [if_neg h, if_neg fun h' => h (hu.2 h')]
    pointwise [k0_pay4]

/-! ## The points' blocks -/

variable (m : (ℓ : Loc nD τ sig) → Buf (Elt Ideal) ℓ) (hO : Ok m) (c : Dev nD)

/-- The biases as the launch finds them: reshaped. -/
theorem V_bias1 : V m c main_v0 = shapeCast S32x1x2048 (m ((c : Thread nD τ).loc main_arg4)) shapeCasts_S32x2048_S32x1x2048 := by
  unfold V hostOps0
  after_results_simp <;> rfl
theorem V_bias2 : V m c main_v1 = shapeCast S32x1x1024 (m ((c : Thread nD τ).loc main_arg6)) shapeCasts_S32x1024_S32x1x1024 := by
  unfold V hostOps0
  after_results_simp <;> rfl
theorem bias1_apply (b : Vec Ideal S32x2048 .f32) (e : Fin 32) (k : Fin 2048) : shapeCast S32x1x2048 b shapeCasts_S32x2048_S32x1x2048 (ix3 e 0 k) = b (ix2 e k) := by
  pointwise
theorem bias2_apply (b : Vec Ideal S32x1024 .f32) (e : Fin 32) (k : Fin 1024) : shapeCast S32x1x1024 b shapeCasts_S32x1024_S32x1x1024 (ix3 e 0 k) = b (ix2 e k) := by
  pointwise

theorem rows_index : ∀ t : Fin grid0.N, cc0_transform_0 (grid0.coords t) = ![t.val, 0] := by decide +kernel
theorem out_index : ∀ t : Fin grid0.N, cc0_transform_5 (grid0.coords t) = ![t.val, 0] := by decide +kernel
theorem lt_288 (t : Fin (cfgM m hO).N) : t.val < 288 := lt_of_lt_of_eq t.isLt N_0

/-- The rows and the biases of a point. -/
theorem block0 (t : Fin (cfgM m hO).N) (r k : Fin 512) : (iblk m hO c 0 t : Vec Ideal S512x512 .bf16) (ix2 r k)
    = m ((c : Thread nD τ).loc main_arg2) (ix2 ⟨t.val * 512 + r.val, by have := lt_288 m hO t; omega⟩ k) := by
  unfold iblk
  show V m c main_arg2 _ = _
  rw [V_arg m c main_arg2 (by decide) (by decide)]
  congr 1
  funext a
  apply Fin.ext
  match a with
  | ⟨0, _⟩ => show cc0_transform_0 (grid0.coords t) 0 * 512 + 1 * r.val = t.val * 512 + r.val; rw [rows_index t]; show t.val * 512 + 1 * r.val = _; omega
  | ⟨1, _⟩ => show cc0_transform_0 (grid0.coords t) 1 * 512 + 1 * k.val = k.val; rw [rows_index t]; show 0 * 512 + 1 * k.val = _; omega
theorem block2 (t : Fin (cfgM m hO).N) (k : Fin 2048) : (iblk m hO c 2 t : Vec Ideal S1x1x2048 .f32) (ix3 0 0 k)
    = m ((c : Thread nD τ).loc main_arg4) (ix2 (expertOf m hO t) k) := by
  unfold iblk
  show V m c main_v0 _ = _
  rw [V_bias1]
  refine Eq.trans (congrArg _ (funext fun a => Fin.ext ?_)) (bias1_apply _ (expertOf m hO t) k)
  match a with
  | ⟨0, _⟩ => show cc0_transform_2 k0_off1_inb numel1_S1 (tbl m) (grid0.coords t) 0 * 1 + 1 * 0 = _; exact (Nat.mul_one _).trans (index_eq m hO t _ rfl)
  | ⟨1, _⟩ => rfl
  | ⟨2, _⟩ => show 0 * 2048 + 1 * k.val = k.val; omega
theorem block4 (t : Fin (cfgM m hO).N) (k : Fin 1024) : (iblk m hO c 4 t : Vec Ideal S1x1x1024 .f32) (ix3 0 0 k)
    = m ((c : Thread nD τ).loc main_arg6) (ix2 (expertOf m hO t) k) := by
  unfold iblk
  show V m c main_v1 _ = _
  rw [V_bias2]
  refine Eq.trans (congrArg _ (funext fun a => Fin.ext ?_)) (bias2_apply _ (expertOf m hO t) k)
  match a with
  | ⟨0, _⟩ => show cc0_transform_4 k0_off1_inb numel1_S1 (tbl m) (grid0.coords t) 0 * 1 + 1 * 0 = _; exact (Nat.mul_one _).trans (index_eq m hO t _ rfl)
  | ⟨1, _⟩ => rfl
  | ⟨2, _⟩ => show 0 * 1024 + 1 * k.val = k.val; omega

/-- The number of blocks used, as a point reads it. -/
theorem used_eq : blocksUsed c (tbl m 1) = (m ((c : Thread nD τ).loc main_arg1) : IVec S1 32) (ix1 0) := by
  obtain rfl : c = 0 := Subsingleton.elim _ _
  have h : tbl m 1 = m (((0 : Dev nD) : Thread nD τ).loc main_arg1) := V_arg m 0 main_arg1 (by decide) (by decide)
  rw [h]
  refine congrArg (m (((0 : Dev nD) : Thread nD τ).loc main_arg1) : IVec S1 32) (funext fun a => ?_)
  match a with
  | ⟨0, _⟩ => rfl

/-- What a point leaves is the block of the array of entries. -/
theorem left_apply (t : Fin (cfgM m hO).N) (r j : Fin 512) : left m hO c t (ix2 r j)
    = entryAt (expertOf m hO t) ((m ((c : Thread nD τ).loc main_arg1) : IVec S1 32) (ix1 0)) (m ((c : Thread nD τ).loc main_arg2)) (m ((c : Thread nD τ).loc main_arg3))
        (m ((c : Thread nD τ).loc main_arg4)) (m ((c : Thread nD τ).loc main_arg5)) (m ((c : Thread nD τ).loc main_arg6)) ⟨t.val, lt_288 m hO t⟩ r j := by
  refine (written_apply _ _ _ _ _ _ _ r j).trans ?_
  unfold entryAt
  refine if_congr (iff_of_eq (congrArg₂ (fun a b => IntOp.cmpi .slt (BitVec.ofNat 32 a) b = 1#1) (coord_eq t) (used_eq m c))) ?_ rfl
  refine congrFun (congr (congr (congr (congrArg₂ through (congrArg sideBySide (funext fun p => funext fun k => ?_)) (funext fun k => funext fun l => ?_))
    (funext fun l => ?_)) (funext fun k => funext fun l => ?_)) (funext fun l => ?_)) _
  · exact block0 m hO c t _ k
  · exact block1 m hO c t k l
  · exact block2 m hO c t l
  · exact block3 m hO c t k l
  · exact block4 m hO c t l

/-! ## The array -/

variable (G : Vec Ideal S147456x512 .bf16)
    (hG : ∀ (t : Fin 288) (r j : Fin 512), G (ix2 ⟨t.val * 512 + r.val, row_lt t r⟩ j)
      = entryAt (expertOf m hO (t.cast N_0.symm)) ((m ((c : Thread nD τ).loc main_arg1) : IVec S1 32) (ix1 0)) (m ((c : Thread nD τ).loc main_arg2))
          (m ((c : Thread nD τ).loc main_arg3)) (m ((c : Thread nD τ).loc main_arg4)) (m ((c : Thread nD τ).loc main_arg5)) (m ((c : Thread nD τ).loc main_arg6)) t r j)

include hG in
/-- Where an array has those entries, what a point writes back is its block of the array. -/
theorem flushed_eq (t : Fin (cfgM m hO).N) : (dats m hO 0 c).flushed 5 t = (((cfgM m hO).win 5).blk t).view.read (Elt Ideal) G := by
  show left m hO c t = _
  funext y
  obtain ⟨r, l, rfl⟩ : ∃ (r l : Fin 512), y = ix2 r l :=
    ⟨y 0, y 1, funext fun a => match a with
      | ⟨0, _⟩ => rfl
      | ⟨1, _⟩ => rfl⟩
  refine (left_apply m hO c t r l).trans ((hG ⟨t.val, lt_288 m hO t⟩ r l).symm.trans ?_)
  show G _ = G _
  congr 1
  funext a
  apply Fin.ext
  match a with
  | ⟨0, _⟩ => show t.val * 512 + r.val = cc0_transform_5 (grid0.coords t) 0 * 512 + 1 * r.val; rw [out_index t]; show _ = t.val * 512 + 1 * r.val; omega
  | ⟨1, _⟩ => show l.val = cc0_transform_5 (grid0.coords t) 1 * 512 + 1 * l.val; rw [out_index t]; show _ = 0 * 512 + 1 * l.val; omega

/-- The points' blocks cover the array. -/
theorem covered (i : S147456x512.Idx) : ∃ t : Fin (cfgM m hO).N, ((cfgM m hO).win 5).flush t = true ∧ i ∈ (((cfgM m hO).win 5).blk t).view.set := by
  have h0 : (i 0).val < 147456 := (i 0).isLt
  have h1 : (i 1).val < 512 := (i 1).isLt
  let t : Fin (cfgM m hO).N := (⟨(i 0).val / 512, by omega⟩ : Fin 288).cast N_0.symm
  refine ⟨t, flush5 m hO t, ?_⟩
  have e : (((cfgM m hO).win 5).blk t).view.set = (((cfgM m hO).win 5).rect t).set := View.set_slice_whole _ _
  refine (congrArg (i ∈ ·) e).mpr (Rect.mem_set_unit.2 fun a => ?_)
  match a with
  | ⟨0, _⟩ =>
    show cc0_transform_5 (grid0.coords t) 0 * 512 ≤ (i 0).val ∧ (i 0).val < cc0_transform_5 (grid0.coords t) 0 * 512 + 512
    rw [out_index t]
    show (i 0).val / 512 * 512 ≤ (i 0).val ∧ (i 0).val < (i 0).val / 512 * 512 + 512
    omega
  | ⟨1, _⟩ =>
    show cc0_transform_5 (grid0.coords t) 1 * 512 ≤ (i 1).val ∧ (i 1).val < cc0_transform_5 (grid0.coords t) 1 * 512 + 512
    rw [out_index t]
    show 0 * 512 ≤ (i 1).val ∧ (i 1).val < 0 * 512 + 512
    omega

include hG in
/-- So the launch leaves that array. -/
theorem final : (dats m hO 0 c).arrAt 5 (cfgM m hO).N = G :=
  (dats m hO 0 c).arrAt_eq_of_cover 5 G (fun t _ => flushed_eq m hO c G hG t) (covered m hO)

/-! ## The tables' condition -/

/-- Tables whose experts are in range are admitted. -/
theorem ok_of {F : FTy → Type} [FloatOps F] (m : (ℓ : Loc nD τ sig) → Buf (Elt F) ℓ)
    (h : ∀ j : S288.Idx, ((m (((0 : Dev nD) : Thread nD τ).loc main_arg0) : IVec S288 32) j).toNat < 32) : Ok m := by
  have h' : ∀ j : S288.Idx, ((tbl m 0 : IVec S288 32) j).toNat < 32 := fun j => by
    have e : tbl m 0 = m (((0 : Dev nD) : Thread nD τ).loc main_arg0) := V_arg m 0 main_arg0 (by decide) (by decide)
    rw [e]
    exact h j
  refine ⟨fun i => ⟨fun a => ?_, Or.inl rfl⟩, fun i => ⟨fun a => ?_, Or.inl rfl⟩, fun i => ⟨fun a => ?_, Or.inl rfl⟩, fun i => ⟨fun a => ?_, Or.inl rfl⟩⟩
  all_goals
    match a with
    | ⟨0, _⟩ => exact (Nat.mul_one _).le.trans (h' _)
    | ⟨1, _⟩ => exact (Nat.one_mul _).le
    | ⟨2, _⟩ => exact (Nat.one_mul _).le

/-- The program ends with the launch's array and its arguments unchanged, and every counter at zero. -/
theorem ended (m : (ℓ : Loc nD τ sig) → Buf (Elt Ideal) ℓ) (ρ : Dev nD → PrngReg) (hO : Ok m) :
    θ_run defs (onTc (τ := τ) (main (F := Ideal))) ⟨m, fun _ => 0, ρ⟩ (fun r => (∀ c : Dev nD,
      r.2.mem ((c.tc : Thread nD τ).loc main_v2) = (dats m hO 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨(h.1 c).1 5,
      ((h.1 c).2 main_arg0 (by decide : main_arg0 ∈ Pipeline.restRefs sig spec0)).trans (V_arg m c _ (by decide) (by decide)),
      ((h.1 c).2 main_arg1 (by decide : main_arg1 ∈ Pipeline.restRefs sig spec0)).trans (V_arg m c _ (by decide) (by decide)),
      (((h.1 c).1 0).trans ((dats m hO 0 c).arrAt_in 0 rfl _)).trans ((A_eq m hO c 0).trans (V_arg m c main_arg2 (by decide) (by decide))),
      (((h.1 c).1 1).trans ((dats m hO 0 c).arrAt_in 1 rfl _)).trans ((A_eq m hO c 1).trans (V_arg m c main_arg3 (by decide) (by decide))),
      ((h.1 c).2 main_arg4 (by decide : main_arg4 ∈ Pipeline.restRefs sig spec0)).trans (V_arg m c _ (by decide) (by decide)),
      (((h.1 c).1 3).trans ((dats m hO 0 c).arrAt_in 3 rfl _)).trans ((A_eq m hO c 3).trans (V_arg m c main_arg5 (by decide) (by decide))),
      ((h.1 c).2 main_arg6 (by decide : main_arg6 ∈ Pipeline.restRefs sig spec0)).trans (V_arg m c _ (by decide) (by decide))⟩, h.2⟩) (launched m hO ρ)

end Experts

end
-- ==== Proof.Experts.Reference.lean ====
/-
  The plain form of the experts read at an entry.
-/
module

public import proofs.«01_k».proof.Proof.Experts.Entry
public import proofs.«01_k».proof.Proof.Gen.ExpertsReferenceIdeal
public import proofs.«01_k».proof.Proof.Gen.ExpertsReferenceIdeal.Run

@[expose] public section

set_option maxRecDepth 65536
set_option maxHeartbeats 1600000

noncomputable section

namespace Experts.Reference

open Cert.ExpertsReferenceIdeal Cert.ExpertsReferenceIdeal.Gen Idealize.ShloMosaic Idealize.ShloMosaic.TcCoe

/-- The packed rows by block and pair. -/
def rows (x : Vec Ideal S147456x512 .bf16) : FVec Ideal S288x256x2x512 .f32 :=
  shapeCast _ (extf .f32 x bitsLt_bf16_f32) shapeCasts_S147456x512_S288x256x2x512
/-- The rows of each pair side by side. -/
def pairs (y : FVec Ideal S288x256x2x512 .f32) : FVec Ideal S288x256x1024 .f32 :=
  concatenate S288x256x1024 2 [⟨S288x256x512, (shapeCast _ (extractStridedSlice S288x256x1x512 ![0, 0, 1, 0] y slices_S288x256x2x512_S288x256x1x512_0_0_1_0) shapeCasts_S288x256x1x512_S288x256x512)⟩, ⟨S288x256x512, (shapeCast _ (extractStridedSlice S288x256x1x512 ![0, 0, 0, 0] y slices_S288x256x2x512_S288x256x1x512_0_0_0_0) shapeCasts_S288x256x1x512_S288x256x512)⟩] concatenates_S288x256x512_S288x256x512_S288x256x1024_d2
/-- The first product. -/
def first (z : FVec Ideal S288x256x1024 .f32) (w : FVec Ideal S288x1024x2048 .f32) (b : FVec Ideal S288x2048 .f32) : FVec Ideal S288x256x2048 .f32 :=
  addf (Host.dotGeneral dot_S288x256x1024_S288x1024x2048_S288x256x2048_2_1_1_2_0_0 none z w) (broadcastInDim S288x256x2048 ![0, 1, 2] bcast_S288x1x2048_S288x256x2048_0_1_2 (broadcastInDim S288x1x2048 ![0, 2] bcast_S288x2048_S288x1x2048_0_2 b))
/-- The gate. -/
def gate (h : FVec Ideal S288x256x2048 .f32) : FVec Ideal S288x256x1024 .f32 :=
  minimumf (extractStridedSlice S288x256x1024 ![0, 0, 0] h slices_S288x256x2048_S288x256x1024_0_0_0) (broadcastInDim S288x256x1024 ![] bcast_S_S288x256x1024 (constant S_ .f32 0x40E00000#32))
/-- What the gate scales. -/
def up (h : FVec Ideal S288x256x2048 .f32) : FVec Ideal S288x256x1024 .f32 :=
  addf (minimumf (broadcastInDim S288x256x1024 ![] bcast_S_S288x256x1024 (id (constant S_ .f32 0x40E00000#32))) (maximumf (broadcastInDim S288x256x1024 ![] bcast_S_S288x256x1024 (id (constant S_ .f32 0xC0E00000#32))) (extractStridedSlice S288x256x1024 ![0, 0, 1024] h slices_S288x256x2048_S288x256x1024_0_0_1024))) (broadcastInDim S288x256x1024 ![] bcast_S_S288x256x1024 (constant S_ .f32 0x3F800000#32))
/-- The gated activation. -/
def activated (h : FVec Ideal S288x256x2048 .f32) : FVec Ideal S288x256x1024 .f32 :=
  mulf (mulf (up h) (gate h)) (Host.divf (broadcastInDim S288x256x1024 ![] bcast_S_S288x256x1024 (constant S_ .f32 0x3F800000#32)) (addf (broadcastInDim S288x256x1024 ![] bcast_S_S288x256x1024 (constant S_ .f32 0x3F800000#32)) (Host.exp (Host.negf (mulf (broadcastInDim S288x256x1024 ![] bcast_S_S288x256x1024 (constant S_ .f32 0x3FD9DB23#32)) (gate h))))))
/-- The second product. -/
def second (g : FVec Ideal S288x256x1024 .f32) (v : FVec Ideal S288x1024x1024 .f32) (d : FVec Ideal S288x1024 .f32) : FVec Ideal S288x256x1024 .f32 :=
  addf (Host.dotGeneral dot_S288x256x1024_S288x1024x1024_S288x256x1024_2_1_1_2_0_0 none g v) (broadcastInDim S288x256x1024 ![0, 1, 2] bcast_S288x1x1024_S288x256x1024_0_1_2 (broadcastInDim S288x1x1024 ![0, 2] bcast_S288x1024_S288x1x1024_0_2 d))
/-- Zeros in the blocks that are not used. -/
def masked (n : IVec S1 32) (y : FVec Ideal S288x256x1024 .f32) : FVec Ideal S288x256x1024 .f32 :=
  select (cmpi .slt (iotaInDim S288x256x1024 32 0) (broadcastInDim S288x256x1024 ![] bcast_S_S288x256x1024 (shapeCast _ n shapeCasts_S1_S_))) y (broadcastInDim S288x256x1024 ![] bcast_S_S288x256x1024 (id (constant S_ .f32 0x00000000#32)))
/-- The rows packed in pairs again. -/
def packed (y : FVec Ideal S288x256x1024 .f32) : FVec Ideal S147456x512 .bf16 :=
  truncf .bf16 (shapeCast _ (concatenate S288x256x2x512 2 [⟨S288x256x1x512, (broadcastInDim S288x256x1x512 ![0, 1, 3] bcast_S288x256x512_S288x256x1x512_0_1_3 (extractStridedSlice S288x256x512 ![0, 0, 512] y slices_S288x256x1024_S288x256x512_0_0_512))⟩, ⟨S288x256x1x512, (broadcastInDim S288x256x1x512 ![0, 1, 3] bcast_S288x256x512_S288x256x1x512_0_1_3 (extractStridedSlice S288x256x512 ![0, 0, 0] y slices_S288x256x1024_S288x256x512_0_0_0))⟩] concatenates_S288x256x1x512_S288x256x1x512_S288x256x2x512_d2) shapeCasts_S288x256x2x512_S147456x512) bitsLt_bf16_f32
/-- The experts' numbers, those below zero counted from the end, as a column. -/
def numbers (e : IVec S288 32) : IVec S288x1 32 :=
  broadcastInDim S288x1 ![0] bcast_S288_S288x1_0 (select (cmpi .slt e (broadcastInDim S288 ![] bcast_S_S288 (constantI S_ 32 0#32))) (addi e (broadcastInDim S288 ![] bcast_S_S288 (constantI S_ 32 32#32))) e)

/-- The plain form. -/
def plain (e : IVec S288 32) (n : IVec S1 32) (x : Vec Ideal S147456x512 .bf16) (w : Vec Ideal S32x1024x2048 .f32) (b : Vec Ideal S32x2048 .f32)
    (v : Vec Ideal S32x1024x1024 .f32) (d : Vec Ideal S32x1024 .f32) : FVec Ideal S147456x512 .bf16 :=
  packed (masked n (second (activated (first (pairs (rows x))
    (Host.gather gather_S32x1024x2048_S288x1_S288x1024x2048_12_0_n_n_0_1_110242048 w (numbers e))
    (Host.gather gather_S32x2048_S288x1_S288x2048_1_0_n_n_0_1_12048 b (numbers e))))
    (Host.gather gather_S32x1024x1024_S288x1_S288x1024x1024_12_0_n_n_0_1_110241024 v (numbers e))
    (Host.gather gather_S32x1024_S288x1_S288x1024_1_0_n_n_0_1_11024 d (numbers e))))

/-- It is what the plain program returns. -/
theorem plain_eq (m : (ℓ : Loc nD τ sig) → Buf (Elt Ideal) ℓ) (c : Dev nD) :
    Value.res_main_v71 m c = plain (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := rfl

theorem rows_apply (x : Vec Ideal S147456x512 .bf16) (t : Fin 288) (q : Fin 256) (p : Fin 2) (k : Fin 512) :
    rows x (ix4 t q p k) = x (ix2 ⟨t.val * 512 + (2 * q.val + p.val), by omega⟩ k) := by
  pointwise [rows]
  exact congrArg (fun i => x (ix2 i k)) (Fin.ext (by show t.val * 512 + q.val * 2 + p.val = t.val * 512 + (2 * q.val + p.val); omega))
theorem pairs_apply (y : FVec Ideal S288x256x2x512 .f32) (t : Fin 288) (q : Fin 256) (k : Fin 1024) :
    pairs y (ix3 t q k) = sideBySide (fun p k => y (ix4 t q p k)) k := by
  pointwise [pairs]
  rfl
theorem first_apply (z : FVec Ideal S288x256x1024 .f32) (w : FVec Ideal S288x1024x2048 .f32) (b : FVec Ideal S288x2048 .f32) (t : Fin 288) (q : Fin 256) (j : Fin 2048) :
    first z w b (ix3 t q j) = affine (fun k => z (ix3 t q k)) (fun k j => w (ix3 t k j)) (fun j => b (ix2 t j)) j := by
  pointwise [first]
  rfl
theorem activated_apply (h : FVec Ideal S288x256x2048 .f32) (t : Fin 288) (q : Fin 256) (k : Fin 1024) :
    activated h (ix3 t q k) = gated (fun j => h (ix3 t q j)) k := by
  pointwise [activated, up, gate]
  rfl
theorem second_apply (z : FVec Ideal S288x256x1024 .f32) (w : FVec Ideal S288x1024x1024 .f32) (b : FVec Ideal S288x1024 .f32) (t : Fin 288) (q : Fin 256) (j : Fin 1024) :
    second z w b (ix3 t q j) = affine (fun k => z (ix3 t q k)) (fun k j => w (ix3 t k j)) (fun j => b (ix2 t j)) j := by
  pointwise [second]
  rfl
theorem masked_apply (n : IVec S1 32) (y : FVec Ideal S288x256x1024 .f32) (t : Fin 288) (q : Fin 256) (j : Fin 1024) :
    masked n y (ix3 t q j) = if IntOp.cmpi .slt (BitVec.ofNat 32 t.val) (n (ix1 0)) = 1#1 then y (ix3 t q j) else (0 : EReal) := by
  pointwise [masked]
  have z : (id (constant (F := Ideal) S_ .f32 0x00000000#32) ix0 : EReal) = 0 := by
    show Ideal.ofBits .f32 0x00000000#32 = 0
    simp [Ideal.ofBits, Ideal.ieee]
  rw [z]
  rfl
theorem packed_apply (y : FVec Ideal S288x256x1024 .f32) (r : Fin 147456) (j : Fin 512) :
    packed y (ix2 r j) = y (ix3 ⟨r.val / 512, by omega⟩ ⟨r.val % 512 / 2, by omega⟩ (column r.val j)) := by
  pointwise [packed]
  have e : r.val / 2 % 256 = r.val % 512 / 2 := by omega
  split
  · next h =>
    refine congrArg₂ (fun q k => y (ix3 _ q k)) (Fin.ext e) (Fin.ext ?_)
    show 512 + j.val = (1 - r.val % 2) * 512 + j.val
    omega
  · next h =>
    refine congrArg₂ (fun q k => y (ix3 _ q k)) (Fin.ext e) (Fin.ext ?_)
    show j.val = (1 - r.val % 2) * 512 + j.val
    have : 1 - r.val % 2 = 0 := by omega
    omega
theorem numbers_apply (e : IVec S288 32) (t : Fin 288) (he : (e (ix1 t)).toNat < 32) : numbers e (ix2 t 0) = e (ix1 t) := by
  pointwise [numbers]
  have h : IntOp.cmpi .slt (e (ix1 t)) 0#32 = 0#1 := by
    have : (e (ix1 t)).slt 0#32 = false := by
      rw [BitVec.slt_eq_decide, decide_eq_false_iff_not, BitVec.toInt_eq_toNat_of_lt (by omega)]
      show ¬ ((e (ix1 t)).toNat : Int) < 0
      omega
    simp [IntOp.cmpi, this]
  rw [h]
  rfl

/-- The plain form at an entry: the row's pair taken through the expert of its block, or zero where the block is not used. -/
theorem plain_apply (e : IVec S288 32) (n : IVec S1 32) (x : Vec Ideal S147456x512 .bf16) (w : Vec Ideal S32x1024x2048 .f32) (b : Vec Ideal S32x2048 .f32)
    (v : Vec Ideal S32x1024x1024 .f32) (d : Vec Ideal S32x1024 .f32) (t : Fin 288) (r : Fin 512) (j : Fin 512) (he : (e (ix1 t)).toNat < 32) :
    plain e n x w b v d (ix2 ⟨t.val * 512 + r.val, row_lt t r⟩ j)
      = entryAt ⟨(e (ix1 t)).toNat, he⟩ (n (ix1 0)) x w b v d t r j := by
  have hn : numbers e (ix2 t 0) = BitVec.ofNat 32 (⟨(e (ix1 t)).toNat, he⟩ : Fin 32).val := by
    rw [numbers_apply e t he]; exact (BitVec.eq_of_toNat_eq (by rw [BitVec.toNat_ofNat]; exact Nat.mod_eq_of_lt (e (ix1 t)).isLt)).symm
  unfold plain entryAt
  refine (packed_apply _ _ j).trans ?_
  have ht : (⟨(t.val * 512 + r.val) / 512, by omega⟩ : Fin 288) = t := Fin.ext (by show (t.val * 512 + r.val) / 512 = t.val; omega)
  have hq : (⟨(t.val * 512 + r.val) % 512 / 2, by omega⟩ : Fin 256) = ⟨r.val / 2, by omega⟩ := Fin.ext (by show (t.val * 512 + r.val) % 512 / 2 = r.val / 2; omega)
  have hc : column (t.val * 512 + r.val) j = column r.val j := Fin.ext (by
    show (1 - (t.val * 512 + r.val) % 2) * 512 + j.val = (1 - r.val % 2) * 512 + j.val
    have : (t.val * 512 + r.val) % 2 = r.val % 2 := by omega
    rw [this])
  refine (congrArg (masked _ _) ((congrArg (fun a => ix3 a _ _) ht).trans (congrArg₂ (ix3 t) hq hc))).trans ?_
  rw [masked_apply]
  refine if_congr Iff.rfl ?_ rfl
  rw [second_apply]
  unfold through
  have h1 : ∀ k, activated (first (pairs (rows x))
      (Host.gather gather_S32x1024x2048_S288x1_S288x1024x2048_12_0_n_n_0_1_110242048 w (numbers e))
      (Host.gather gather_S32x2048_S288x1_S288x2048_1_0_n_n_0_1_12048 b (numbers e))) (ix3 t ⟨r.val / 2, by omega⟩ k)
      = gated (affine (sideBySide fun p k => x (ix2 ⟨t.val * 512 + (2 * (r.val / 2) + p.val), by omega⟩ k))
        (fun k j => w (ix3 ⟨(e (ix1 t)).toNat, he⟩ k j)) (fun j => b (ix2 ⟨(e (ix1 t)).toNat, he⟩ j))) k := fun k => by
    rw [activated_apply]
    refine congrArg (gated · k) (funext fun l => ?_)
    rw [first_apply]
    unfold affine
    refine congrArg₂ (· + ·) (Finset.sum_congr rfl fun k _ => congrArg₂ (· * ·) ?_ ?_) ?_
    · refine (pairs_apply _ t _ k).trans ?_
      exact congrArg (sideBySide · k) (funext fun p => funext fun k => rows_apply x t _ p k)
    · exact gather_matrix _ w _ t k l ⟨_, he⟩ hn (by decide)
    · exact Routing.gather_row gather_S32x2048_S288x1_S288x2048_1_0_n_n_0_1_12048 rfl rfl rfl rfl rfl b _ t l ⟨_, he⟩ hn (by decide)
  unfold affine
  refine congrArg₂ (· + ·) (Finset.sum_congr rfl fun k _ => congrArg₂ (· * ·) (h1 k) ?_) ?_
  · exact gather_matrix _ v _ t k _ ⟨_, he⟩ hn (by decide)
  · exact Routing.gather_row gather_S32x1024_S288x1_S288x1024_1_0_n_n_0_1_11024 rfl rfl rfl rfl rfl d _ t _ ⟨_, he⟩ hn (by decide)

end Experts.Reference

end
-- ==== Proof.Experts.Tables.lean ====
/-
  The precondition read: every entry of the table names one of the 32 experts.
-/
module

public import proofs.«01_k».proof.Pre_blocks_of_experts
public import Idealize.ShloMosaic.Lib.ReduceAll
public import Idealize.ShloMosaic.Lib.WordArith
public import Idealize.ShloMosaic.Lib.Pointwise

@[expose] public section

noncomputable section

namespace Experts.Tables

open Idealize.ShloMosaic
open Cert.Pre_blocks_of_experts

instance : Subsingleton S_.Idx := ⟨fun a b => funext fun i => i.elim0⟩

/-- A word that is at least 0 and below 32, both read signed, is below 32 read unsigned. -/
theorem below (w : BitVec 32) (h0 : IntOp.cmpi .sge w 0#32 = 1#1) (h1 : IntOp.cmpi .slt w 32#32 = 1#1) : w.toNat < 32 := by
  have bit : ∀ b : Bool, BitVec.ofBool b = 1#1 → b = true := by decide
  have l0 : (0#32 : BitVec 32).sle w = true := bit _ h0
  have l1 : w.slt 32#32 = true := bit _ h1
  rw [BitVec.sle_eq_decide, decide_eq_true_eq] at l0
  rw [BitVec.slt_eq_decide, decide_eq_true_eq] at l1
  have e0 : (0#32 : BitVec 32).toInt = 0 := by decide
  have e1 : (32#32 : BitVec 32).toInt = 32 := by decide
  rw [e0] at l0
  rw [e1] at l1
  rw [BitVec.toInt_eq_toNat_cond] at l0 l1
  have := w.isLt
  split at l1 <;> omega

/-- Under the precondition every entry of the table is below 32. -/
theorem in_range {F : FTy → Type} [FloatOps F] [Facts] (a0 : IVec S288 32) (a1 : IVec S1 32) (a2 : FVec F S147456x512 .bf16)
    (a3 : FVec F S32x1024x2048 .f32) (a4 : FVec F S32x2048 .f32) (a5 : FVec F S32x1024x1024 .f32) (a6 : FVec F S32x1024 .f32)
    (h : fn a0 a1 a2 a3 a4 a5 a6 = fun _ => 1#1) (j : S288.Idx) : (a0 j).toNat < 32 := by
  have k := IntOp.andi_eq_one.1 (Host.reduce_andi_all _ _ _ _ (fun i => i.elim0) (congrFun h _) j)
  exact below _ k.1 k.2

end Experts.Tables

end
-- ==== Proof.lean ====
/-
  The proof of `Cert.Claim`. The frames of the scan and of the projections are the generated ones, and there each kernel and
  its ideal reading are one text; the frames of the experts are read off their launch. The scan and its reference both give
  the model's result (`Wkv.Launch.final`, `Wkv.Scan.result_eq`); each projection and its plain form both give the array of
  entries (`Projection.Gate.final`, `Projection.GateReading.whole_eq`, and the same for State); the experts' launch leaves the
  plain form's result (`experts_final`), whose entries are `Experts.Reference.plain_apply`.
-/
module

public import proofs.«01_k».proof.Defs
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.Pre_blocks_of_experts
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Wkv.Launch
public import proofs.«01_k».proof.Proof.Wkv.Scan
public import proofs.«01_k».proof.Proof.Wkv.Finite
public import proofs.«01_k».proof.Proof.Gen.GateProjection.Frame
public import proofs.«01_k».proof.Proof.Gen.StateProjection.Frame
public import proofs.«01_k».proof.Proof.Gen.GateProjectionIdeal.Frame
public import proofs.«01_k».proof.Proof.Gen.StateProjectionIdeal.Frame
public import proofs.«01_k».proof.Proof.Gen.GateProjectionIdeal.Value
public import proofs.«01_k».proof.Proof.Gen.StateProjectionIdeal.Value
public import proofs.«01_k».proof.Proof.Gen.GateReferenceIdeal.Run
public import proofs.«01_k».proof.Proof.Gen.StateReferenceIdeal.Run
public import proofs.«01_k».proof.Proof.Projection.Gate
public import proofs.«01_k».proof.Proof.Projection.State
public import proofs.«01_k».proof.Proof.Projection.GateReading
public import proofs.«01_k».proof.Proof.Projection.StateReading
public import proofs.«01_k».proof.Proof.Experts.Frame
public import proofs.«01_k».proof.Proof.Experts.Value
public import proofs.«01_k».proof.Proof.Experts.Reference
public import proofs.«01_k».proof.Proof.Experts.Tables
public import Idealize.ShloMosaic.Lib.Bf16Pair
public import Idealize.ShloMosaic.Adequacy
public import Idealize.ShloMosaic.Init

@[expose] public section

noncomputable section

namespace Cert.Proof

open Idealize.ShloMosaic Idealize.SL.Sem
open Wkv.Model Wkv.Launch

attribute [local instance] Cert.KernelIdeal.Gen.facts Cert.ReferenceIdeal.Gen.facts Wkv.Finite.facts
  Cert.GateProjectionIdeal.Gen.facts Cert.GateReferenceIdeal.Gen.facts Cert.StateProjectionIdeal.Gen.facts Cert.StateReferenceIdeal.Gen.facts
  Cert.Experts.Gen.facts Cert.ExpertsIdeal.Gen.facts Cert.ExpertsReferenceIdeal.Gen.facts Cert.Pre_blocks_of_experts.Gen.facts

/-- The reference ends with its arguments unchanged. -/
theorem reference_frame : Cert.quiescent_ReferenceIdeal := fun m g _ =>
  (θ_run (Cert.ReferenceIdeal.defs (F := Ideal)) _ _).mono (fun r h => ⟨fun c => (h c).2,
    sem_eq_zero_of_no_sems (by decide) r.2⟩) (Cert.ReferenceIdeal.Value.run m g)

/-- The real arrays that the arguments hold, by the precondition. -/
theorem args_hold (m : (ℓ : Loc Cert.KernelIdeal.nD Cert.KernelIdeal.τ Cert.KernelIdeal.sig) → Buf (Elt Ideal) ℓ)
    (h : Cert.Pre_KernelIdeal_finite_heads m) (c : Dev Cert.KernelIdeal.nD) : ∃ A : Args,
    Holds A (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) :=
  ⟨_, Wkv.Finite.holds _ _ _ _ _ _ _ (h c)⟩

/-- The kernel and the reference both end with the model's result. -/
theorem scan_algebraic : Cert.algebraic_KernelIdeal_ReferenceIdeal_pre_finite_heads := fun m g m' g' hpre hag => by
  choose A hA using args_hold m hpre
  refine ⟨fun c => resultArr (A c), ?_, ?_⟩
  · refine (θ_run (Cert.KernelIdeal.defs (F := Ideal)) _ _).mono (fun _ h c => ?_) (Cert.KernelIdeal.Value.run_blocks m g)
    exact ⟨(h c).1.trans (final m c (A c) (hA c)), (h c).2.2⟩
  · refine (θ_run (Cert.ReferenceIdeal.defs (F := Ideal)) _ _).mono (fun _ h c => ?_) (Cert.ReferenceIdeal.Value.run m' g')
    refine ⟨(h c).1.trans (Wkv.Scan.result_eq (A c) m' c ?_), (h c).2⟩
    obtain ⟨e0, e1, e2, e3, e4, e5, e6⟩ := hag c
    rw [e0, e1, e2, e3, e4, e5, e6]
    exact hA c

/-! ## The projections -/

/-- The plain form of the wide projection ends with its arguments unchanged. -/
theorem gate_reference_frame : Cert.quiescent_GateReferenceIdeal := fun m g _ =>
  (θ_run (Cert.GateReferenceIdeal.defs (F := Ideal)) _ _).mono (fun r h => ⟨fun c => (h c).2,
    sem_eq_zero_of_no_sems (by decide) r.2⟩) (Cert.GateReferenceIdeal.Value.run m g)

/-- The wide projection and its plain form both end with the array of entries. -/
theorem gate_algebraic : Cert.algebraic_GateProjectionIdeal_GateReferenceIdeal := fun m g m' g' _ hag => by
  refine ⟨fun c => Projection.Gate.resultArr m c, ?_, ?_⟩
  · refine (θ_run (Cert.GateProjectionIdeal.defs (F := Ideal)) _ _).mono (fun _ h c => ?_) (Cert.GateProjectionIdeal.Value.run_blocks m g)
    exact ⟨(h c).1.trans (Projection.Gate.final m c), (h c).2⟩
  · refine (θ_run (Cert.GateReferenceIdeal.defs (F := Ideal)) _ _).mono (fun _ h c => ?_) (Cert.GateReferenceIdeal.Value.run m' g')
    refine ⟨(h c).1.trans ?_, (h c).2⟩
    obtain ⟨e0, e1, e2, e3⟩ := hag c
    rw [e0, e1, e2, e3]
    exact Projection.GateReading.whole_eq _ _ _ _

/-- The plain form of the narrow projection ends with its arguments unchanged. -/
theorem state_reference_frame : Cert.quiescent_StateReferenceIdeal := fun m g _ =>
  (θ_run (Cert.StateReferenceIdeal.defs (F := Ideal)) _ _).mono (fun r h => ⟨fun c => (h c).2,
    sem_eq_zero_of_no_sems (by decide) r.2⟩) (Cert.StateReferenceIdeal.Value.run m g)

/-- The narrow projection and its plain form both end with the array of entries. -/
theorem state_algebraic : Cert.algebraic_StateProjectionIdeal_StateReferenceIdeal := fun m g m' g' _ hag => by
  refine ⟨fun c => Projection.State.resultArr m c, ?_, ?_⟩
  · refine (θ_run (Cert.StateProjectionIdeal.defs (F := Ideal)) _ _).mono (fun _ h c => ?_) (Cert.StateProjectionIdeal.Value.run_blocks m g)
    exact ⟨(h c).1.trans (Projection.State.final m c), (h c).2⟩
  · refine (θ_run (Cert.StateReferenceIdeal.defs (F := Ideal)) _ _).mono (fun _ h c => ?_) (Cert.StateReferenceIdeal.Value.run m' g')
    refine ⟨(h c).1.trans ?_, (h c).2⟩
    obtain ⟨e0, e1, e2, e3⟩ := hag c
    rw [e0, e1, e2, e3]
    exact Projection.StateReading.whole_eq _ _ _ _

/-! ## The experts -/

/-- Tables in the precondition's range are admitted by the program as compiled. -/
theorem compiled_admits (m : (ℓ : Loc Cert.Experts.nD Cert.Experts.τ Cert.Experts.sig) → Buf (Elt Bits) ℓ) (h : Cert.Pre_Experts m) :
    Experts.Compiled.Ok m :=
  Experts.Compiled.ok_of m (Experts.Tables.in_range _ _ _ _ _ _ _ (h 0))

/-- Under the precondition every entry of the table is below 32. -/
theorem table_in_range (m : (ℓ : Loc Cert.ExpertsIdeal.nD Cert.ExpertsIdeal.τ Cert.ExpertsIdeal.sig) → Buf (Elt Ideal) ℓ)
    (h : Cert.Pre_ExpertsIdeal m) (c : Dev Cert.ExpertsIdeal.nD) (j : Cert.ExpertsIdeal.S288.Idx) :
    ((m ((c.tc : Thread Cert.ExpertsIdeal.nD Cert.ExpertsIdeal.τ).loc Cert.ExpertsIdeal.main_arg0) : IVec Cert.ExpertsIdeal.S288 32) j).toNat < 32 :=
  Experts.Tables.in_range _ _ _ _ _ _ _ (h c) j

/-- Tables in the precondition's range are admitted by the ideal reading. -/
theorem admits (m : (ℓ : Loc Cert.ExpertsIdeal.nD Cert.ExpertsIdeal.τ Cert.ExpertsIdeal.sig) → Buf (Elt Ideal) ℓ)
    (h : Cert.Pre_ExpertsIdeal m) : Experts.Ok m :=
  Experts.ok_of m (table_in_range m h 0)

/-- The plain form of the experts ends with its arguments unchanged. -/
theorem experts_reference_frame : Cert.quiescent_ExpertsReferenceIdeal := fun m g _ =>
  (θ_run (Cert.ExpertsReferenceIdeal.defs (F := Ideal)) _ _).mono (fun r h => ⟨fun c => (h c).2,
    sem_eq_zero_of_no_sems (by decide) r.2⟩) (Cert.ExpertsReferenceIdeal.Value.run m g)

/-- The plain form's result on the arguments the ideal reading of the kernel is given. -/
abbrev expertsResult (m : (ℓ : Loc Cert.ExpertsIdeal.nD Cert.ExpertsIdeal.τ Cert.ExpertsIdeal.sig) → Buf (Elt Ideal) ℓ) (c : Dev Cert.ExpertsIdeal.nD) :
    FVec Ideal Cert.ExpertsReferenceIdeal.S147456x512 .bf16 :=
  Experts.Reference.plain (m ((c.tc : Thread Cert.ExpertsIdeal.nD Cert.ExpertsIdeal.τ).loc Cert.ExpertsIdeal.main_arg0))
    (m ((c.tc : Thread Cert.ExpertsIdeal.nD Cert.ExpertsIdeal.τ).loc Cert.ExpertsIdeal.main_arg1))
    (m ((c.tc : Thread Cert.ExpertsIdeal.nD Cert.ExpertsIdeal.τ).loc Cert.ExpertsIdeal.main_arg2))
    (m ((c.tc : Thread Cert.ExpertsIdeal.nD Cert.ExpertsIdeal.τ).loc Cert.ExpertsIdeal.main_arg3))
    (m ((c.tc : Thread Cert.ExpertsIdeal.nD Cert.ExpertsIdeal.τ).loc Cert.ExpertsIdeal.main_arg4))
    (m ((c.tc : Thread Cert.ExpertsIdeal.nD Cert.ExpertsIdeal.τ).loc Cert.ExpertsIdeal.main_arg5))
    (m ((c.tc : Thread Cert.ExpertsIdeal.nD Cert.ExpertsIdeal.τ).loc Cert.ExpertsIdeal.main_arg6))

/-- The launch leaves the plain form's result. -/
theorem experts_final (m : (ℓ : Loc Cert.ExpertsIdeal.nD Cert.ExpertsIdeal.τ Cert.ExpertsIdeal.sig) → Buf (Elt Ideal) ℓ)
    (h : Cert.Pre_ExpertsIdeal m) (c : Dev Cert.ExpertsIdeal.nD) :
    (Experts.dats m (admits m h) 0 c).arrAt 5 (Experts.cfgM m (admits m h)).N = expertsResult m c := by
  obtain rfl : c = 0 := Subsingleton.elim _ _
  refine Experts.final m (admits m h) 0 (expertsResult m 0) fun t r j => ?_
  refine (Experts.Reference.plain_apply _ _ _ _ _ _ _ t r j (table_in_range m h 0 (ix1 t))).trans ?_
  congr 1

/-- The experts and their plain form both end with the plain form's result. -/
theorem experts_algebraic : Cert.algebraic_ExpertsIdeal_ExpertsReferenceIdeal := fun m g m' g' hpre hag => by
  refine ⟨fun c => expertsResult m c, ?_, ?_⟩
  · refine (θ_run (Cert.ExpertsIdeal.defs (F := Ideal)) _ _).mono (fun _ h c => ?_) (Experts.ended m g (admits m hpre))
    exact ⟨(h.1 c).1.trans (experts_final m hpre c), (h.1 c).2⟩
  · refine (θ_run (Cert.ExpertsReferenceIdeal.defs (F := Ideal)) _ _).mono (fun _ h c => ?_) (Cert.ExpertsReferenceIdeal.Value.run m' g')
    refine ⟨(h c).1.trans ((Experts.Reference.plain_eq m' c).trans ?_), (h c).2⟩
    obtain ⟨e0, e1, e2, e3, e4, e5, e6⟩ := hag c
    rw [e0, e1, e2, e3, e4, e5, e6]

/-- All the claims. -/
theorem claim : Cert.Claim :=
  ⟨Cert.Kernel.Gen.facts, Cert.KernelIdeal.Gen.facts, Cert.ReferenceIdeal.Gen.facts,
    Cert.Experts.Gen.facts, Cert.ExpertsIdeal.Gen.facts, Cert.ExpertsReferenceIdeal.Gen.facts,
    Cert.GateProjection.Gen.facts, Cert.GateProjectionIdeal.Gen.facts, Cert.GateReferenceIdeal.Gen.facts,
    Cert.StateProjection.Gen.facts, Cert.StateProjectionIdeal.Gen.facts, Cert.StateReferenceIdeal.Gen.facts, Wkv.Finite.facts, Cert.Pre_blocks_of_experts.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ h => Experts.Compiled.framed m ρ (compiled_admits m h),
    fun m ρ h => (θ_run (Cert.ExpertsIdeal.defs (F := Ideal)) _ _).mono (fun _ k => ⟨fun c => (k.1 c).2, k.2⟩) (Experts.ended m ρ (admits m h)),
    experts_reference_frame,
    fun m ρ _ => experts_reference_frame m ρ trivial,
    fun m ρ _ => Cert.GateProjection.Gen.frame m ρ,
    fun m ρ _ => Cert.GateProjectionIdeal.Gen.frame m ρ,
    gate_reference_frame,
    fun m ρ _ => Cert.StateProjection.Gen.frame m ρ,
    fun m ρ _ => Cert.StateProjectionIdeal.Gen.frame m ρ,
    state_reference_frame,
    trivial,
    scan_algebraic,
    ⟨IdealRules.bf16_pair.statement _ _, IdealRules.bf16_pack.statement _⟩,
    experts_algebraic,
    trivial,
    gate_algebraic,
    trivial,
    state_algebraic⟩

end Cert.Proof

end
